-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "qscale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v119_0)) (v1 : (c : Dev Cert.Kernel3Ideal.nD) → Buf (Elt Ideal) ((c.tc : Thread Cert.Kernel3Ideal.nD Cert.Kernel3Ideal.τ).loc Cert.Kernel3Ideal.main_v119_1)) (v2 : (c : Dev Cert.Kernel3Ideal.nD) → Buf (Elt Ideal) ((c.tc : Thread Cert.Kernel3Ideal.nD Cert.Kernel3Ideal.τ).loc Cert.Kernel3Ideal.main_v119_2)) (v3 : (c : Dev Cert.Kernel3Ideal.nD) → Buf (Elt Ideal) ((c.tc : Thread Cert.Kernel3Ideal.nD Cert.Kernel3Ideal.τ).loc Cert.Kernel3Ideal.main_v119_3)) (v4 : (c : Dev Cert.Kernel3Ideal.nD) → Buf (Elt Ideal) ((c.tc : Thread Cert.Kernel3Ideal.nD Cert.Kernel3Ideal.τ).loc Cert.Kernel3Ideal.main_v119_4)) (v5 : (c : Dev Cert.Kernel3Ideal.nD) → Buf (Elt Ideal) ((c.tc : Thread Cert.Kernel3Ideal.nD Cert.Kernel3Ideal.τ).loc Cert.Kernel3Ideal.main_v119_5)) (v6 : (c : Dev Cert.Kernel3Ideal.nD) → Buf (Elt Ideal) ((c.tc : Thread Cert.Kernel3Ideal.nD Cert.Kernel3Ideal.τ).loc Cert.Kernel3Ideal.main_v119_6)) (v7 : (c : Dev Cert.Kernel3Ideal.nD) → Buf (Elt Ideal) ((c.tc : Thread Cert.Kernel3Ideal.nD Cert.Kernel3Ideal.τ).loc Cert.Kernel3Ideal.main_v119_7)) (v8 : (c : Dev Cert.Kernel3Ideal.nD) → Buf (Elt Ideal) ((c.tc : Thread Cert.Kernel3Ideal.nD Cert.Kernel3Ideal.τ).loc Cert.Kernel3Ideal.main_v119_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v119_0) = v0 c
          ∧ r.2.mem ((c.tc : Thread Cert.Kernel3Ideal.nD Cert.Kernel3Ideal.τ).loc Cert.Kernel3Ideal.main_v119_1) = v1 c
          ∧ r.2.mem ((c.tc : Thread Cert.Kernel3Ideal.nD Cert.Kernel3Ideal.τ).loc Cert.Kernel3Ideal.main_v119_2) = v2 c
          ∧ r.2.mem ((c.tc : Thread Cert.Kernel3Ideal.nD Cert.Kernel3Ideal.τ).loc Cert.Kernel3Ideal.main_v119_3) = v3 c
          ∧ r.2.mem ((c.tc : Thread Cert.Kernel3Ideal.nD Cert.Kernel3Ideal.τ).loc Cert.Kernel3Ideal.main_v119_4) = v4 c
          ∧ r.2.mem ((c.tc : Thread Cert.Kernel3Ideal.nD Cert.Kernel3Ideal.τ).loc Cert.Kernel3Ideal.main_v119_5) = v5 c
          ∧ r.2.mem ((c.tc : Thread Cert.Kernel3Ideal.nD Cert.Kernel3Ideal.τ).loc Cert.Kernel3Ideal.main_v119_6) = v6 c
          ∧ r.2.mem ((c.tc : Thread Cert.Kernel3Ideal.nD Cert.Kernel3Ideal.τ).loc Cert.Kernel3Ideal.main_v119_7) = v7 c
          ∧ r.2.mem ((c.tc : Thread Cert.Kernel3Ideal.nD Cert.Kernel3Ideal.τ).loc Cert.Kernel3Ideal.main_v119_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v94) = v2 c
          ∧ r.2.mem ((c.tc : Thread Cert.Reference3Ideal.nD Cert.Reference3Ideal.τ).loc Cert.Reference3Ideal.main_v5) = v3 c
          ∧ r.2.mem ((c.tc : Thread Cert.Reference3Ideal.nD Cert.Reference3Ideal.τ).loc Cert.Reference3Ideal.main_v190) = v4 c
          ∧ r.2.mem ((c.tc : Thread Cert.Reference3Ideal.nD Cert.Reference3Ideal.τ).loc Cert.Reference3Ideal.main_v284) = v5 c
          ∧ r.2.mem ((c.tc : Thread Cert.Reference3Ideal.nD Cert.Reference3Ideal.τ).loc Cert.Reference3Ideal.main_v290) = v6 c
          ∧ r.2.mem ((c.tc : Thread Cert.Reference3Ideal.nD Cert.Reference3Ideal.τ).loc Cert.Reference3Ideal.main_v9) = v7 c
          ∧ r.2.mem ((c.tc : Thread Cert.Reference3Ideal.nD Cert.Reference3Ideal.τ).loc Cert.Reference3Ideal.main_v10) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x8192x8x64 : Shape := ⟨4, ![8, 8192, 8, 64]⟩
abbrev S8x8192x2x64 : Shape := ⟨4, ![8, 8192, 2, 64]⟩
abbrev S16x2x64 : Shape := ⟨3, ![16, 2, 64]⟩
abbrev S8x8192x512 : Shape := ⟨3, ![8, 8192, 512]⟩
abbrev S_ : Shape := ⟨0, ![]⟩

class Facts : Prop where
  bcast_S_S8x8192x8x64 : S_.BroadcastsInDim S8x8192x8x64 (![] : Fin 0 → Fin S8x8192x8x64.rank)
  bcast_S_S8x8192x2x64 : S_.BroadcastsInDim S8x8192x2x64 (![] : Fin 0 → Fin S8x8192x2x64.rank)
  bcast_S_S16x2x64 : S_.BroadcastsInDim S16x2x64 (![] : Fin 0 → Fin S16x2x64.rank)

variable [Facts]

def fn {F : FTy → Type} [FloatOps F] (main_arg0 : FVec F S8x8192x8x64 .f32) (main_arg1 : FVec F S8x8192x2x64 .f32) (main_arg2 : FVec F S8x8192x2x64 .f32) (main_arg3 : FVec F S16x2x64 .f32) (main_arg4 : FVec F S16x2x64 .f32) (main_arg5 : FVec F S8x8192x512 .f32) : IVec S8x8192x8x64 1 × IVec S8x8192x2x64 1 × IVec S16x2x64 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_v3 : FVec F S8x8192x2x64 .f32 := Host.absf main_arg1
  let main_cst_0 : FVec F S_ .f32 := constant S_ .f32 0x7F800000#32
  let main_v4 : FVec F S8x8192x2x64 .f32 := broadcastInDim S8x8192x2x64 ![] bcast_S_S8x8192x2x64 main_cst_0
  let main_v5 : IVec S8x8192x2x64 1 := cmpf .olt main_v3 main_v4
  let main_v6 : FVec F S16x2x64 .f32 := Host.absf main_arg3
  let main_cst_1 : FVec F S_ .f32 := constant S_ .f32 0x7F800000#32
  let main_v7 : FVec F S16x2x64 .f32 := broadcastInDim S16x2x64 ![] bcast_S_S16x2x64 main_cst_1
  let main_v8 : IVec S16x2x64 1 := cmpf .olt main_v6 main_v7
  (main_v2, main_v5, main_v8)
-- ==== Kernel.lean ====
abbrev S8x8192x8x64 : Shape := ⟨4, ![8, 8192, 8, 64]⟩
abbrev S8x8192x2x64 : Shape := ⟨4, ![8, 8192, 2, 64]⟩
abbrev S16x2x64 : Shape := ⟨3, ![16, 2, 64]⟩
abbrev S8x8192x512 : Shape := ⟨3, ![8, 8192, 512]⟩
abbrev S_ : Shape := ⟨0, ![]⟩
abbrev S8x8x64x8192 : Shape := ⟨4, ![8, 8, 64, 8192]⟩
abbrev S8x2x8192x64 : Shape := ⟨4, ![8, 2, 8192, 64]⟩
abbrev S2x16x64 : Shape := ⟨3, ![2, 16, 64]⟩
abbrev S1x2x16x64 : Shape := ⟨4, ![1, 2, 16, 64]⟩
abbrev S8x2x64x8192 : Shape := ⟨4, ![8, 2, 64, 8192]⟩
abbrev S8x2x1x8192 : Shape := ⟨4, ![8, 2, 1, 8192]⟩
abbrev S8x2x15x8192 : Shape := ⟨4, ![8, 2, 15, 8192]⟩
abbrev S8x2x80x8192 : Shape := ⟨4, ![8, 2, 80, 8192]⟩
abbrev S1x16x2x64 : Shape := ⟨4, ![1, 16, 2, 64]⟩
abbrev S1x2x64x16 : Shape := ⟨4, ![1, 2, 64, 16]⟩
abbrev S1x2x1x16 : Shape := ⟨4, ![1, 2, 1, 16]⟩
abbrev S1x2x15x16 : Shape := ⟨4, ![1, 2, 15, 16]⟩
abbrev S1x2x80x16 : Shape := ⟨4, ![1, 2, 80, 16]⟩
abbrev S1x4x64x128 : Shape := ⟨4, ![1, 4, 64, 128]⟩
abbrev S1x1x8192x64 : Shape := ⟨4, ![1, 1, 8192, 64]⟩
abbrev S1x1x80x8192 : Shape := ⟨4, ![1, 1, 80, 8192]⟩
abbrev S1x1x16x64 : Shape := ⟨4, ![1, 1, 16, 64]⟩
abbrev S1x1x80x16 : Shape := ⟨4, ![1, 1, 80, 16]⟩
abbrev S1x128x256 : Shape := ⟨3, ![1, 128, 256]⟩
abbrev S8192x512 : Shape := ⟨2, ![8192, 512]⟩
abbrev S8x512 : Shape := ⟨2, ![8, 512]⟩
abbrev S16x512 : Shape := ⟨2, ![16, 512]⟩
abbrev S1x1x64x128 : Shape := ⟨4, ![1, 1, 64, 128]⟩
abbrev S64x128 : Shape := ⟨2, ![64, 128]⟩
abbrev S64x512 : Shape := ⟨2, ![64, 512]⟩
abbrev S1x1x256x64 : Shape := ⟨4, ![1, 1, 256, 64]⟩
abbrev S256x64 : Shape := ⟨2, ![256, 64]⟩
abbrev S256x512 : Shape := ⟨2, ![256, 512]⟩
abbrev S32x8x512 : Shape := ⟨3, ![32, 8, 512]⟩
abbrev S16x64 : Shape := ⟨2, ![16, 64]⟩
abbrev S512 : Shape := ⟨1, ![512]⟩
abbrev S1x512 : Shape := ⟨2, ![1, 512]⟩
abbrev S80x512 : Shape := ⟨2, ![80, 512]⟩
abbrev S80x16 : Shape := ⟨2, ![80, 16]⟩
abbrev S1x1x80x256 : Shape := ⟨4, ![1, 1, 80, 256]⟩
abbrev S80x256 : Shape := ⟨2, ![80, 256]⟩
abbrev S256x128 : Shape := ⟨2, ![256, 128]⟩
abbrev S128x256 : Shape := ⟨2, ![128, 256]⟩

abbrev nBuf : Space → Nat
  | .hbm => 35
  | .vmem => 20
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S16x2x64, .f32⟩
  | .hbm, ⟨4, _⟩ => ⟨S16x2x64, .f32⟩
  | .hbm, ⟨5, _⟩ => ⟨S8x8192x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8192x8x64, .f32⟩
  | .hbm, ⟨11, _⟩ => ⟨S8x8192x8x64, .f32⟩
  | .hbm, ⟨12, _⟩ => ⟨S8x8192x8x64, .bf16⟩
  | .hbm, ⟨13, _⟩ => ⟨S8x8x64x8192, .bf16⟩
  | .hbm, ⟨14, _⟩ => ⟨S8x8192x2x64, .bf16⟩
  | .hbm, ⟨15, _⟩ => ⟨S8x2x8192x64, .bf16⟩
  | .hbm, ⟨16, _⟩ => ⟨S16x2x64, .bf16⟩
  | .hbm, ⟨17, _⟩ => ⟨S2x16x64, .bf16⟩
  | .hbm, ⟨18, _⟩ => ⟨S1x2x16x64, .bf16⟩
  | .hbm, ⟨19, _⟩ => ⟨S8x2x64x8192, .f32⟩
  | .hbm, ⟨20, _⟩ => ⟨S_, .f32⟩
  | .hbm, ⟨21, _⟩ => ⟨S8x2x1x8192, .f32⟩
  | .hbm, ⟨22, _⟩ => ⟨S_, .f32⟩
  | .hbm, ⟨23, _⟩ => ⟨S8x2x15x8192, .f32⟩
  | .hbm, ⟨24, _⟩ => ⟨S8x2x80x8192, .f32⟩
  | .hbm, ⟨25, _⟩ => ⟨S8x2x80x8192, .bf16⟩
  | .hbm, ⟨26, _⟩ => ⟨S1x16x2x64, .f32⟩
  | .hbm, ⟨27, _⟩ => ⟨S1x2x64x16, .f32⟩
  | .hbm, ⟨28, _⟩ => ⟨S_, .f32⟩
  | .hbm, ⟨29, _⟩ => ⟨S1x2x1x16, .f32⟩
  | .hbm, ⟨30, _⟩ => ⟨S_, .f32⟩
  | .hbm, ⟨31, _⟩ => ⟨S1x2x15x16, .f32⟩
  | .hbm, ⟨32, _⟩ => ⟨S1x2x80x16, .f32⟩
  | .hbm, ⟨33, _⟩ => ⟨S1x2x80x16, .bf16⟩
  | .hbm, ⟨34, _⟩ => ⟨S8x8192x512, .bf16⟩
  | .local _ .vmem, ⟨0, _⟩ => ⟨S1x4x64x128, .bf16⟩
  | .local _ .vmem, ⟨1, _⟩ => ⟨S1x4x64x128, .bf16⟩
  | .local _ .vmem, ⟨2, _⟩ => ⟨S1x4x64x128, .bf16⟩
  | .local _ .vmem, ⟨3, _⟩ => ⟨S1x4x64x128, .bf16⟩
  | .local _ .vmem, ⟨4, _⟩ => ⟨S1x1x8192x64, .bf16⟩
  | .local _ .vmem, ⟨5, _⟩ => ⟨S1x1x8192x64, .bf16⟩
  | .local _ .vmem, ⟨6, _⟩ => ⟨S1x1x80x8192, .bf16⟩
  | .local _ .vmem, ⟨7, _⟩ => ⟨S1x1x80x8192, .bf16⟩
  | .local _ .vmem, ⟨8, _⟩ => ⟨S1x1x16x64, .bf16⟩
  | .local _ .vmem, ⟨9, _⟩ => ⟨S1x1x16x64, .bf16⟩
  | .local _ .vmem, ⟨10, _⟩ => ⟨S1x1x80x16, .bf16⟩
  | .local _ .vmem, ⟨11, _⟩ => ⟨S1x1x80x16, .bf16⟩
  | .local _ .vmem, ⟨12, _⟩ => ⟨S1x128x256, .f32⟩
  | .local _ .vmem, ⟨13, _⟩ => ⟨S1x128x256, .f32⟩
  | .local _ .vmem, ⟨14, _⟩ => ⟨S1x128x256, .bf16⟩
  | .local _ .vmem, ⟨15, _⟩ => ⟨S1x128x256, .bf16⟩
  | .local _ .vmem, ⟨16, _⟩ => ⟨S8192x512, .f32⟩
  | .local _ .vmem, ⟨17, _⟩ => ⟨S8192x512, .f32⟩
  | .local _ .vmem, ⟨18, _⟩ => ⟨S8x512, .f32⟩
  | .local _ .vmem, ⟨19, _⟩ => ⟨S16x512, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 64], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c63_i32 : BitVec 32 := 63#32
  let v1 : BitVec 32 := Scalar.minsi v0 c63_i32
  let c0_i32 : BitVec 32 := 0#32
  let c0_i32_0 : BitVec 32 := 0#32
  ![arg0.toNat, arg1.toNat, c0_i32.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x80x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x16x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x80x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x8192x8x64 : Shape := ⟨4, ![8, 8192, 8, 64]⟩
abbrev S8x8192x2x64 : Shape := ⟨4, ![8, 8192, 2, 64]⟩
abbrev S16x2x64 : Shape := ⟨3, ![16, 2, 64]⟩
abbrev S8x8192x512 : Shape := ⟨3, ![8, 8192, 512]⟩
abbrev S1x16x2x64 : Shape := ⟨4, ![1, 16, 2, 64]⟩
abbrev S8x16x2x64 : Shape := ⟨4, ![8, 16, 2, 64]⟩
abbrev S8x8208x2x64 : Shape := ⟨4, ![8, 8208, 2, 64]⟩
abbrev S8x8192x2x4x64 : Shape := ⟨5, ![8, 8192, 2, 4, 64]⟩
abbrev S8x2x8208x8192x4 : Shape := ⟨5, ![8, 2, 8208, 8192, 4]⟩
abbrev S8x2x4x8192x8208 : Shape := ⟨5, ![8, 2, 4, 8192, 8208]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S16x2x64, .f32⟩
  | .hbm, ⟨4, _⟩ => ⟨S16x2x64, .f32⟩
  | .hbm, ⟨5, _⟩ => ⟨S8x8192x512, .f32⟩
  | .hbm, ⟨6, _⟩ => ⟨S1x16x2x64, .f32⟩
  | .hbm, ⟨7, _⟩ => ⟨S8x16x2x64, .f32⟩
  | .hbm, ⟨8, _⟩ => ⟨S8x8208x2x64, .f32⟩
  | .hbm, ⟨9, _⟩ => ⟨S1x16x2x64, .f32⟩
  | .hbm, ⟨10, _⟩ => ⟨S8x16x2x64, .f32⟩
  | .hbm, ⟨11, _⟩ => ⟨S8x8208x2x64, .f32⟩
  | .hbm, ⟨12, _⟩ => ⟨S8x8192x2x4x64, .f32⟩
  | .hbm, ⟨13, _⟩ => ⟨S8x2x8208x8192x4, .f32⟩
  | .hbm, ⟨14, _⟩ => ⟨S8x2x4x8192x8208, .f32⟩
  | .hbm, ⟨15, _⟩ => ⟨S_, .f32⟩
  | .hbm, ⟨16, _⟩ => ⟨S8x2x4x8192x8208, .f32⟩
  | .hbm, ⟨17, _⟩ => ⟨S8x2x4x8192x8208, .f32⟩
  | .hbm, ⟨18, _⟩ => ⟨S_, .f32⟩
  | .hbm, ⟨19, _⟩ => ⟨S8x2x4x8192, .f32⟩
  | .hbm, ⟨20, _⟩ => ⟨S_, .f32⟩
  | .hbm, ⟨21, _⟩ => ⟨S8x2x4x8192, .f32⟩
  | .hbm, ⟨22, _⟩ => ⟨S8x2x4x8192, .f32⟩
  | .hbm, ⟨23, _⟩ => ⟨S8x2x4x8192x1, .f32⟩
  | .hbm, ⟨24, _⟩ => ⟨S8x2x4x8192x8208, .f32⟩
  | .hbm, ⟨25, _⟩ => ⟨S8x2x4x8192x8208, .f32⟩
  | .hbm, ⟨26, _⟩ => ⟨S8x2x4x8192x8208, .f32⟩
  | .hbm, ⟨27, _⟩ => ⟨S_, .f32⟩
  | .hbm, ⟨28, _⟩ => ⟨S8x2x4x8192, .f32⟩
  | .hbm, ⟨29, _⟩ => ⟨S8x2x4x8192x1, .f32⟩
  | .hbm, ⟨30, _⟩ => ⟨S8x2x4x8192x8208, .f32⟩
  | .hbm, ⟨31, _⟩ => ⟨S8x2x4x8192x8208, .f32⟩
  | .hbm, ⟨32, _⟩ => ⟨S8x2x64x4x8192, .f32⟩
  | .hbm, ⟨33, _⟩ => ⟨S8x8192x2x4x64, .f32⟩
  | .hbm, ⟨34, _⟩ => ⟨S8x8192x512, .f32⟩
  | .hbm, ⟨35, _⟩ => ⟨S8x8192x512, .f32⟩
  | .hbm, ⟨36, _⟩ => ⟨S8x8192x512, .f32⟩
  | .hbm, ⟨37, _⟩ => ⟨S_, .f32⟩
  | .hbm, ⟨38, _⟩ => ⟨S8x8192x512, .f32⟩
  | .hbm, ⟨39, _⟩ => ⟨S8x8192x512, .f32⟩
  | .hbm, ⟨40, _⟩ => ⟨S_, .f32⟩
  | .hbm, ⟨41, _⟩ => ⟨S8x8192x512, .f32⟩
  | .hbm, ⟨42, _⟩ => ⟨S8x8192x512, .f32⟩
  | .hbm, ⟨43, _⟩ => ⟨S8x8192x512, .f32⟩
  | .hbm, ⟨44, _⟩ => ⟨S8x8192x512, .f32⟩
  | .hbm, ⟨45, _⟩ => ⟨S8x8192x512, .bf16⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel2.lean ====
abbrev S8x8192x512 : Shape := ⟨3, ![8, 8192, 512]⟩
abbrev S8x8192x2048 : Shape := ⟨3, ![8, 8192, 2048]⟩
abbrev S8x8192x1024 : Shape := ⟨3, ![8, 8192, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1024 : Shape := ⟨1, ![1024]⟩
abbrev S2x1024 : Shape := ⟨2, ![2, 1024]⟩
abbrev S512x1024 : Shape := ⟨2, ![512, 1024]⟩
abbrev S1024x1024 : Shape := ⟨2, ![1024, 1024]⟩
abbrev S1x512x512 : Shape := ⟨3, ![1, 512, 512]⟩
abbrev S1x512x2048 : Shape := ⟨3, ![1, 512, 2048]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S8x8192x2048, .f32⟩
  | .hbm, ⟨3, _⟩ => ⟨S8x8192x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S2x1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S1024x1024, .bf16⟩
  | .hbm, ⟨20, _⟩ => ⟨S8x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x2048, .f32⟩
  | .local _ .vmem, ⟨5, _⟩ => ⟨S1x512x2048, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S2x1024, .f32⟩
  | .local _ .vmem, ⟨12, _⟩ => ⟨S1x512x1024, .f32⟩
  | .local _ .vmem, ⟨13, _⟩ => ⟨S1x512x1024, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x8192x512 : Shape := ⟨3, ![8, 8192, 512]⟩
abbrev S8x8192x2048 : Shape := ⟨3, ![8, 8192, 2048]⟩
abbrev S8x8192x1024 : Shape := ⟨3, ![8, 8192, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S_ : Shape := ⟨0, ![]⟩
abbrev S1024x1024 : Shape := ⟨2, ![1024, 1024]⟩
abbrev S8x8192 : Shape := ⟨2, ![8, 8192]⟩
abbrev S8x8192x1 : Shape := ⟨3, ![8, 8192, 1]⟩
abbrev S1024 : Shape := ⟨1, ![1024]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S8x8192x2048, .f32⟩
  | .hbm, ⟨3, _⟩ => ⟨S8x8192x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S8x8192x1024, .f32⟩
  | .hbm, ⟨10, _⟩ => ⟨S8x8192x1024, .f32⟩
  | .hbm, ⟨11, _⟩ => ⟨S8x8192x512, .f32⟩
  | .hbm, ⟨12, _⟩ => ⟨S512x1024, .f32⟩
  | .hbm, ⟨13, _⟩ => ⟨S8x8192x1024, .f32⟩
  | .hbm, ⟨14, _⟩ => ⟨S8x8192x512, .f32⟩
  | .hbm, ⟨15, _⟩ => ⟨S512x1024, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | .hbm, ⟨19, _⟩ => ⟨S_, .f32⟩
  | .hbm, ⟨20, _⟩ => ⟨S8x8192x1024, .f32⟩
  | .hbm, ⟨21, _⟩ => ⟨S8x8192x1024, .f32⟩
  | .hbm, ⟨22, _⟩ => ⟨S_, .f32⟩
  | .hbm, ⟨23, _⟩ => ⟨S8x8192x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S_, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S_, .f32⟩
  | .hbm, ⟨37, _⟩ => ⟨S8x8192x1024, .f32⟩
  | .hbm, ⟨38, _⟩ => ⟨S8x8192x1024, .f32⟩
  | .hbm, ⟨39, _⟩ => ⟨S1024x1024, .f32⟩
  | .hbm, ⟨40, _⟩ => ⟨S8x8192x1024, .f32⟩
  | .hbm, ⟨41, _⟩ => ⟨S8x8192x1024, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S_, .f32⟩
  | .hbm, ⟨46, _⟩ => ⟨S8x8192x1, .f32⟩
  | .hbm, ⟨47, _⟩ => ⟨S8x8192x1, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S_, .f32⟩
  | .hbm, ⟨55, _⟩ => ⟨S8x8192x1, .f32⟩
  | .hbm, ⟨56, _⟩ => ⟨S8x8192x1, .f32⟩
  | .hbm, ⟨57, _⟩ => ⟨S8x8192x1024, .f32⟩
  | .hbm, ⟨58, _⟩ => ⟨S8x8192x1024, .f32⟩
  | .hbm, ⟨59, _⟩ => ⟨S_, .f32⟩
  | .hbm, ⟨60, _⟩ => ⟨S8x8192x1, .f32⟩
  | .hbm, ⟨61, _⟩ => ⟨S8x8192x1, .f32⟩
  | .hbm, ⟨62, _⟩ => ⟨S8x8192x1, .f32⟩
  | .hbm, ⟨63, _⟩ => ⟨S8x8192x1024, .f32⟩
  | .hbm, ⟨64, _⟩ => ⟨S8x8192x1024, .f32⟩
  | .hbm, ⟨65, _⟩ => ⟨S1024, .f32⟩
  | .hbm, ⟨66, _⟩ => ⟨S1x1x1024, .f32⟩
  | .hbm, ⟨67, _⟩ => ⟨S8x8192x1024, .f32⟩
  | .hbm, ⟨68, _⟩ => ⟨S8x8192x1024, .f32⟩
  | .hbm, ⟨69, _⟩ => ⟨S1024, .f32⟩
  | .hbm, ⟨70, _⟩ => ⟨S1x1x1024, .f32⟩
  | .hbm, ⟨71, _⟩ => ⟨S8x8192x1024, .f32⟩
  | .hbm, ⟨72, _⟩ => ⟨S8x8192x1024, .f32⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel3.lean ====
abbrev S8x8192x1024 : Shape := ⟨3, ![8, 8192, 1024]⟩
abbrev S1x1024x4608 : Shape := ⟨3, ![1, 1024, 4608]⟩
abbrev S1x64 : Shape := ⟨2, ![1, 64]⟩
abbrev S128 : Shape := ⟨1, ![128]⟩
abbrev S1024x4608 : Shape := ⟨2, ![1024, 4608]⟩
abbrev S1024x512 : Shape := ⟨2, ![1024, 512]⟩
abbrev S1024x128 : Shape := ⟨2, ![1024, 128]⟩
abbrev S1024x1280 : Shape := ⟨2, ![1024, 1280]⟩
abbrev S1280x1024 : Shape := ⟨2, ![1280, 1024]⟩
abbrev S1024x2048 : Shape := ⟨2, ![1024, 2048]⟩
abbrev S1024x3328 : Shape := ⟨2, ![1024, 3328]⟩
abbrev S64 : Shape := ⟨1, ![64]⟩
abbrev S2x64 : Shape := ⟨2, ![2, 64]⟩
abbrev S1x128 : Shape := ⟨2, ![1, 128]⟩
abbrev S64x1 : Shape := ⟨2, ![64, 1]⟩
abbrev S64x128 : Shape := ⟨2, ![64, 128]⟩
abbrev S8192 : Shape := ⟨1, ![8192]⟩
abbrev S_ : Shape := ⟨0, ![]⟩
abbrev S128x64 : Shape := ⟨2, ![128, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S16 : Shape := ⟨1, ![16]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x768 : Shape := ⟨2, ![8192, 768]⟩
abbrev S128x8192 : Shape := ⟨2, ![128, 8192]⟩
abbrev S8x8x64x8192 : Shape := ⟨4, ![8, 8, 64, 8192]⟩
abbrev S8x2x8192x64 : Shape := ⟨4, ![8, 2, 8192, 64]⟩
abbrev S8x2x80x8192 : Shape := ⟨4, ![8, 2, 80, 8192]⟩
abbrev S8x8192x512 : Shape := ⟨3, ![8, 8192, 512]⟩
abbrev S8x8192x2048 : Shape := ⟨3, ![8, 8192, 2048]⟩
abbrev S1x512x1024 : Shape := ⟨3, ![1, 512, 1024]⟩
abbrev S512x768 : Shape := ⟨2, ![512, 768]⟩
abbrev S128x512 : Shape := ⟨2, ![128, 512]⟩
abbrev S1x8x64x512 : Shape := ⟨4, ![1, 8, 64, 512]⟩
abbrev S1x2x512x64 : Shape := ⟨4, ![1, 2, 512, 64]⟩
abbrev S1x2x80x512 : Shape := ⟨4, ![1, 2, 80, 512]⟩
abbrev S1x512x512 : Shape := ⟨3, ![1, 512, 512]⟩
abbrev S1x512x2048 : Shape := ⟨3, ![1, 512, 2048]⟩
abbrev S512x1024 : Shape := ⟨2, ![512, 1024]⟩
abbrev S1280x512 : Shape := ⟨2, ![1280, 512]⟩
abbrev S16x512 : Shape := ⟨2, ![16, 512]⟩
abbrev S32x512 : Shape := ⟨2, ![32, 512]⟩
abbrev S64x512 : Shape := ⟨2, ![64, 512]⟩
abbrev S1x1x32x512 : Shape := ⟨4, ![1, 1, 32, 512]⟩
abbrev S1x1x64x512 : Shape := ⟨4, ![1, 1, 64, 512]⟩
abbrev S1x1x16x512 : Shape := ⟨4, ![1, 1, 16, 512]⟩
abbrev S512 : Shape := ⟨1, ![512]⟩
abbrev S1x512 : Shape := ⟨2, ![1, 512]⟩
abbrev S1024x256 : Shape := ⟨2, ![1024, 256]⟩
abbrev S512x256 : Shape := ⟨2, ![512, 256]⟩
abbrev S512x128 : Shape := ⟨2, ![512, 128]⟩
abbrev S512x64 : Shape := ⟨2, ![512, 64]⟩
abbrev S1x1x512x64 : Shape := ⟨4, ![1, 1, 512, 64]⟩
abbrev S512x1 : Shape := ⟨2, ![512, 1]⟩
abbrev S512x512 : Shape := ⟨2, ![512, 512]⟩

abbrev nBuf : Space → Nat
  | .hbm => 152
  | .vmem => 28
  | .smem => 0
  | _ => 0

abbrev hbmTy0_0 (i : Nat) : BufTy := match i % 128 with
  | 0 => ⟨S8x8192x1024, .f32⟩
  | 1 => ⟨S1x1024x4608, .f32⟩
  | 2 => ⟨S1x64, .f32⟩
  | 3 => ⟨S1x64, .f32⟩
  | 4 => ⟨S128, .i1⟩
  | 5 => ⟨S128, .i1⟩
  | 6 => ⟨S1024x4608, .f32⟩
  | 7 => ⟨S1024x512, .f32⟩
  | 8 => ⟨S1024x128, .f32⟩
  | 9 => ⟨S1024x512, .f32⟩
  | 10 => ⟨S1024x128, .f32⟩
  | 11 => ⟨S1024x1280, .f32⟩
  | 12 => ⟨S1280x1024, .f32⟩
  | 13 => ⟨S1024x128, .f32⟩
  | 14 => ⟨S1024x128, .f32⟩
  | 15 => ⟨S1024x512, .f32⟩
  | 16 => ⟨S1024x512, .f32⟩
  | 17 => ⟨S1024x2048, .f32⟩
  | 18 => ⟨S1024x3328, .f32⟩
  | 19 => ⟨S1280x1024, .bf16⟩
  | 20 => ⟨S1024x3328, .bf16⟩
  | 21 => ⟨S64, .f32⟩
  | 22 => ⟨S1x64, .f32⟩
  | 23 => ⟨S2x64, .f32⟩
  | 24 => ⟨S128, .f32⟩
  | 25 => ⟨S1x128, .f32⟩
  | 26 => ⟨S64, .f32⟩
  | 27 => ⟨S64x1, .f32⟩
  | 28 => ⟨S64x128, .f32⟩
  | 29 => ⟨S8192, .i32⟩
  | 30 => ⟨S_, .i32⟩
  | 31 => ⟨S8192, .i32⟩
  | 32 => ⟨S8192, .i32⟩
  | 33 => ⟨S128, .i32⟩
  | 34 => ⟨S128x64, .i32⟩
  | 35 => ⟨S8192, .i32⟩
  | 36 => ⟨S64, .i32⟩
  | 37 => ⟨S1x64, .i32⟩
  | 38 => ⟨S128x64, .i32⟩
  | 39 => ⟨S8192, .i32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S8192, .f32⟩
  | 55 => ⟨S8192x1, .f32⟩
  | 56 => ⟨S1x32, .f32⟩
  | 57 => ⟨S8192x32, .f32⟩
  | 58 => ⟨S8192x32, .f32⟩
  | 59 => ⟨S8192x32, .f32⟩
  | 60 => ⟨S8192x32, .f32⟩
  | 61 => ⟨S1x8192x1x32, .f32⟩
  | 62 => ⟨S1x8192x4x32, .f32⟩
  | 63 => ⟨S8192x128, .f32⟩
  | 64 => ⟨S8192x32, .f32⟩
  | 65 => ⟨S1x8192x1x32, .f32⟩
  | 66 => ⟨S1x8192x4x32, .f32⟩
  | 67 => ⟨S8192x128, .f32⟩
  | 68 => ⟨S1x128, .i1⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S8192, .f32⟩
  | 84 => ⟨S8192x1, .f32⟩
  | 85 => ⟨S1x16, .f32⟩
  | 86 => ⟨S8192x16, .f32⟩
  | 87 => ⟨S8192x16, .f32⟩
  | 88 => ⟨S8192x16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S8192, .f32⟩
  | 104 => ⟨S8192x1, .f32⟩
  | 105 => ⟨S1x16, .f32⟩
  | 106 => ⟨S8192x16, .f32⟩
  | 107 => ⟨S8192x16, .f32⟩
  | 108 => ⟨S8192x16, .f32⟩
  | 109 => ⟨S8192x16, .f32⟩
  | 110 => ⟨S8192x16, .f32⟩
  | 111 => ⟨S8192x64, .f32⟩
  | 112 => ⟨S1x8192x1x64, .f32⟩
  | 113 => ⟨S1x8192x2x64, .f32⟩
  | 114 => ⟨S8192x128, .f32⟩
  | 115 => ⟨S8192x16, .f32⟩
  | 116 => ⟨S8192x16, .f32⟩
  | 117 => ⟨S8192x64, .f32⟩
  | 118 => ⟨S1x8192x1x64, .f32⟩
  | 119 => ⟨S1x8192x2x64, .f32⟩
  | 120 => ⟨S8192x128, .f32⟩
  | 121 => ⟨S1x128, .i1⟩
  | 122 => ⟨S_, .f32⟩
  | 123 => ⟨S8192x128, .f32⟩
  | 124 => ⟨S8192x128, .f32⟩
  | 125 => ⟨S8192x128, .i1⟩
  | 126 => ⟨S8192x128, .f32⟩
  | 127 => ⟨S8192x128, .i1⟩
  | _ => ⟨S8x8192x1024, .f32⟩

abbrev hbmTy0_1 (i : Nat) : BufTy := match i % 128 with
  | 0 => ⟨S8192x128, .f32⟩
  | 1 => ⟨S8192x128, .f32⟩
  | 2 => ⟨S8192x128, .i1⟩
  | 3 => ⟨S8192x128, .f32⟩
  | 4 => ⟨S8192x128, .i1⟩
  | 5 => ⟨S8192x128, .f32⟩
  | 6 => ⟨S8192x768, .f32⟩
  | 7 => ⟨S8192x32, .f32⟩
  | 8 => ⟨S8192x32, .f32⟩
  | 9 => ⟨S8192x16, .f32⟩
  | 10 => ⟨S8192x16, .f32⟩
  | 11 => ⟨S8192x16, .f32⟩
  | 12 => ⟨S8192x16, .f32⟩
  | 13 => ⟨S8192x128, .f32⟩
  | 14 => ⟨S128x8192, .f32⟩
  | 15 => ⟨S8x8x64x8192, .bf16⟩
  | 16 => ⟨S8x2x8192x64, .bf16⟩
  | 17 => ⟨S8x2x80x8192, .bf16⟩
  | 18 => ⟨S8x8192x512, .f32⟩
  | 19 => ⟨S8x8x64x8192, .bf16⟩
  | 20 => ⟨S8x2x8192x64, .bf16⟩
  | 21 => ⟨S8x2x80x8192, .bf16⟩
  | 22 => ⟨S8x8192x512, .f32⟩
  | 23 => ⟨S8x8192x2048, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1280x1024, .bf16⟩
  | .local _ .vmem, ⟨3, _⟩ => ⟨S1024x3328, .bf16⟩
  | .local _ .vmem, ⟨4, _⟩ => ⟨S512x768, .f32⟩
  | .local _ .vmem, ⟨5, _⟩ => ⟨S512x768, .f32⟩
  | .local _ .vmem, ⟨6, _⟩ => ⟨S128x512, .f32⟩
  | .local _ .vmem, ⟨7, _⟩ => ⟨S128x512, .f32⟩
  | .local _ .vmem, ⟨8, _⟩ => ⟨S1x128, .f32⟩
  | .local _ .vmem, ⟨9, _⟩ => ⟨S64x128, .f32⟩
  | .local _ .vmem, ⟨10, _⟩ => ⟨S1x8x64x512, .bf16⟩
  | .local _ .vmem, ⟨11, _⟩ => ⟨S1x8x64x512, .bf16⟩
  | .local _ .vmem, ⟨12, _⟩ => ⟨S1x2x512x64, .bf16⟩
  | .local _ .vmem, ⟨13, _⟩ => ⟨S1x2x512x64, .bf16⟩
  | .local _ .vmem, ⟨14, _⟩ => ⟨S1x2x80x512, .bf16⟩
  | .local _ .vmem, ⟨15, _⟩ => ⟨S1x2x80x512, .bf16⟩
  | .local _ .vmem, ⟨16, _⟩ => ⟨S1x512x512, .f32⟩
  | .local _ .vmem, ⟨17, _⟩ => ⟨S1x512x512, .f32⟩
  | .local _ .vmem, ⟨18, _⟩ => ⟨S1x8x64x512, .bf16⟩
  | .local _ .vmem, ⟨19, _⟩ => ⟨S1x8x64x512, .bf16⟩
  | .local _ .vmem, ⟨20, _⟩ => ⟨S1x2x512x64, .bf16⟩
  | .local _ .vmem, ⟨21, _⟩ => ⟨S1x2x512x64, .bf16⟩
  | .local _ .vmem, ⟨22, _⟩ => ⟨S1x2x80x512, .bf16⟩
  | .local _ .vmem, ⟨23, _⟩ => ⟨S1x2x80x512, .bf16⟩
  | .local _ .vmem, ⟨24, _⟩ => ⟨S1x512x512, .f32⟩
  | .local _ .vmem, ⟨25, _⟩ => ⟨S1x512x512, .f32⟩
  | .local _ .vmem, ⟨26, _⟩ => ⟨S1x512x2048, .f32⟩
  | .local _ .vmem, ⟨27, _⟩ => ⟨S1x512x2048, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_5 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_9 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_11 : Ref sig .tc := ⟨.hbm, 97, rfl⟩
abbrev main_v80 : Ref sig .tc := ⟨.hbm, 98, rfl⟩
abbrev main_v81 : Ref sig .tc := ⟨.hbm, 99, rfl⟩
abbrev main_cst_12 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_13 : Ref sig .tc := ⟨.hbm, 122, rfl⟩
abbrev main_v103 : Ref sig .tc := ⟨.hbm, 123, rfl⟩
abbrev main_v104 : Ref sig .tc := ⟨.hbm, 124, rfl⟩
abbrev main_call0_v0 : Ref sig .tc := ⟨.hbm, 125, rfl⟩
abbrev main_v105 : Ref sig .tc := ⟨.hbm, 126, rfl⟩
abbrev main_call1_v0 : Ref sig .tc := ⟨.hbm, 127, rfl⟩
abbrev main_v106 : Ref sig .tc := ⟨.hbm, 128, rfl⟩
abbrev main_v107 : Ref sig .tc := ⟨.hbm, 129, rfl⟩
abbrev main_call2_v0 : Ref sig .tc := ⟨.hbm, 130, rfl⟩
abbrev main_v108 : Ref sig .tc := ⟨.hbm, 131, rfl⟩
abbrev main_call3_v0 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119_0 : Ref sig .tc := ⟨.hbm, 143, rfl⟩
abbrev main_v119_1 : Ref sig .tc := ⟨.hbm, 144, rfl⟩
abbrev main_v119_2 : Ref sig .tc := ⟨.hbm, 145, rfl⟩
abbrev main_v119_3 : Ref sig .tc := ⟨.hbm, 146, rfl⟩
abbrev main_v119_4 : Ref sig .tc := ⟨.hbm, 147, rfl⟩
abbrev main_v119_5 : Ref sig .tc := ⟨.hbm, 148, rfl⟩
abbrev main_v119_6 : Ref sig .tc := ⟨.hbm, 149, rfl⟩
abbrev main_v119_7 : Ref sig .tc := ⟨.hbm, 150, rfl⟩
abbrev main_v119_8 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x80x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x80x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel3Ideal.lean ====
variable {F : FTy → Type} [FloatOps F] [Named F]
def κ : String → Option EReal := fun
  | "qscale" => some (((1 / 8) * (Real.log 2)⁻¹ : ℝ) : EReal)
  | _ => none
-- ==== Reference3Ideal.lean ====
abbrev S8x8192x1024 : Shape := ⟨3, ![8, 8192, 1024]⟩
abbrev S1x1024x4608 : Shape := ⟨3, ![1, 1024, 4608]⟩
abbrev S1x64 : Shape := ⟨2, ![1, 64]⟩
abbrev S1024x4608 : Shape := ⟨2, ![1024, 4608]⟩
abbrev S8x8192x4608 : Shape := ⟨3, ![8, 8192, 4608]⟩
abbrev S8x8192x512 : Shape := ⟨3, ![8, 8192, 512]⟩
abbrev S8x8192x128 : Shape := ⟨3, ![8, 8192, 128]⟩
abbrev S8x8192x2048 : Shape := ⟨3, ![8, 8192, 2048]⟩
abbrev S8192 : Shape := ⟨1, ![8192]⟩
abbrev S_ : Shape := ⟨0, ![]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S128 : Shape := ⟨1, ![128]⟩
abbrev S128x64 : Shape := ⟨2, ![128, 64]⟩
abbrev S64 : Shape := ⟨1, ![64]⟩
abbrev S8x8192x8x64 : Shape := ⟨4, ![8, 8192, 8, 64]⟩
abbrev S8192x1x32 : Shape := ⟨3, ![8192, 1, 32]⟩
abbrev S8x8192x8x32 : Shape := ⟨4, ![8, 8192, 8, 32]⟩
abbrev S1x8192x1x32 : Shape := ⟨4, ![1, 8192, 1, 32]⟩
abbrev S8x8x64x8192 : Shape := ⟨4, ![8, 8, 64, 8192]⟩
abbrev S8x8192x2x64 : Shape := ⟨4, ![8, 8192, 2, 64]⟩
abbrev S8x8192x2x32 : Shape := ⟨4, ![8, 8192, 2, 32]⟩
abbrev S8x2x8192x64 : Shape := ⟨4, ![8, 2, 8192, 64]⟩
abbrev S8x2x64x8192 : Shape := ⟨4, ![8, 2, 64, 8192]⟩
abbrev S8x2x1x8192 : Shape := ⟨4, ![8, 2, 1, 8192]⟩
abbrev S8x2x15x8192 : Shape := ⟨4, ![8, 2, 15, 8192]⟩
abbrev S8x2x80x8192 : Shape := ⟨4, ![8, 2, 80, 8192]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S8x8192x8x16 : Shape := ⟨4, ![8, 8192, 8, 16]⟩
abbrev S1x8192x1x16 : Shape := ⟨4, ![1, 8192, 1, 16]⟩
abbrev S8x8192x2 : Shape := ⟨3, ![8, 8192, 2]⟩
abbrev S8x8192x2x1 : Shape := ⟨4, ![8, 8192, 2, 1]⟩
abbrev S8x8192x2x16 : Shape := ⟨4, ![8, 8192, 2, 16]⟩

abbrev nBuf : Space → Nat
  | .hbm => 328
  | .vmem => 0
  | .smem => 0
  | _ => 0

abbrev hbmTy0_0 (i : Nat) : BufTy := match i % 128 with
  | 0 => ⟨S8x8192x1024, .f32⟩
  | 1 => ⟨S1x1024x4608, .f32⟩
  | 2 => ⟨S1x64, .f32⟩
  | 3 => ⟨S1x64, .f32⟩
  | 4 => ⟨S1024x4608, .f32⟩
  | 5 => ⟨S8x8192x4608, .f32⟩
  | 6 => ⟨S8x8192x512, .f32⟩
  | 7 => ⟨S8x8192x128, .f32⟩
  | 8 => ⟨S8x8192x128, .f32⟩
  | 9 => ⟨S8x8192x512, .f32⟩
  | 10 => ⟨S8x8192x512, .f32⟩
  | 11 => ⟨S8x8192x128, .f32⟩
  | 12 => ⟨S8x8192x128, .f32⟩
  | 13 => ⟨S8x8192x512, .f32⟩
  | 14 => ⟨S8x8192x2048, .f32⟩
  | 15 => ⟨S8192, .i32⟩
  | 16 => ⟨S_, .i32⟩
  | 17 => ⟨S8192, .i32⟩
  | 18 => ⟨S8192, .i32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S8192, .f32⟩
  | 34 => ⟨S8192x1, .f32⟩
  | 35 => ⟨S1x32, .f32⟩
  | 36 => ⟨S8192x32, .f32⟩
  | 37 => ⟨S8192x32, .f32⟩
  | 38 => ⟨S8192x32, .f32⟩
  | 39 => ⟨S128, .i32⟩
  | 40 => ⟨S128x64, .i32⟩
  | 41 => ⟨S8192, .i32⟩
  | 42 => ⟨S64, .i32⟩
  | 43 => ⟨S1x64, .i32⟩
  | 44 => ⟨S128x64, .i32⟩
  | 45 => ⟨S8192, .i32⟩
  | 46 => ⟨S_, .f32⟩
  | 47 => ⟨S_, .f32⟩
  | 48 => ⟨S_, .f32⟩
  | 49 => ⟨S_, .f32⟩
  | 50 => ⟨S8x8192x8x64, .f32⟩
  | 51 => ⟨S8192x32, .f32⟩
  | 52 => ⟨S8192x1x32, .f32⟩
  | 53 => ⟨S8192x32, .f32⟩
  | 54 => ⟨S8192x1x32, .f32⟩
  | 55 => ⟨S8x8192x8x32, .f32⟩
  | 56 => ⟨S8x8192x8x32, .f32⟩
  | 57 => ⟨S1x8192x1x32, .f32⟩
  | 58 => ⟨S8x8192x8x32, .f32⟩
  | 59 => ⟨S8x8192x8x32, .f32⟩
  | 60 => ⟨S1x8192x1x32, .f32⟩
  | 61 => ⟨S8x8192x8x32, .f32⟩
  | 62 => ⟨S8x8192x8x32, .f32⟩
  | 63 => ⟨S8x8192x8x32, .f32⟩
  | 64 => ⟨S1x8192x1x32, .f32⟩
  | 65 => ⟨S8x8192x8x32, .f32⟩
  | 66 => ⟨S8x8192x8x32, .f32⟩
  | 67 => ⟨S1x8192x1x32, .f32⟩
  | 68 => ⟨S8x8192x8x32, .f32⟩
  | 69 => ⟨S8x8192x8x32, .f32⟩
  | 70 => ⟨S8x8192x8x32, .f32⟩
  | 71 => ⟨S8x8192x8x64, .f32⟩
  | 72 => ⟨S8x8192x8x64, .f32⟩
  | 73 => ⟨S8x8192x8x64, .f32⟩
  | 74 => ⟨S8x8192x8x64, .bf16⟩
  | 75 => ⟨S8x8x64x8192, .bf16⟩
  | 76 => ⟨S8x8192x2x64, .f32⟩
  | 77 => ⟨S8192x32, .f32⟩
  | 78 => ⟨S8192x1x32, .f32⟩
  | 79 => ⟨S8192x32, .f32⟩
  | 80 => ⟨S8192x1x32, .f32⟩
  | 81 => ⟨S8x8192x2x32, .f32⟩
  | 82 => ⟨S8x8192x2x32, .f32⟩
  | 83 => ⟨S1x8192x1x32, .f32⟩
  | 84 => ⟨S8x8192x2x32, .f32⟩
  | 85 => ⟨S8x8192x2x32, .f32⟩
  | 86 => ⟨S1x8192x1x32, .f32⟩
  | 87 => ⟨S8x8192x2x32, .f32⟩
  | 88 => ⟨S8x8192x2x32, .f32⟩
  | 89 => ⟨S8x8192x2x32, .f32⟩
  | 90 => ⟨S1x8192x1x32, .f32⟩
  | 91 => ⟨S8x8192x2x32, .f32⟩
  | 92 => ⟨S8x8192x2x32, .f32⟩
  | 93 => ⟨S1x8192x1x32, .f32⟩
  | 94 => ⟨S8x8192x2x32, .f32⟩
  | 95 => ⟨S8x8192x2x32, .f32⟩
  | 96 => ⟨S8x8192x2x32, .f32⟩
  | 97 => ⟨S8x8192x2x64, .f32⟩
  | 98 => ⟨S8x8192x2x64, .bf16⟩
  | 99 => ⟨S8x2x8192x64, .bf16⟩
  | 100 => ⟨S8x8192x2x64, .f32⟩
  | 101 => ⟨S8x2x64x8192, .f32⟩
  | 102 => ⟨S_, .f32⟩
  | 103 => ⟨S8x2x1x8192, .f32⟩
  | 104 => ⟨S_, .f32⟩
  | 105 => ⟨S8x2x15x8192, .f32⟩
  | 106 => ⟨S8x2x80x8192, .f32⟩
  | 107 => ⟨S8x2x80x8192, .bf16⟩
  | 108 => ⟨S8x8192x8x64, .f32⟩
  | 109 => ⟨S64, .f32⟩
  | 110 => ⟨S8x8192x8x64, .f32⟩
  | 111 => ⟨S_, .f32⟩
  | 112 => ⟨S8x8192x8, .f32⟩
  | 113 => ⟨S8x8192x8x1, .f32⟩
  | 114 => ⟨S_, .f32⟩
  | 115 => ⟨S8x8192x8x1, .f32⟩
  | 116 => ⟨S8x8192x8x1, .f32⟩
  | 117 => ⟨S_, .f32⟩
  | 118 => ⟨S8x8192x8x1, .f32⟩
  | 119 => ⟨S8x8192x8x1, .f32⟩
  | 120 => ⟨S8x8192x8x1, .f32⟩
  | 121 => ⟨S8x8192x8x64, .f32⟩
  | 122 => ⟨S8x8192x8x64, .f32⟩
  | 123 => ⟨S1x1x1x64, .f32⟩
  | 124 => ⟨S8x8192x8x64, .f32⟩
  | 125 => ⟨S8x8192x8x64, .f32⟩
  | 126 => ⟨S8x8192x8x32, .f32⟩
  | 127 => ⟨S16, .f32⟩
  | _ => ⟨S8x8192x1024, .f32⟩

abbrev hbmTy0_1 (i : Nat) : BufTy := match i % 128 with
  | 0 => ⟨S_, .f32⟩
  | 1 => ⟨S16, .f32⟩
  | 2 => ⟨S16, .f32⟩
  | 3 => ⟨S_, .f32⟩
  | 4 => ⟨S16, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S8192, .f32⟩
  | 14 => ⟨S8192x1, .f32⟩
  | 15 => ⟨S1x16, .f32⟩
  | 16 => ⟨S8192x16, .f32⟩
  | 17 => ⟨S8192x16, .f32⟩
  | 18 => ⟨S8192x16, .f32⟩
  | 19 => ⟨S8192x16, .f32⟩
  | 20 => ⟨S8192x1x16, .f32⟩
  | 21 => ⟨S8192x16, .f32⟩
  | 22 => ⟨S8192x1x16, .f32⟩
  | 23 => ⟨S8x8192x8x16, .f32⟩
  | 24 => ⟨S8x8192x8x16, .f32⟩
  | 25 => ⟨S1x8192x1x16, .f32⟩
  | 26 => ⟨S8x8192x8x16, .f32⟩
  | 27 => ⟨S8x8192x8x16, .f32⟩
  | 28 => ⟨S1x8192x1x16, .f32⟩
  | 29 => ⟨S8x8192x8x16, .f32⟩
  | 30 => ⟨S8x8192x8x16, .f32⟩
  | 31 => ⟨S8x8192x8x16, .f32⟩
  | 32 => ⟨S1x8192x1x16, .f32⟩
  | 33 => ⟨S8x8192x8x16, .f32⟩
  | 34 => ⟨S8x8192x8x16, .f32⟩
  | 35 => ⟨S1x8192x1x16, .f32⟩
  | 36 => ⟨S8x8192x8x16, .f32⟩
  | 37 => ⟨S8x8192x8x16, .f32⟩
  | 38 => ⟨S8x8192x8x16, .f32⟩
  | 39 => ⟨S8x8192x8x32, .f32⟩
  | 40 => ⟨S8x8192x8x32, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S8192, .f32⟩
  | 56 => ⟨S8192x1, .f32⟩
  | 57 => ⟨S1x16, .f32⟩
  | 58 => ⟨S8192x16, .f32⟩
  | 59 => ⟨S8192x16, .f32⟩
  | 60 => ⟨S8192x16, .f32⟩
  | 61 => ⟨S8192x16, .f32⟩
  | 62 => ⟨S8192x1x16, .f32⟩
  | 63 => ⟨S8192x16, .f32⟩
  | 64 => ⟨S8192x1x16, .f32⟩
  | 65 => ⟨S8x8192x8x16, .f32⟩
  | 66 => ⟨S8x8192x8x16, .f32⟩
  | 67 => ⟨S1x8192x1x16, .f32⟩
  | 68 => ⟨S8x8192x8x16, .f32⟩
  | 69 => ⟨S8x8192x8x16, .f32⟩
  | 70 => ⟨S1x8192x1x16, .f32⟩
  | 71 => ⟨S8x8192x8x16, .f32⟩
  | 72 => ⟨S8x8192x8x16, .f32⟩
  | 73 => ⟨S8x8192x8x16, .f32⟩
  | 74 => ⟨S1x8192x1x16, .f32⟩
  | 75 => ⟨S8x8192x8x16, .f32⟩
  | 76 => ⟨S8x8192x8x16, .f32⟩
  | 77 => ⟨S1x8192x1x16, .f32⟩
  | 78 => ⟨S8x8192x8x16, .f32⟩
  | 79 => ⟨S8x8192x8x16, .f32⟩
  | 80 => ⟨S8x8192x8x16, .f32⟩
  | 81 => ⟨S8x8192x8x32, .f32⟩
  | 82 => ⟨S8x8192x8x64, .f32⟩
  | 83 => ⟨S8x8192x8x64, .f32⟩
  | 84 => ⟨S8x8192x8x64, .f32⟩
  | 85 => ⟨S8x8192x8x64, .bf16⟩
  | 86 => ⟨S8x8x64x8192, .bf16⟩
  | 87 => ⟨S8x8192x2x64, .f32⟩
  | 88 => ⟨S64, .f32⟩
  | 89 => ⟨S8x8192x2x64, .f32⟩
  | 90 => ⟨S_, .f32⟩
  | 91 => ⟨S8x8192x2, .f32⟩
  | 92 => ⟨S8x8192x2x1, .f32⟩
  | 93 => ⟨S_, .f32⟩
  | 94 => ⟨S8x8192x2x1, .f32⟩
  | 95 => ⟨S8x8192x2x1, .f32⟩
  | 96 => ⟨S_, .f32⟩
  | 97 => ⟨S8x8192x2x1, .f32⟩
  | 98 => ⟨S8x8192x2x1, .f32⟩
  | 99 => ⟨S8x8192x2x1, .f32⟩
  | 100 => ⟨S8x8192x2x64, .f32⟩
  | 101 => ⟨S8x8192x2x64, .f32⟩
  | 102 => ⟨S1x1x1x64, .f32⟩
  | 103 => ⟨S8x8192x2x64, .f32⟩
  | 104 => ⟨S8x8192x2x64, .f32⟩
  | 105 => ⟨S8x8192x2x32, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S8192, .f32⟩
  | 121 => ⟨S8192x1, .f32⟩
  | 122 => ⟨S1x16, .f32⟩
  | 123 => ⟨S8192x16, .f32⟩
  | 124 => ⟨S8192x16, .f32⟩
  | 125 => ⟨S8192x16, .f32⟩
  | 126 => ⟨S8192x16, .f32⟩
  | 127 => ⟨S8192x1x16, .f32⟩
  | _ => ⟨S8x8192x1024, .f32⟩

abbrev hbmTy0_2 (i : Nat) : BufTy := match i % 128 with
  | 0 => ⟨S8192x16, .f32⟩
  | 1 => ⟨S8192x1x16, .f32⟩
  | 2 => ⟨S8x8192x2x16, .f32⟩
  | 3 => ⟨S8x8192x2x16, .f32⟩
  | 4 => ⟨S1x8192x1x16, .f32⟩
  | 5 => ⟨S8x8192x2x16, .f32⟩
  | 6 => ⟨S8x8192x2x16, .f32⟩
  | 7 => ⟨S1x8192x1x16, .f32⟩
  | 8 => ⟨S8x8192x2x16, .f32⟩
  | 9 => ⟨S8x8192x2x16, .f32⟩
  | 10 => ⟨S8x8192x2x16, .f32⟩
  | 11 => ⟨S1x8192x1x16, .f32⟩
  | 12 => ⟨S8x8192x2x16, .f32⟩
  | 13 => ⟨S8x8192x2x16, .f32⟩
  | 14 => ⟨S1x8192x1x16, .f32⟩
  | 15 => ⟨S8x8192x2x16, .f32⟩
  | 16 => ⟨S8x8192x2x16, .f32⟩
  | 17 => ⟨S8x8192x2x16, .f32⟩
  | 18 => ⟨S8x8192x2x32, .f32⟩
  | 19 => ⟨S8x8192x2x32, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S8192, .f32⟩
  | 35 => ⟨S8192x1, .f32⟩
  | 36 => ⟨S1x16, .f32⟩
  | 37 => ⟨S8192x16, .f32⟩
  | 38 => ⟨S8192x16, .f32⟩
  | 39 => ⟨S8192x16, .f32⟩
  | 40 => ⟨S8192x16, .f32⟩
  | 41 => ⟨S8192x1x16, .f32⟩
  | 42 => ⟨S8192x16, .f32⟩
  | 43 => ⟨S8192x1x16, .f32⟩
  | 44 => ⟨S8x8192x2x16, .f32⟩
  | 45 => ⟨S8x8192x2x16, .f32⟩
  | 46 => ⟨S1x8192x1x16, .f32⟩
  | 47 => ⟨S8x8192x2x16, .f32⟩
  | 48 => ⟨S8x8192x2x16, .f32⟩
  | 49 => ⟨S1x8192x1x16, .f32⟩
  | 50 => ⟨S8x8192x2x16, .f32⟩
  | 51 => ⟨S8x8192x2x16, .f32⟩
  | 52 => ⟨S8x8192x2x16, .f32⟩
  | 53 => ⟨S1x8192x1x16, .f32⟩
  | 54 => ⟨S8x8192x2x16, .f32⟩
  | 55 => ⟨S8x8192x2x16, .f32⟩
  | 56 => ⟨S1x8192x1x16, .f32⟩
  | 57 => ⟨S8x8192x2x16, .f32⟩
  | 58 => ⟨S8x8192x2x16, .f32⟩
  | 59 => ⟨S8x8192x2x16, .f32⟩
  | 60 => ⟨S8x8192x2x32, .f32⟩
  | 61 => ⟨S8x8192x2x64, .f32⟩
  | 62 => ⟨S8x8192x2x64, .bf16⟩
  | 63 => ⟨S8x2x8192x64, .bf16⟩
  | 64 => ⟨S8x8192x2x64, .f32⟩
  | 65 => ⟨S8x2x64x8192, .f32⟩
  | 66 => ⟨S_, .f32⟩
  | 67 => ⟨S8x2x1x8192, .f32⟩
  | 68 => ⟨S_, .f32⟩
  | 69 => ⟨S8x2x15x8192, .f32⟩
  | 70 => ⟨S8x2x80x8192, .f32⟩
  | 71 => ⟨S8x2x80x8192, .bf16⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_5 : Ref sig .tc := ⟨.hbm, 102, rfl⟩
abbrev main_v91 : Ref sig .tc := ⟨.hbm, 103, rfl⟩
abbrev main_cst_6 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_7 : Ref sig .tc := ⟨.hbm, 111, rfl⟩
abbrev main_v98 : Ref sig .tc := ⟨.hbm, 112, rfl⟩
abbrev main_v99 : Ref sig .tc := ⟨.hbm, 113, rfl⟩
abbrev main_cst_8 : Ref sig .tc := ⟨.hbm, 114, rfl⟩
abbrev main_v100 : Ref sig .tc := ⟨.hbm, 115, rfl⟩
abbrev main_v101 : Ref sig .tc := ⟨.hbm, 116, rfl⟩
abbrev main_cst_9 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_10 : Ref sig .tc := ⟨.hbm, 128, rfl⟩
abbrev main_v112 : Ref sig .tc := ⟨.hbm, 129, rfl⟩
abbrev main_v113 : Ref sig .tc := ⟨.hbm, 130, rfl⟩
abbrev main_cst_11 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_12 : Ref sig .tc := ⟨.hbm, 135, rfl⟩
abbrev main_v117 : Ref sig .tc := ⟨.hbm, 136, rfl⟩
abbrev main_v118 : Ref sig .tc := ⟨.hbm, 137, rfl⟩
abbrev main_cst_13 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_cst_14 : Ref sig .tc := ⟨.hbm, 170, rfl⟩
abbrev main_v150 : Ref sig .tc := ⟨.hbm, 171, rfl⟩
abbrev main_v151 : Ref sig .tc := ⟨.hbm, 172, rfl⟩
abbrev main_cst_15 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_cst_16 : Ref sig .tc := ⟨.hbm, 177, rfl⟩
abbrev main_v155 : Ref sig .tc := ⟨.hbm, 178, rfl⟩
abbrev main_v156 : Ref sig .tc := ⟨.hbm, 179, rfl⟩
abbrev main_cst_17 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_cst_18 : Ref sig .tc := ⟨.hbm, 218, rfl⟩
abbrev main_v194 : Ref sig .tc := ⟨.hbm, 219, rfl⟩
abbrev main_v195 : Ref sig .tc := ⟨.hbm, 220, rfl⟩
abbrev main_cst_19 : Ref sig .tc := ⟨.hbm, 221, rfl⟩
abbrev main_v196 : Ref sig .tc := ⟨.hbm, 222, rfl⟩
abbrev main_v197 : Ref sig .tc := ⟨.hbm, 223, rfl⟩
abbrev main_cst_20 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_cst_21 : Ref sig .tc := ⟨.hbm, 235, rfl⟩
abbrev main_v208 : Ref sig .tc := ⟨.hbm, 236, rfl⟩
abbrev main_v209 : Ref sig .tc := ⟨.hbm, 237, rfl⟩
abbrev main_cst_22 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_cst_23 : Ref sig .tc := ⟨.hbm, 242, rfl⟩
abbrev main_v213 : Ref sig .tc := ⟨.hbm, 243, rfl⟩
abbrev main_v214 : Ref sig .tc := ⟨.hbm, 244, rfl⟩
abbrev main_cst_24 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_cst_25 : Ref sig .tc := ⟨.hbm, 277, rfl⟩
abbrev main_v246 : Ref sig .tc := ⟨.hbm, 278, rfl⟩
abbrev main_v247 : Ref sig .tc := ⟨.hbm, 279, rfl⟩
abbrev main_cst_26 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_cst_27 : Ref sig .tc := ⟨.hbm, 284, rfl⟩
abbrev main_v251 : Ref sig .tc := ⟨.hbm, 285, rfl⟩
abbrev main_v252 : Ref sig .tc := ⟨.hbm, 286, rfl⟩
abbrev main_cst_28 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_cst_29 : Ref sig .tc := ⟨.hbm, 322, rfl⟩
abbrev main_v287 : Ref sig .tc := ⟨.hbm, 323, rfl⟩
abbrev main_cst_30 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩

abbrev nD : Nat := 1
abbrev τ : Topo := Topo.v7x

variable {F : FTy → Type} [FloatOps F]
-- ==== Proof.Blocks.lean ====
/-
  The kernel's unrolled passes over the keys, written as loops.

  One grid point goes over the 8192 keys in 32 sub-blocks of 256 keys, and the printed text has every pass written out.
  Here each pass is a loop over the sub-block's number, and the three printed passes are these loops.
-/
module

public import proofs.«01_k».proof.Proof.Gen.KernelIdeal.Frame

@[expose] public section

set_option maxRecDepth 16384

noncomputable section

namespace Cert.KernelIdeal.Blocks

open Idealize.ShloMosaic Idealize.SL.Sem Idealize.ShloMosaic.Tactic
open Facts₀ Facts

variable {F : FTy → Type} [FloatOps F]

/-- `n` trips of a loop of 32, the last at sub-block 31. -/
def trips {α : Type} (body : Fin 32 → α → Prog (TpuEff nD τ sig (Elt F) Λ₀ .tc) α) :
    (n : ℕ) → n < 33 → α → Prog (TpuEff nD τ sig (Elt F) Λ₀ .tc) α
  | 0, _, a => pure a
  | n + 1, h, a => do
    let b ← body ⟨31 - n, by omega⟩ a
    trips body n (by omega) b

theorem inbK (u : Fin 32) : ∀ a, (![0, 0, 256 * u.val, 0] : Fin 4 → Nat) a + S1x1x256x64.size a ≤ S1x1x8192x64.size a := by
  have := u.isLt
  intro a; fin_cases a <;> simp [S1x1x256x64, S1x1x8192x64]; omega

theorem inbS (u : Fin 32) : ∀ a, (![256 * u.val, 0] : Fin 2 → Nat) a + S256x512.size a ≤ S8192x512.size a := by
  have := u.isLt
  intro a; fin_cases a <;> simp [S256x512, S8192x512]; omega

theorem inbV (u : Fin 32) : ∀ a, (![0, 0, 0, 256 * u.val] : Fin 4 → Nat) a + S1x1x80x256.size a ≤ S1x1x80x8192.size a := by
  have := u.isLt
  intro a; fin_cases a <;> simp [S1x1x80x256, S1x1x80x8192]; omega

/-- The keys of sub-block `u`. -/
abbrev rK (u : Fin 32) : Rect S1x1x8192x64 := Rect.unit (s := S1x1x8192x64) ![0, 0, 256 * u.val, 0] S1x1x256x64.size (inbK u)
/-- The rows of the score buffer for sub-block `u`. -/
abbrev rS (u : Fin 32) : Rect S8192x512 := Rect.unit (s := S8192x512) ![256 * u.val, 0] S256x512.size (inbS u)
/-- The values of sub-block `u`. -/
abbrev rV (u : Fin 32) : Rect S1x1x80x8192 := Rect.unit (s := S1x1x80x8192) ![0, 0, 0, 256 * u.val] S1x1x80x256.size (inbV u)

variable [Facts]

/-- The scores of one sub-block: its keys times the queries. -/
def score (q : FVec F S64x512 .bf16) (k : Vec F S1x1x256x64 .bf16) : FVec F S256x512 .f32 :=
  matmul dot_S256x64_S64x512_S256x512_1_0_0_1_n_n none (shapeCast S256x64 k shapeCasts_S1x1x256x64_S256x64) q
    (constant S256x512 .f32 0x00000000#32)

/-- The maxima of one sub-block's scores, over groups of 32 of its rows. -/
def blockMax (s : FVec F S256x512 .f32) : FVec F S8x512 .f32 :=
  multiReduction .maximumf [0] S8x512 (shapeCast S32x8x512 s shapeCasts_S256x512_S32x8x512) 0xFF800000#32
    reduces_S32x8x512_S8x512 (.inl rfl) rfl

/-- The running maxima after sub-block `u`: at the first sub-block its own maxima. -/
def joinMax (u : ℕ) (p b : FVec F S8x512 .f32) : FVec F S8x512 .f32 := match u with
  | 0 => b
  | _ + 1 => maximumf p b

/-- The weights of one sub-block. -/
def weight (m : FVec F S1x512 .f32) (s : Vec F S256x512 .f32) : FVec F S256x512 .bf16 :=
  truncf .bf16 (exp2 (subf (s : FVec F S256x512 .f32) (broadcastTo S256x512 m broadcasts_S1x512_S256x512))) bitsLt_bf16_f32

/-- The weighted values of one sub-block, added to those of the sub-blocks before. -/
def accum (a : FVec F S80x512 .f32) (v : Vec F S1x1x80x256 .bf16) (p : FVec F S256x512 .bf16) : FVec F S80x512 .f32 :=
  addf a (matmul dot_S80x256_S256x512_S80x512_1_0_0_1_n_n none (shapeCast S80x256 v shapeCasts_S1x1x80x256_S80x256) p
    (constant S80x512 .f32 0x00000000#32))

/-- The scores of the meta keys. -/
def metaScore (q : FVec F S64x512 .bf16) (k : Vec F S1x1x16x64 .bf16) : FVec F S16x512 .f32 :=
  matmul dot_S16x64_S64x512_S16x512_1_0_0_1_n_n none (shapeCast S16x64 k shapeCasts_S1x1x16x64_S16x64) q
    (constant S16x512 .f32 0x00000000#32)

/-- The maximum of all the scores: of the meta keys' (`m`) and of the running maxima `p`. -/
def allMax (m : FVec F S1x512 .f32) (p : Vec F S8x512 .f32) : FVec F S1x512 .f32 :=
  maximumf m (shapeCast S1x512 (multiReduction .maximumf [0] S512 (p : FVec F S8x512 .f32) 0xFF800000#32 reduces_S8x512_S512 (.inl rfl) rfl)
    shapeCasts_S512_S1x512)

/-- The meta keys' weighted values. -/
def metaAcc (m : FVec F S1x512 .f32) (s : Vec F S16x512 .f32) (v : Vec F S1x1x80x16 .bf16) : FVec F S80x512 .f32 :=
  matmul dot_S80x16_S16x512_S80x512_1_0_0_1_n_n none (shapeCast S80x16 v shapeCasts_S1x1x80x16_S80x16)
    (truncf .bf16 (exp2 (subf (s : FVec F S16x512 .f32) (broadcastTo S16x512 m broadcasts_S1x512_S16x512))) bitsLt_bf16_f32)
    (constant S80x512 .f32 0x00000000#32)

/-- One sub-block's scores, computed and stored. -/
def scoreStep (arg5 : Memref sig .tc .vmem S1x1x8192x64 .bf16) (s : Memref sig .tc .vmem S8192x512 .f32)
    (q : FVec F S64x512 .bf16) (u : Fin 32) (p : FVec F S8x512 .f32) : Prog (TpuEff nD τ sig (Elt F) Λ₀ .tc) (FVec F S8x512 .f32) := do
  let k : Vec F S1x1x256x64 .bf16 ← Prog.lift (.load arg5 (rK u).toLoadRect (View.loadsAt_vmem h_S1x1x256x64))
  let _ : Vec F S256x512 .f32 ← Prog.lift (.load s (rS u).toLoadRect (View.loadsAt_vmem h_S256x512))
  Prog.lift (.store s (rS u) (shapeCast S256x512 (score q k) shapeCasts_S256x512_S256x512) Finset.univ (View.stores_vmem_bits_univ h_S256x512 rfl) (.inl rfl))
  pure (joinMax u.val p (blockMax (score q k)))

/-- One sub-block of a whole step: the next queries' scores computed and stored, this step's weights from the scores
    stored before, and the weighted values added up. -/
def blockStep (arg5 : Memref sig .tc .vmem S1x1x8192x64 .bf16) (arg6 : Memref sig .tc .vmem S1x1x80x8192 .bf16)
    (sIn sOut : Memref sig .tc .vmem S8192x512 .f32) (q : FVec F S64x512 .bf16) (m : FVec F S1x512 .f32)
    (u : Fin 32) (a : FVec F S8x512 .f32 × FVec F S80x512 .f32) :
    Prog (TpuEff nD τ sig (Elt F) Λ₀ .tc) (FVec F S8x512 .f32 × FVec F S80x512 .f32) := do
  let p ← scoreStep arg5 sOut q u a.1
  let s : Vec F S256x512 .f32 ← Prog.lift (.load sIn (rS u).toLoadRect (View.loadsAt_vmem h_S256x512))
  let v : Vec F S1x1x80x256 .bf16 ← Prog.lift (.load arg6 (rV u).toLoadRect (View.loadsAt_vmem h_S1x1x80x256))
  pure (p, accum a.2 v (weight m s))

/-- The first pass of a query row: the scores of its first queries, their running maxima, and the meta keys' scores. -/
def firstPass (arg5 : Memref sig .tc .vmem S1x1x8192x64 .bf16) (arg7 : Memref sig .tc .vmem S1x1x16x64 .bf16)
    (s : Memref sig .tc .vmem S8192x512 .f32) (arg13 : Memref sig .tc .vmem S8x512 .f32)
    (q : FVec F S64x512 .bf16) : Prog (TpuEff nD τ sig (Elt F) Λ₀ .tc) (FVec F S16x512 .f32) := do
  let p ← trips (scoreStep arg5 s q) 32 (by decide) (constant S8x512 .f32 0xFF800000#32)
  let _ : Vec F S8x512 .f32 ← Prog.lift (.load arg13 (Rect.unit (s := S8x512) ![0, 0] S8x512.size inb_S8x512_S8x512_0_0).toLoadRect (View.loadsAt_vmem h_S8x512))
  Prog.lift (.store arg13 (Rect.unit (s := S8x512) ![0, 0] S8x512.size inb_S8x512_S8x512_0_0) (shapeCast S8x512 p shapeCasts_S8x512_S8x512) Finset.univ (View.stores_vmem_bits_univ h_S8x512 rfl) (.inl rfl))
  let k : Vec F S1x1x16x64 .bf16 ← Prog.lift (.load arg7 (Rect.unit (s := S1x1x16x64) ![0, 0, 0, 0] S1x1x16x64.size inb_S1x1x16x64_S1x1x16x64_0_0_0_0).toLoadRect (View.loadsAt_vmem h_S1x1x16x64))
  pure (metaScore q k)

/-- A whole step: this step's weighted values from the scores in `sIn`, the next queries' scores into `sOut`. -/
def wholePass (arg5 : Memref sig .tc .vmem S1x1x8192x64 .bf16) (arg6 : Memref sig .tc .vmem S1x1x80x8192 .bf16)
    (arg7 : Memref sig .tc .vmem S1x1x16x64 .bf16) (arg8 : Memref sig .tc .vmem S1x1x80x16 .bf16)
    (sIn sOut : Memref sig .tc .vmem S8192x512 .f32) (arg14 : Memref sig .tc .vmem S16x512 .f32)
    (m : FVec F S1x512 .f32) (p : Vec F S8x512 .f32) (q : FVec F S64x512 .bf16) :
    Prog (TpuEff nD τ sig (Elt F) Λ₀ .tc) (Σ' (v638 : FVec F S8x512 .f32) (v647 : FVec F S80x512 .f32), FVec F S1x512 .f32) := do
  let s : Vec F S16x512 .f32 ← Prog.lift (.load arg14 (Rect.unit (s := S16x512) ![0, 0] S16x512.size inb_S16x512_S16x512_0_0).toLoadRect (View.loadsAt_vmem h_S16x512))
  let v : Vec F S1x1x80x16 .bf16 ← Prog.lift (.load arg8 (Rect.unit (s := S1x1x80x16) ![0, 0, 0, 0] S1x1x80x16.size inb_S1x1x80x16_S1x1x80x16_0_0_0_0).toLoadRect (View.loadsAt_vmem h_S1x1x80x16))
  let a ← trips (blockStep arg5 arg6 sIn sOut q (allMax m p)) 32 (by decide) (constant S8x512 .f32 0xFF800000#32, metaAcc (allMax m p) s v)
  let k : Vec F S1x1x16x64 .bf16 ← Prog.lift (.load arg7 (Rect.unit (s := S1x1x16x64) ![0, 0, 0, 0] S1x1x16x64.size inb_S1x1x16x64_S1x1x16x64_0_0_0_0).toLoadRect (View.loadsAt_vmem h_S1x1x16x64))
  let _ : Vec F S16x512 .f32 ← Prog.lift (.load arg14 (Rect.unit (s := S16x512) ![0, 0] S16x512.size inb_S16x512_S16x512_0_0).toLoadRect (View.loadsAt_vmem h_S16x512))
  Prog.lift (.store arg14 (Rect.unit (s := S16x512) ![0, 0] S16x512.size inb_S16x512_S16x512_0_0) (shapeCast S16x512 (metaScore q k) shapeCasts_S16x512_S16x512) Finset.univ (View.stores_vmem_bits_univ h_S16x512 rfl) (.inl rfl))
  pure ⟨a.1, a.2, exp2 (subf m (allMax m p))⟩

section Printed

variable (i : grid0.Coords) (arg3 : Memref sig .tc .vmem S1x4x64x128 .bf16) (harg3 : arg3.IsWhole) (arg4 : Memref sig .tc .vmem S1x4x64x128 .bf16) (harg4 : arg4.IsWhole) (arg5 : Memref sig .tc .vmem S1x1x8192x64 .bf16) (harg5 : arg5.IsWhole) (arg6 : Memref sig .tc .vmem S1x1x80x8192 .bf16) (harg6 : arg6.IsWhole) (arg7 : Memref sig .tc .vmem S1x1x16x64 .bf16) (harg7 : arg7.IsWhole) (arg8 : Memref sig .tc .vmem S1x1x80x16 .bf16) (harg8 : arg8.IsWhole) (arg9 : Memref sig .tc .vmem S1x128x256 .f32) (harg9 : arg9.IsWhole) (arg10 : Memref sig .tc .vmem S1x128x256 .bf16) (harg10 : arg10.IsWhole) (arg11 : Memref sig .tc .vmem S8192x512 .f32) (harg11 : arg11.IsWhole) (arg12 : Memref sig .tc .vmem S8192x512 .f32) (harg12 : arg12.IsWhole) (arg13 : Memref sig .tc .vmem S8x512 .f32) (harg13 : arg13.IsWhole) (arg14 : Memref sig .tc .vmem S16x512 .f32) (harg14 : arg14.IsWhole)

/-- The printed first pass is the loop. -/
theorem part10_eq (q : FVec F S64x512 .bf16) :
    k0_part10 i arg3 harg3 arg4 harg4 arg5 harg5 arg6 harg6 arg7 harg7 arg8 harg8 arg9 harg9 arg10 harg10 arg11 harg11 arg12 harg12 arg13 harg13 arg14 harg14 q
      = firstPass arg5 arg7 arg11 arg13 q := by sl_kernel_rfl

/-- The printed step at an even position is the loop, from the first score buffer into the second. -/
theorem part29_eq (m : FVec F S1x512 .f32) (p : Vec F S8x512 .f32) (q : FVec F S64x512 .bf16) :
    k0_part29 i arg3 harg3 arg4 harg4 arg5 harg5 arg6 harg6 arg7 harg7 arg8 harg8 arg9 harg9 arg10 harg10 arg11 harg11 arg12 harg12 arg13 harg13 arg14 harg14 m p q
      = wholePass arg5 arg6 arg7 arg8 arg11 arg12 arg14 m p q := by sl_kernel_rfl

/-- The printed step at an odd position is the loop, from the second score buffer into the first. -/
theorem part48_eq (m : FVec F S1x512 .f32) (p : Vec F S8x512 .f32) (q : FVec F S64x512 .bf16) :
    k0_part48 i arg3 harg3 arg4 harg4 arg5 harg5 arg6 harg6 arg7 harg7 arg8 harg8 arg9 harg9 arg10 harg10 arg11 harg11 arg12 harg12 arg13 harg13 arg14 harg14 m p q
      = wholePass arg5 arg6 arg7 arg8 arg12 arg11 arg14 m p q := by sl_kernel_rfl

end Printed

end Cert.KernelIdeal.Blocks

end
-- ==== Proof.Pass.lean ====
/-
  What the passes over the keys do: each loop's triple, by its invariant.

  A pass leaves the scores of every sub-block in the score buffer (`scores`), the running maxima (`runMax`), and, in a whole
  step, the weighted values (`runAcc`).
-/
module

public import proofs.«01_k».proof.Proof.Blocks
public import Idealize.ShloMosaic.Lib.Claim
public import Idealize.ShloMosaic.Lib.ValueIdx
public import Idealize.ShloMosaic.Lib.Pipeline.Value

@[expose] public section

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

/-! ## What a pass computes -/

/-- The sub-block of row `y` of the score buffer. -/
def blockOf (y : S8192x512.Idx) : Fin 32 := ⟨(y 0).val / 256, by have := (y 0).isLt; simp [S8192x512] at this; omega⟩

/-- The row within its sub-block, and the column. -/
def within (y : S8192x512.Idx) : S256x512.Idx :=
  ix2 (⟨(y 0).val % 256, Nat.mod_lt _ (by decide)⟩ : Fin 256) (y 1 : Fin 512)

/-- The scores of all the keys `K` against the queries `q`, as the score buffer holds them. -/
def scores (q : FVec F S64x512 .bf16) (K : Vec F S1x1x8192x64 .bf16) : Vec F S8192x512 .f32 :=
  fun y => score q (View.ld K (rK (blockOf y))) (within y)

/-- The running maxima after `n` sub-blocks. -/
def runMax (q : FVec F S64x512 .bf16) (K : Vec F S1x1x8192x64 .bf16) : ℕ → FVec F S8x512 .f32
  | 0 => constant S8x512 .f32 0xFF800000#32
  | n + 1 => if h : n < 32 then joinMax n (runMax q K n) (blockMax (score q (View.ld K (rK ⟨n, h⟩)))) else runMax q K n

/-- The weighted values after the meta keys' (`a`) and `n` sub-blocks: the weights of the scores `S` under the maximum `m`. -/
def runAcc (m : FVec F S1x512 .f32) (S : Vec F S8192x512 .f32) (V : Vec F S1x1x80x8192 .bf16) (a : FVec F S80x512 .f32) :
    ℕ → FVec F S80x512 .f32
  | 0 => a
  | n + 1 => if h : n < 32 then accum (runAcc m S V a n) (View.ld V (rV ⟨n, h⟩)) (weight m (View.ld S (rS ⟨n, h⟩)))
      else runAcc m S V a n

theorem runMax_succ (q : FVec F S64x512 .bf16) (K : Vec F S1x1x8192x64 .bf16) (u : Fin 32) :
    runMax q K (u.val + 1) = joinMax u.val (runMax q K u.val) (blockMax (score q (View.ld K (rK u)))) := by
  rw [runMax, dif_pos u.isLt]

theorem runAcc_succ (m : FVec F S1x512 .f32) (S : Vec F S8192x512 .f32) (V : Vec F S1x1x80x8192 .bf16) (a : FVec F S80x512 .f32)
    (u : Fin 32) : runAcc m S V a (u.val + 1) = accum (runAcc m S V a u.val) (View.ld V (rV u)) (weight m (View.ld S (rS u))) := by
  rw [runAcc, dif_pos u.isLt]

/-! ## The score buffer, sub-block by sub-block -/

/-- `g` holds the scores on the rows of the first `n` sub-blocks. -/
def Filled (q : FVec F S64x512 .bf16) (K : Vec F S1x1x8192x64 .bf16) (n : ℕ) (g : Vec F S8192x512 .f32) : Prop :=
  ∀ y : S8192x512.Idx, (y 0).val < 256 * n → g y = scores q K y

/-- Storing sub-block `u`'s scores fills one sub-block more. -/
theorem Filled.step {q : FVec F S64x512 .bf16} {K : Vec F S1x1x8192x64 .bf16} {g g' : Vec F S8192x512 .f32} (u : Fin 32)
    (h : Filled q K u.val g) (hin : ∀ x : S256x512.Idx, g' ((rS u).emb x) = score q (View.ld K (rK u)) x)
    (hout : ∀ y, y ∉ (rS u).set → g' y = g y) : Filled q K (u.val + 1) g' := by
  intro y hy
  by_cases hm : y ∈ (rS u).set
  · obtain ⟨x, rfl⟩ := (rS u).exists_idx_of_mem hm
    have hx := (x 0).isLt
    have e0 : (((rS u).idx x) 0).val = 256 * u.val + (x 0).val := by
      simp [Rect.unit, LoadRect.idx]
    have e1 : (((rS u).idx x) 1).val = (x 1).val := by
      simp [Rect.unit, LoadRect.idx]
    have hx' : (x 0).val < 256 := hx
    have hb : blockOf ((rS u).idx x) = u := by
      apply Fin.ext; simp only [blockOf, e0]; omega
    have hw : within ((rS u).idx x) = x := by
      rw [eq_ix2 x]
      funext a
      refine Fin.cases ?_ (fun a => ?_) a
      · apply Fin.ext
        show (((rS u).idx _) 0).val % 256 = (x 0).val
        rw [← eq_ix2 x, e0]; omega
      · obtain rfl : a = 0 := Subsingleton.elim _ _
        apply Fin.ext
        show (((rS u).idx _) 1).val = (x 1).val
        rw [← eq_ix2 x, e1]
    rw [show g' ((rS u).idx x) = _ from hin x, scores, hb, hw]
  · rw [hout y hm]
    apply h
    by_contra hlt
    apply hm
    rw [Rect.mem_set_unit]
    intro a
    have h1 := (y 1).isLt
    have h1' : (y 1).val < 512 := h1
    refine Fin.cases ?_ (fun a => ?_) a
    · show 256 * u.val ≤ (y 0).val ∧ (y 0).val < 256 * u.val + 256
      omega
    · obtain rfl : a = 0 := Subsingleton.elim _ _
      show 0 ≤ (y 1).val ∧ (y 1).val < 0 + 512
      omega

theorem Filled.zero (q : FVec F S64x512 .bf16) (K : Vec F S1x1x8192x64 .bf16) (g : Vec F S8192x512 .f32) :
    Filled q K (32 - 32) g := fun _ hy => absurd hy (by omega)

theorem Filled.all {q : FVec F S64x512 .bf16} {K : Vec F S1x1x8192x64 .bf16} {g : Vec F S8192x512 .f32}
    (h : Filled q K 32 g) : g = scores q K := by
  funext y
  have := (y 0).isLt
  exact h y (by have h' : (y 0).val < 8192 := this; omega)

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

/-! ## Triples -/

section Triples

variable (c : Dev nD) (E : Set ℕ)

local notation "WP" => wp (M := 𝕄) frame (wpE (defs₀ (F := F)) Variants.none (c : Thread nD τ) none) E

/-- A loop keeps what its body keeps. -/
theorem trips_run {α : Type} (body : Fin 32 → α → Prog (TpuEff nD τ sig (Elt F) Λ₀ .tc) α) (I : ℕ → α → sProp 𝕄)
    (h : ∀ (u : Fin 32) (a : α), I u.val a ⊢ WP (body u a) (fun b => I (u.val + 1) b)) :
    ∀ (n : ℕ) (hn : n < 33) (a : α), I (32 - n) a ⊢ WP (trips body n hn a) (fun b => I 32 b)
  | 0, _, a => by rw [trips]; exact le_wp_ret _ _ _ a _
  | n + 1, hn, a => by
    rw [trips]
    refine Hoare.bind _ _ _ (Q := fun b => I (32 - n) b) ?_ fun b => trips_run body I h n (by omega) b
    have e := h ⟨31 - n, by omega⟩ a
    rw [show (⟨31 - n, by omega⟩ : Fin 32).val = 32 - (n + 1) from by show 31 - n = _; omega,
      show 32 - (n + 1) + 1 = 32 - n from by omega] at e
    exact e

/-- After `n` sub-blocks of the scores' loop: the keys as they were, the first `n` sub-blocks' scores stored, and `p` the
    running maxima. -/
def ScoreInv (arg5 : Memref sig .tc .vmem S1x1x8192x64 .bf16) (s : Memref sig .tc .vmem S8192x512 .f32)
    (q : FVec F S64x512 .bf16) (K : Vec F S1x1x8192x64 .bf16) (n : ℕ) (p : FVec F S8x512 .f32) : sProp 𝕄 :=
  iprop(owns (c : Thread nD τ) arg5 fullShare K ∗ (∃ g, ⌜Filled q K n g⌝ ∗ owns (c : Thread nD τ) s fullShare g) ∗ ⌜p = runMax q K n⌝)

/-- One sub-block's scores are stored, and its maxima join the running ones. -/
theorem scoreStep_run (arg5 : Memref sig .tc .vmem S1x1x8192x64 .bf16) (s : Memref sig .tc .vmem S8192x512 .f32)
    (q : FVec F S64x512 .bf16) (K : Vec F S1x1x8192x64 .bf16) (u : Fin 32) (p : FVec F S8x512 .f32) :
    ScoreInv c arg5 s q K u.val p ⊢ WP (scoreStep arg5 s q u p) (fun b => ScoreInv c arg5 s q K (u.val + 1) b) := by
  unfold ScoreInv scoreStep owns
  iintro ⟨⟨%f0, %hf0, H0⟩, ⟨%g, %hg, %f1, %hf1, H1⟩, %hp⟩
  subst hf0 hf1 hp
  sl_exec
  sl_step
  isplitl [H0]
  · iexists f0; isplitr; · ipureintro; rfl
    iexact H0
  isplitl [H1]
  · iexists _; isplitr
    swap
    · iexists _; isplitr
      swap; · iexact H1
      ipureintro; rfl
    ipureintro
    refine hg.step u (fun x => ?_) (fun y hy => ?_)
    · rw [View.read_writes_cons_emb, shapeCast_self]; rfl
    · rw [View.read_writes_apply_of_forall_not_mem _ _ _ _ (by simpa using hy)]
  ipureintro
  rw [runMax_succ]; rfl

/-- After `n` sub-blocks of a whole step's loop: besides the scores, this step's scores and values as they were, and `a`
    the weighted values. -/
def BlockInv (arg5 : Memref sig .tc .vmem S1x1x8192x64 .bf16) (arg6 : Memref sig .tc .vmem S1x1x80x8192 .bf16)
    (sIn sOut : Memref sig .tc .vmem S8192x512 .f32) (q : FVec F S64x512 .bf16) (K : Vec F S1x1x8192x64 .bf16)
    (m : FVec F S1x512 .f32) (S : Vec F S8192x512 .f32) (V : Vec F S1x1x80x8192 .bf16) (a₀ : FVec F S80x512 .f32)
    (n : ℕ) (a : FVec F S8x512 .f32 × FVec F S80x512 .f32) : sProp 𝕄 :=
  iprop(ScoreInv c arg5 sOut q K n a.1 ∗ (owns (c : Thread nD τ) arg6 fullShare V ∗ owns (c : Thread nD τ) sIn fullShare S
    ∗ ⌜a.2 = runAcc m S V a₀ n⌝))

/-- One sub-block of a whole step. -/
theorem blockStep_run (arg5 : Memref sig .tc .vmem S1x1x8192x64 .bf16) (arg6 : Memref sig .tc .vmem S1x1x80x8192 .bf16)
    (sIn sOut : Memref sig .tc .vmem S8192x512 .f32) (q : FVec F S64x512 .bf16) (K : Vec F S1x1x8192x64 .bf16)
    (m : FVec F S1x512 .f32) (S : Vec F S8192x512 .f32) (V : Vec F S1x1x80x8192 .bf16) (a₀ : FVec F S80x512 .f32)
    (u : Fin 32) (a : FVec F S8x512 .f32 × FVec F S80x512 .f32) :
    BlockInv c arg5 arg6 sIn sOut q K m S V a₀ u.val a
      ⊢ WP (blockStep arg5 arg6 sIn sOut q m u a) (fun b => BlockInv c arg5 arg6 sIn sOut q K m S V a₀ (u.val + 1) b) := by
  unfold blockStep BlockInv
  refine Hoare.bind _ _ _ (Hoare.frame _ _ _ _ (scoreStep_run c E arg5 sOut q K u a.1)) fun p => ?_
  show _ ⊢ WP _ _
  unfold owns
  iintro ⟨HS, ⟨%f0, %hf0, H0⟩, ⟨%f1, %hf1, H1⟩, %hp⟩
  subst hf0 hf1
  sl_exec
  sl_step
  isplitl [HS]; · iexact HS
  isplitl [H0]
  · iexists f0; isplitr; · ipureintro; rfl
    iexact H0
  isplitl [H1]
  · iexists f1; isplitr; · ipureintro; rfl
    iexact H1
  ipureintro
  rw [runAcc_succ, ← hp]; rfl

/-! ## The three passes -/

/-- The first pass of a query row: the scores, the running maxima and the meta keys' scores of the queries `q`. -/
theorem firstPass_run (arg5 : Memref sig .tc .vmem S1x1x8192x64 .bf16) (arg7 : Memref sig .tc .vmem S1x1x16x64 .bf16)
    (s : Memref sig .tc .vmem S8192x512 .f32) (arg13 : Memref sig .tc .vmem S8x512 .f32)
    (q : FVec F S64x512 .bf16) (K : Vec F S1x1x8192x64 .bf16) (KM : Vec F S1x1x16x64 .bf16) :
    (iprop(owns (c : Thread nD τ) arg5 fullShare K ∗ owns (c : Thread nD τ) arg7 fullShare KM
        ∗ (∃ g, owns (c : Thread nD τ) s fullShare g) ∗ (∃ g, owns (c : Thread nD τ) arg13 fullShare g)) : sProp 𝕄)
      ⊢ WP (firstPass arg5 arg7 s arg13 q) (fun r => iprop(owns (c : Thread nD τ) arg5 fullShare K ∗ owns (c : Thread nD τ) arg7 fullShare KM
        ∗ owns (c : Thread nD τ) s fullShare (scores q K) ∗ owns (c : Thread nD τ) arg13 fullShare (runMax q K 32) ∗ ⌜r = metaScore q KM⌝)) := by
  unfold firstPass
  have h := Hoare.frame _ _ _ (iprop(owns (c : Thread nD τ) arg7 fullShare KM ∗ (∃ g, owns (c : Thread nD τ) arg13 fullShare g)) : sProp 𝕄)
    (trips_run c E (scoreStep arg5 s q) (fun n p => ScoreInv c arg5 s q K n p) (fun u p => scoreStep_run c E arg5 s q K u p)
      32 (by decide) (constant S8x512 .f32 0xFF800000#32))
  refine Hoare.bind _ _ _ (Hoare.conseq _ _ _ ?_ (fun _ => .rfl) h) fun p => ?_
  · iintro ⟨H5, H7, ⟨%g, Hs⟩, H13⟩
    isplitr [H7 H13]
    · unfold ScoreInv
      isplitl [H5]; · iexact H5
      isplitl [Hs]
      · iexists g; isplitr
        · ipureintro; intro y hy; exact absurd hy (by omega)
        iexact Hs
      ipureintro; rfl
    isplitl [H7]; · iexact H7
    iexact H13
  · show _ ⊢ WP _ _
    unfold ScoreInv owns
    iintro ⟨⟨H5, ⟨%g, %hg, Hs⟩, %hp⟩, ⟨%f7, %hf7, H7⟩, ⟨%d, %f13, -, H13⟩⟩
    subst hf7 hp
    rw [← hg.all]
    sl_exec
    sl_step
    isplitl [H5]; · iexact H5
    isplitl [H7]
    · iexists f7; isplitr; · ipureintro; rfl
      iexact H7
    isplitl [Hs]; · iexact Hs
    isplitl [H13]
    · iexists _; isplitr
      swap; · iexact H13
      ipureintro
      rw [View.read_writes_eq_canon _ _ _ (View.cover_of_tiled _ S8x512.size (by rfl)), shapeCast_self, View.canon_unit_zero zero2]
    ipureintro
    rw [View.readAt_eq_ld, View.ld_unit_zero zero4]

/-- A whole step: this step's weighted values, from the scores `S`, the meta scores `sm` and the running maxima `p` it is
    given; and the next queries' scores, running maxima and meta scores. -/
theorem wholePass_run (arg5 : Memref sig .tc .vmem S1x1x8192x64 .bf16) (arg6 : Memref sig .tc .vmem S1x1x80x8192 .bf16)
    (arg7 : Memref sig .tc .vmem S1x1x16x64 .bf16) (arg8 : Memref sig .tc .vmem S1x1x80x16 .bf16)
    (sIn sOut : Memref sig .tc .vmem S8192x512 .f32) (arg14 : Memref sig .tc .vmem S16x512 .f32)
    (m : FVec F S1x512 .f32) (p : Vec F S8x512 .f32) (q : FVec F S64x512 .bf16) (K : Vec F S1x1x8192x64 .bf16)
    (V : Vec F S1x1x80x8192 .bf16) (KM : Vec F S1x1x16x64 .bf16) (VM : Vec F S1x1x80x16 .bf16) (S : Vec F S8192x512 .f32)
    (sm : Vec F S16x512 .f32) :
    (iprop(owns (c : Thread nD τ) arg5 fullShare K ∗ owns (c : Thread nD τ) arg6 fullShare V ∗ owns (c : Thread nD τ) arg7 fullShare KM
        ∗ owns (c : Thread nD τ) arg8 fullShare VM ∗ owns (c : Thread nD τ) sIn fullShare S
        ∗ (∃ g, owns (c : Thread nD τ) sOut fullShare g) ∗ owns (c : Thread nD τ) arg14 fullShare sm) : sProp 𝕄)
      ⊢ WP (wholePass arg5 arg6 arg7 arg8 sIn sOut arg14 m p q) (fun r => iprop(owns (c : Thread nD τ) arg5 fullShare K
        ∗ owns (c : Thread nD τ) arg6 fullShare V ∗ owns (c : Thread nD τ) arg7 fullShare KM
        ∗ owns (c : Thread nD τ) arg8 fullShare VM ∗ owns (c : Thread nD τ) sIn fullShare S
        ∗ owns (c : Thread nD τ) sOut fullShare (scores q K) ∗ owns (c : Thread nD τ) arg14 fullShare (metaScore q KM)
        ∗ ⌜r = ⟨runMax q K 32, runAcc (allMax m p) S V (metaAcc (allMax m p) sm VM) 32, exp2 (subf m (allMax m p))⟩⌝)) := by
  unfold wholePass
  have h := fun (s : Vec F S16x512 .f32) (v : Vec F S1x1x80x16 .bf16) => Hoare.frame _ _ _ (iprop(owns (c : Thread nD τ) arg7 fullShare KM
      ∗ owns (c : Thread nD τ) arg8 fullShare VM ∗ owns (c : Thread nD τ) arg14 fullShare sm) : sProp 𝕄)
    (trips_run c E (blockStep arg5 arg6 sIn sOut q (allMax m p)) (fun n a => BlockInv c arg5 arg6 sIn sOut q K (allMax m p) S V (metaAcc (allMax m p) s v) n a)
      (fun u a => blockStep_run c E arg5 arg6 sIn sOut q K (allMax m p) S V (metaAcc (allMax m p) s v) u a)
      32 (by decide) (constant S8x512 .f32 0xFF800000#32, metaAcc (allMax m p) s v))
  unfold owns
  iintro ⟨⟨%f5, %hf5, H5⟩, ⟨%f6, %hf6, H6⟩, ⟨%f7, %hf7, H7⟩, ⟨%f8, %hf8, H8⟩, ⟨%fi, %hfi, Hi⟩, ⟨%d, %fo, -, Ho⟩, ⟨%f14, %hf14, H14⟩⟩
  subst hf5 hf6 hf7 hf8 hfi hf14
  have h0 := Filled.zero q (View.read (Elt F) arg5.view f5) (View.read (Elt F) sOut.view fo)
  sl_exec
  sl_step
  isplitl [Htrips_1]
  · iexists ftrips_0; isplitr; · ipureintro; assumption
    iexact Htrips_1
  isplitl [Htrips_7]
  · iexists ftrips_3; isplitr; · ipureintro; assumption
    iexact Htrips_7
  isplitl [Htrips_12]
  · iexists ftrips_5; isplitr; · ipureintro; assumption
    iexact Htrips_12
  isplitl [Htrips_14]
  · iexists ftrips_6; isplitr; · ipureintro; assumption
    iexact Htrips_14
  isplitl [Htrips_9]
  · iexists ftrips_4; isplitr; · ipureintro; assumption
    iexact Htrips_9
  isplitl [Htrips_4]
  · iexists ftrips_2; isplitr
    · ipureintro
      rw [htrips_3]; exact htrips_2.all
    iexact Htrips_4
  isplitl [Htrips_16]
  · iexists _; isplitr
    swap; · iexact Htrips_16
    ipureintro
    rw [View.read_writes_eq_canon _ _ _ (View.cover_of_tiled _ S16x512.size (by rfl)), shapeCast_self, View.canon_unit_zero zero2,
      View.readAt_eq_ld, View.ld_unit_zero zero4, htrips_11]
  ipureintro
  dsimp only at htrips_5 htrips_10 ⊢
  rw [htrips_5, htrips_10, View.readAt_eq_ld, View.ld_unit_zero zero2, View.readAt_eq_ld, View.ld_unit_zero zero4]

end Triples

end Cert.KernelIdeal.Blocks

end
-- ==== Proof.Point.lean ====
/-
  One grid point: what the kernel's body leaves.

  A point's queries have their scores in one score buffer (by the parity of the point's position in its row), and the body
  leaves the next queries' scores in the other. The first point of a row computes its own scores first.
-/
module

public import proofs.«01_k».proof.Proof.Pass

@[expose] public section

set_option maxRecDepth 16384

noncomputable section

namespace Cert.KernelIdeal.Blocks

open Cert.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

/-! ## What a point computes -/

abbrev rQ0 : Rect S1x4x64x128 := Rect.unit (s := S1x4x64x128) ![0, 0, 0, 0] S1x1x64x128.size inb_S1x4x64x128_S1x1x64x128_0_0_0_0
abbrev rQ1 : Rect S1x4x64x128 := Rect.unit (s := S1x4x64x128) ![0, 1, 0, 0] S1x1x64x128.size inb_S1x4x64x128_S1x1x64x128_0_1_0_0
abbrev rQ2 : Rect S1x4x64x128 := Rect.unit (s := S1x4x64x128) ![0, 2, 0, 0] S1x1x64x128.size inb_S1x4x64x128_S1x1x64x128_0_2_0_0
abbrev rQ3 : Rect S1x4x64x128 := Rect.unit (s := S1x4x64x128) ![0, 3, 0, 0] S1x1x64x128.size inb_S1x4x64x128_S1x1x64x128_0_3_0_0

/-- One head's queries, from a block's part. -/
def head (x : Vec F S1x1x64x128 .bf16) : FVec F S64x128 .bf16 := shapeCast S64x128 x shapeCasts_S1x1x64x128_S64x128

/-- Four heads' queries side by side. -/
def beside (a b c d : FVec F S64x128 .bf16) : FVec F S64x512 .bf16 :=
  concatenate S64x512 1 [⟨S64x128, a⟩, ⟨S64x128, b⟩, ⟨S64x128, c⟩, ⟨S64x128, d⟩] concatenates_S64x128_S64x128_S64x128_S64x128_S64x512_d1

/-- A block's queries, the four heads side by side. -/
def catQ (Q : Vec F S1x4x64x128 .bf16) : FVec F S64x512 .bf16 :=
  beside (head (View.ld Q rQ0)) (head (View.ld Q rQ1)) (head (View.ld Q rQ2)) (head (View.ld Q rQ3))

/-- The maximum of the meta keys' scores. -/
def metaMax (s : Vec F S16x512 .f32) : FVec F S1x512 .f32 :=
  shapeCast S1x512 (multiReduction .maximumf [0] S512 (s : FVec F S16x512 .f32) 0xFF800000#32 reduces_S16x512_S512 (.inl rfl) rfl)
    shapeCasts_S512_S1x512

/-- The array of zeros the weighted values begin from. -/
def zeros : FVec F S80x512 .f32 := broadcast S80x512 (Scalar.ofBits .f32 0x00000000#32)

/-- All the weighted values: the zeros rescaled to the maximum over all the keys, and the meta keys' and the sub-blocks'
    added. -/
def total (M : FVec F S1x512 .f32) (z : FVec F S80x512 .f32) (P : Vec F S8x512 .f32) (sm : Vec F S16x512 .f32)
    (S : Vec F S8192x512 .f32) (V : Vec F S1x1x80x8192 .bf16) (VM : Vec F S1x1x80x16 .bf16) : FVec F S80x512 .f32 :=
  addf (mulf (broadcastTo S80x512 (exp2 (subf M (allMax M P))) broadcasts_S1x512_S80x512) z)
    (runAcc (allMax M P) S V (metaAcc (allMax M P) sm VM) 32)

/-- The weighted values over the weights' sum (row 64), the heads' columns side by side. -/
def normalized (a : FVec F S80x512 .f32) : FVec F S128x256 .f32 :=
  let r := divf (extractStridedSlice S64x512 ![0, 0] a slices_S80x512_o0_0_S64x512)
    (broadcastTo S64x512 (extractStridedSlice S1x512 ![64, 0] a slices_S80x512_o64_0_S1x512) broadcasts_S1x512_S64x512)
  transpose S128x256 [1, 0] (concatenate S256x128 0
    [⟨S64x128, extractStridedSlice S64x128 ![0, 0] r slices_S64x512_o0_0_S64x128⟩,
     ⟨S64x128, extractStridedSlice S64x128 ![0, 128] r slices_S64x512_o0_128_S64x128⟩,
     ⟨S64x128, extractStridedSlice S64x128 ![0, 256] r slices_S64x512_o0_256_S64x128⟩,
     ⟨S64x128, extractStridedSlice S64x128 ![0, 384] r slices_S64x512_o0_384_S64x128⟩]
    concatenates_S64x128_S64x128_S64x128_S64x128_S256x128_d0) transposes_S256x128_p1_0_S128x256

/-- The point's result: the normalised values gated. -/
def gated (a : FVec F S80x512 .f32) (Z : Vec F S1x128x256 .f32) : FVec F S128x256 .bf16 :=
  let z : FVec F S128x256 .f32 := shapeCast S128x256 Z shapeCasts_S1x128x256_S128x256
  truncf .bf16 (mulf (normalized a) (mulf z (logistic z))) bitsLt_bf16_f32

/-- What a point leaves in its result's block, from the blocks of the queries, keys, values and gate. -/
def outBlock (Q : Vec F S1x4x64x128 .bf16) (K : Vec F S1x1x8192x64 .bf16) (V : Vec F S1x1x80x8192 .bf16)
    (KM : Vec F S1x1x16x64 .bf16) (VM : Vec F S1x1x80x16 .bf16) (Z : Vec F S1x128x256 .f32) : Vec F S1x128x256 .bf16 :=
  shapeCast S1x128x256 (gated (total (metaMax (metaScore (catQ Q) KM)) zeros (runMax (catQ Q) K 32) (metaScore (catQ Q) KM)
    (scores (catQ Q) K) V VM) Z) shapeCasts_S128x256_S1x128x256

/-- Which score buffer a position reads. -/
def current (n : ℕ) (g0 g1 : Vec F S8192x512 .f32) : Vec F S8192x512 .f32 := if n % 2 = 0 then g0 else g1

/-! ## The conditions -/

theorem first_iff : ∀ n : Fin 64, Scalar.cmpi .ne (Scalar.extui (Scalar.cmpi .eq (BitVec.ofNat 32 n.val) 0#32) : BitVec 32) 0#32 = 1#1 ↔ n.val = 0 := by
  decide +kernel

/-- The printed test of a position's parity. -/
abbrev evenBit (a : BitVec 32) : BitVec 1 :=
  let v27 : BitVec 32 := Scalar.select (Scalar.cmpi .eq (2#32 : BitVec 32) 0#32) 1#32 2#32
  let v28 : BitVec 32 := Scalar.remsi a v27
  let v33 : BitVec 1 := Scalar.andi (Scalar.xori (Scalar.cmpi .slt v28 0#32) (Scalar.cmpi .slt v27 0#32)) (Scalar.cmpi .ne v28 0#32)
  Scalar.cmpi .ne (Scalar.extui (Scalar.cmpi .eq (Scalar.select v33 (Scalar.addi v28 v27) v28) 0#32) : BitVec 32) 0#32

theorem even_iff : ∀ n : Fin 64, evenBit (BitVec.ofNat 32 n.val) = 1#1 ↔ n.val % 2 = 0 := by
  decide +kernel

section Triples

variable (c : Dev nD) (E : Set ℕ)

local notation "WP" => wp (M := 𝕄) frame (wpE (defs₀ (F := F)) Variants.none (c : Thread nD τ) none) E

variable (i : grid0.Coords) (arg3 : Memref sig .tc .vmem S1x4x64x128 .bf16) (harg3 : arg3.IsWhole) (arg4 : Memref sig .tc .vmem S1x4x64x128 .bf16) (harg4 : arg4.IsWhole) (arg5 : Memref sig .tc .vmem S1x1x8192x64 .bf16) (harg5 : arg5.IsWhole) (arg6 : Memref sig .tc .vmem S1x1x80x8192 .bf16) (harg6 : arg6.IsWhole) (arg7 : Memref sig .tc .vmem S1x1x16x64 .bf16) (harg7 : arg7.IsWhole) (arg8 : Memref sig .tc .vmem S1x1x80x16 .bf16) (harg8 : arg8.IsWhole) (arg9 : Memref sig .tc .vmem S1x128x256 .f32) (harg9 : arg9.IsWhole) (arg10 : Memref sig .tc .vmem S1x128x256 .bf16) (harg10 : arg10.IsWhole) (arg11 : Memref sig .tc .vmem S8192x512 .f32) (harg11 : arg11.IsWhole) (arg12 : Memref sig .tc .vmem S8192x512 .f32) (harg12 : arg12.IsWhole) (arg13 : Memref sig .tc .vmem S8x512 .f32) (harg13 : arg13.IsWhole) (arg14 : Memref sig .tc .vmem S16x512 .f32) (harg14 : arg14.IsWhole)

/-- The body up to its `cond`, at the first point of a row: the row's first scores are computed. -/
theorem part49_first (Q QN : Vec F S1x4x64x128 .bf16) (K : Vec F S1x1x8192x64 .bf16) (KM : Vec F S1x1x16x64 .bf16)
    (h : (i 2).val = 0) :
    (iprop(owns (c : Thread nD τ) arg3 fullShare Q ∗ owns (c : Thread nD τ) arg4 fullShare QN ∗ owns (c : Thread nD τ) arg5 fullShare K
        ∗ owns (c : Thread nD τ) arg7 fullShare KM
        ∗ (∃ g, owns (c : Thread nD τ) arg11 fullShare g) ∗ (∃ g, owns (c : Thread nD τ) arg12 fullShare g)
        ∗ (∃ g, owns (c : Thread nD τ) arg13 fullShare g) ∗ (∃ g, owns (c : Thread nD τ) arg14 fullShare g)) : sProp 𝕄)
      ⊢ WP (k0_part49 i arg3 harg3 arg4 harg4 arg5 harg5 arg6 harg6 arg7 harg7 arg8 harg8 arg9 harg9 arg10 harg10 arg11 harg11 arg12 harg12 arg13 harg13 arg14 harg14)
        (fun r => iprop(owns (c : Thread nD τ) arg3 fullShare Q ∗ owns (c : Thread nD τ) arg4 fullShare QN ∗ owns (c : Thread nD τ) arg5 fullShare K
        ∗ owns (c : Thread nD τ) arg7 fullShare KM
        ∗ owns (c : Thread nD τ) arg11 fullShare (scores (catQ Q) K) ∗ (∃ g, owns (c : Thread nD τ) arg12 fullShare g)
        ∗ owns (c : Thread nD τ) arg13 fullShare (runMax (catQ Q) K 32) ∗ owns (c : Thread nD τ) arg14 fullShare (metaScore (catQ Q) KM)
        ∗ ⌜r = ⟨BitVec.ofNat 32 (i 2).val, metaMax (metaScore (catQ Q) KM), zeros, runMax (catQ Q) K 32, head (View.ld QN rQ0), head (View.ld QN rQ1)⟩⌝)) := by
  have hc := (first_iff (i 2)).mpr h
  have hcut := fun q => firstPass_run c E arg5 arg7 arg11 arg13 q K KM
  simp only [← part10_eq i arg3 harg3 arg4 harg4 arg5 harg5 arg6 harg6 arg7 harg7 arg8 harg8 arg9 harg9 arg10 harg10 arg11 harg11 arg12 harg12 arg13 harg13 arg14 harg14] at hcut
  unfold k0_part49 owns
  iintro ⟨⟨%f3, %hf3, H3⟩, ⟨%f4, %hf4, H4⟩, ⟨%f5, %hf5, H5⟩, ⟨%f7, %hf7, H7⟩, ⟨%d11, %f11, -, H11⟩, H12, ⟨%d13, %f13, -, H13⟩, ⟨%d14, %f14, -, H14⟩⟩
  subst hf3 hf4 hf5 hf7
  sl_exec
  rw [show part49_first.sl.v8 c arg3 f3 = catQ (View.read (Elt F) arg3.view f3) from rfl] at hk0_part10_4 hk0_part10_6 hk0_part10_8
  subst hk0_part10_8
  sl_step
  isplitl [H3]
  · iexists f3; isplitr; · ipureintro; rfl
    iexact H3
  isplitl [H4]
  · iexists f4; isplitr; · ipureintro; rfl
    iexact H4
  isplitl [Hk0_part10_1]
  · iexists fk0_part10_0; isplitr; · ipureintro; assumption
    iexact Hk0_part10_1
  isplitl [Hk0_part10_3]
  · iexists fk0_part10_1; isplitr; · ipureintro; assumption
    iexact Hk0_part10_3
  isplitl [Hk0_part10_5]
  · iexists fk0_part10_2; isplitr; · ipureintro; assumption
    iexact Hk0_part10_5
  isplitl [H12]; · iexact H12
  isplitl [Hk0_part10_7]
  · iexists fk0_part10_3; isplitr; · ipureintro; assumption
    iexact Hk0_part10_7
  isplitl [H14]
  · iexists _; isplitr
    swap; · iexact H14
    ipureintro
    unfold part49_first.sl.H14_1 part49_first.sl.v357
    rw [View.read_writes_eq_canon _ _ _ (View.cover_of_tiled _ S16x512.size (by rfl)), shapeCast_self, View.canon_unit_zero zero2]
  ipureintro
  rw [View.readAt_eq_ld, View.ld_unit_zero zero2, hk0_part10_6]
  rw [show part49_first.sl.v14 c arg14 (metaScore (catQ (View.read (Elt F) arg3.view f3)) (View.read (Elt F) arg7.view f7))
      = metaMax (metaScore (catQ (View.read (Elt F) arg3.view f3)) (View.read (Elt F) arg7.view f7)) from ?_]
  · rfl
  clear * -
  unfold part49_first.sl.v14 part49_first.sl.v13 part49_first.sl.v12
  rw [View.readCov_eq_canon_ld _ _ _ (View.cover_of_tiled _ S16x512.size (by rfl)), View.ld_unit_zero zero2]
  unfold part49_first.sl.H14_1 part49_first.sl.v357
  rw [shapeCast_self, View.canon_unit_zero zero2]
  rfl

/-- The body up to its `cond`, at a later point of a row: the scores are there. -/
theorem part49_later (Q QN : Vec F S1x4x64x128 .bf16) (p : Vec F S8x512 .f32) (sm : Vec F S16x512 .f32)
    (h : (i 2).val ≠ 0) :
    (iprop(owns (c : Thread nD τ) arg3 fullShare Q ∗ owns (c : Thread nD τ) arg4 fullShare QN ∗ owns (c : Thread nD τ) arg13 fullShare p ∗ owns (c : Thread nD τ) arg14 fullShare sm) : sProp 𝕄)
      ⊢ WP (k0_part49 i arg3 harg3 arg4 harg4 arg5 harg5 arg6 harg6 arg7 harg7 arg8 harg8 arg9 harg9 arg10 harg10 arg11 harg11 arg12 harg12 arg13 harg13 arg14 harg14)
        (fun r => iprop(owns (c : Thread nD τ) arg3 fullShare Q ∗ owns (c : Thread nD τ) arg4 fullShare QN ∗ owns (c : Thread nD τ) arg13 fullShare p ∗ owns (c : Thread nD τ) arg14 fullShare sm
        ∗ ⌜r = ⟨BitVec.ofNat 32 (i 2).val, metaMax sm, zeros, p, head (View.ld QN rQ0), head (View.ld QN rQ1)⟩⌝)) := by
  have hc : ¬ _ := mt (first_iff (i 2)).mp h
  unfold k0_part49 owns
  iintro ⟨⟨%f3, %hf3, H3⟩, ⟨%f4, %hf4, H4⟩, ⟨%f13, %hf13, H13⟩, ⟨%f14, %hf14, H14⟩⟩
  subst hf3 hf4 hf13 hf14
  sl_exec
  sl_step
  isplitl [H3]
  · iexists f3; isplitr; · ipureintro; first | rfl | assumption
    iexact H3
  isplitl [H4]
  · iexists f4; isplitr; · ipureintro; first | rfl | assumption
    iexact H4
  isplitl [H13]
  · iexists f13; isplitr; · ipureintro; first | rfl | assumption
    iexact H13
  isplitl [H14]
  · iexists f14; isplitr; · ipureintro; first | rfl | assumption
    iexact H14
  ipureintro
  rw [View.readAt_eq_ld, View.ld_unit_zero zero2]
  unfold part49_later.sl.v14 part49_later.sl.v13
  rw [View.readAt_eq_ld, View.ld_unit_zero zero2]
  rfl

/-- The body from its `cond` on, at an even position. -/
theorem part50_even (M : FVec F S1x512 .f32) (z : FVec F S80x512 .f32) (P : Vec F S8x512 .f32) (a b : FVec F S64x128 .bf16)
    (QN : Vec F S1x4x64x128 .bf16) (K : Vec F S1x1x8192x64 .bf16)
    (V : Vec F S1x1x80x8192 .bf16) (KM : Vec F S1x1x16x64 .bf16) (VM : Vec F S1x1x80x16 .bf16) (Z : Vec F S1x128x256 .f32)
    (S : Vec F S8192x512 .f32) (sm : Vec F S16x512 .f32) (h : (i 2).val % 2 = 0) :
    (iprop(owns (c : Thread nD τ) arg4 fullShare QN ∗ owns (c : Thread nD τ) arg5 fullShare K ∗ owns (c : Thread nD τ) arg6 fullShare V
        ∗ owns (c : Thread nD τ) arg7 fullShare KM ∗ owns (c : Thread nD τ) arg8 fullShare VM ∗ owns (c : Thread nD τ) arg9 fullShare Z
        ∗ owns (c : Thread nD τ) arg11 fullShare S ∗ (∃ g, owns (c : Thread nD τ) arg12 fullShare g) ∗ (∃ g, owns (c : Thread nD τ) arg13 fullShare g)
        ∗ owns (c : Thread nD τ) arg14 fullShare sm) : sProp 𝕄)
      ⊢ WP (k0_part50 i arg3 harg3 arg4 harg4 arg5 harg5 arg6 harg6 arg7 harg7 arg8 harg8 arg9 harg9 arg10 harg10 arg11 harg11 arg12 harg12 arg13 harg13 arg14 harg14 (BitVec.ofNat 32 (i 2).val) M z P a b)
        (fun r => iprop(owns (c : Thread nD τ) arg4 fullShare QN ∗ owns (c : Thread nD τ) arg5 fullShare K ∗ owns (c : Thread nD τ) arg6 fullShare V
        ∗ owns (c : Thread nD τ) arg7 fullShare KM ∗ owns (c : Thread nD τ) arg8 fullShare VM ∗ owns (c : Thread nD τ) arg9 fullShare Z
        ∗ owns (c : Thread nD τ) arg11 fullShare S ∗ owns (c : Thread nD τ) arg12 fullShare (scores (beside a b (head (View.ld QN rQ2)) (head (View.ld QN rQ3))) K)
        ∗ owns (c : Thread nD τ) arg13 fullShare (runMax (beside a b (head (View.ld QN rQ2)) (head (View.ld QN rQ3))) K 32)
        ∗ owns (c : Thread nD τ) arg14 fullShare (metaScore (beside a b (head (View.ld QN rQ2)) (head (View.ld QN rQ3))) KM)
        ∗ ⌜r = gated (total M z P sm S V VM) Z⌝)) := by
  have hc := (even_iff (i 2)).mpr h
  unfold evenBit at hc
  have hcut := fun q => wholePass_run c E arg5 arg6 arg7 arg8 arg11 arg12 arg14 M P q K V KM VM S sm
  simp only [← part29_eq i arg3 harg3 arg4 harg4 arg5 harg5 arg6 harg6 arg7 harg7 arg8 harg8 arg9 harg9 arg10 harg10 arg11 harg11 arg12 harg12 arg13 harg13 arg14 harg14] at hcut
  unfold k0_part50 owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%fi, %hfi, Hi⟩, ⟨%d, %fo, -, Ho⟩, ⟨%d13, %f13, -, H13⟩, ⟨%f14, %hf14, H14⟩⟩
  subst hf4 hf5 hf6 hf7 hf8 hf9 hfi hf14
  sl_exec
  clear hcut
  have e1 := congrArg (fun x => x.1) hk0_part29_14
  have e2 := congrArg (fun x => x.2.1) hk0_part29_14
  have e3 := congrArg (fun x => x.2.2) hk0_part29_14
  dsimp only at e1 e2 e3
  subst e1 e2 e3
  sl_step
  isplitl [H4]
  · iexists f4; isplitr; · ipureintro; first | rfl | assumption
    iexact H4
  isplitl [Hk0_part29_1]
  · iexists fk0_part29_0; isplitr; · ipureintro; first | rfl | assumption
    iexact Hk0_part29_1
  isplitl [Hk0_part29_3]
  · iexists fk0_part29_1; isplitr; · ipureintro; first | rfl | assumption
    iexact Hk0_part29_3
  isplitl [Hk0_part29_5]
  · iexists fk0_part29_2; isplitr; · ipureintro; first | rfl | assumption
    iexact Hk0_part29_5
  isplitl [Hk0_part29_7]
  · iexists fk0_part29_3; isplitr; · ipureintro; first | rfl | assumption
    iexact Hk0_part29_7
  isplitl [H9]
  · iexists f9; isplitr; · ipureintro; first | rfl | assumption
    iexact H9
  isplitl [Hk0_part29_9]
  · iexists fk0_part29_4; isplitr; · ipureintro; first | rfl | assumption
    iexact Hk0_part29_9
  isplitl [Hk0_part29_11]
  · iexists fk0_part29_5; isplitr; · ipureintro; first | rfl | assumption
    iexact Hk0_part29_11
  isplitl [H13]
  · iexists _; isplitr
    swap; · iexact H13
    ipureintro
    unfold part50_even.sl.v42
    rw [View.read_writes_eq_canon _ _ _ (View.cover_of_tiled _ S8x512.size (by rfl)), shapeCast_self, View.canon_unit_zero zero2]
    rfl
  isplitl [Hk0_part29_13]
  · iexists fk0_part29_6; isplitr; · ipureintro; first | rfl | assumption
    iexact Hk0_part29_13
  ipureintro
  refine (show _ = gated _ (View.ld (View.read (Elt F) arg9.view f9) (Rect.unit (s := S1x128x256) ![0, 0, 0] S1x128x256.size inb_S1x128x256_S1x128x256_0_0_0)) from rfl).trans ?_
  rw [View.ld_unit_zero zero3]
  rfl

/-- The body from its `cond` on, at an odd position. -/
theorem part50_odd (M : FVec F S1x512 .f32) (z : FVec F S80x512 .f32) (P : Vec F S8x512 .f32) (a b : FVec F S64x128 .bf16)
    (QN : Vec F S1x4x64x128 .bf16) (K : Vec F S1x1x8192x64 .bf16)
    (V : Vec F S1x1x80x8192 .bf16) (KM : Vec F S1x1x16x64 .bf16) (VM : Vec F S1x1x80x16 .bf16) (Z : Vec F S1x128x256 .f32)
    (S : Vec F S8192x512 .f32) (sm : Vec F S16x512 .f32) (h : (i 2).val % 2 ≠ 0) :
    (iprop(owns (c : Thread nD τ) arg4 fullShare QN ∗ owns (c : Thread nD τ) arg5 fullShare K ∗ owns (c : Thread nD τ) arg6 fullShare V
        ∗ owns (c : Thread nD τ) arg7 fullShare KM ∗ owns (c : Thread nD τ) arg8 fullShare VM ∗ owns (c : Thread nD τ) arg9 fullShare Z
        ∗ owns (c : Thread nD τ) arg12 fullShare S ∗ (∃ g, owns (c : Thread nD τ) arg11 fullShare g) ∗ (∃ g, owns (c : Thread nD τ) arg13 fullShare g)
        ∗ owns (c : Thread nD τ) arg14 fullShare sm) : sProp 𝕄)
      ⊢ WP (k0_part50 i arg3 harg3 arg4 harg4 arg5 harg5 arg6 harg6 arg7 harg7 arg8 harg8 arg9 harg9 arg10 harg10 arg11 harg11 arg12 harg12 arg13 harg13 arg14 harg14 (BitVec.ofNat 32 (i 2).val) M z P a b)
        (fun r => iprop(owns (c : Thread nD τ) arg4 fullShare QN ∗ owns (c : Thread nD τ) arg5 fullShare K ∗ owns (c : Thread nD τ) arg6 fullShare V
        ∗ owns (c : Thread nD τ) arg7 fullShare KM ∗ owns (c : Thread nD τ) arg8 fullShare VM ∗ owns (c : Thread nD τ) arg9 fullShare Z
        ∗ owns (c : Thread nD τ) arg12 fullShare S ∗ owns (c : Thread nD τ) arg11 fullShare (scores (beside a b (head (View.ld QN rQ2)) (head (View.ld QN rQ3))) K)
        ∗ owns (c : Thread nD τ) arg13 fullShare (runMax (beside a b (head (View.ld QN rQ2)) (head (View.ld QN rQ3))) K 32)
        ∗ owns (c : Thread nD τ) arg14 fullShare (metaScore (beside a b (head (View.ld QN rQ2)) (head (View.ld QN rQ3))) KM)
        ∗ ⌜r = gated (total M z P sm S V VM) Z⌝)) := by
  have hc: ¬ _ := mt (even_iff (i 2)).mp h
  unfold evenBit at hc
  have hcut := fun q => wholePass_run c E arg5 arg6 arg7 arg8 arg12 arg11 arg14 M P q K V KM VM S sm
  simp only [← part48_eq i arg3 harg3 arg4 harg4 arg5 harg5 arg6 harg6 arg7 harg7 arg8 harg8 arg9 harg9 arg10 harg10 arg11 harg11 arg12 harg12 arg13 harg13 arg14 harg14] at hcut
  unfold k0_part50 owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%fi, %hfi, Hi⟩, ⟨%d, %fo, -, Ho⟩, ⟨%d13, %f13, -, H13⟩, ⟨%f14, %hf14, H14⟩⟩
  subst hf4 hf5 hf6 hf7 hf8 hf9 hfi hf14
  sl_exec
  clear hcut
  have e1 := congrArg (fun x => x.1) hk0_part48_14
  have e2 := congrArg (fun x => x.2.1) hk0_part48_14
  have e3 := congrArg (fun x => x.2.2) hk0_part48_14
  dsimp only at e1 e2 e3
  subst e1 e2 e3
  sl_step
  isplitl [H4]
  · iexists f4; isplitr; · ipureintro; first | rfl | assumption
    iexact H4
  isplitl [Hk0_part48_1]
  · iexists fk0_part48_0; isplitr; · ipureintro; first | rfl | assumption
    iexact Hk0_part48_1
  isplitl [Hk0_part48_3]
  · iexists fk0_part48_1; isplitr; · ipureintro; first | rfl | assumption
    iexact Hk0_part48_3
  isplitl [Hk0_part48_5]
  · iexists fk0_part48_2; isplitr; · ipureintro; first | rfl | assumption
    iexact Hk0_part48_5
  isplitl [Hk0_part48_7]
  · iexists fk0_part48_3; isplitr; · ipureintro; first | rfl | assumption
    iexact Hk0_part48_7
  isplitl [H9]
  · iexists f9; isplitr; · ipureintro; first | rfl | assumption
    iexact H9
  isplitl [Hk0_part48_9]
  · iexists fk0_part48_4; isplitr; · ipureintro; first | rfl | assumption
    iexact Hk0_part48_9
  isplitl [Hk0_part48_11]
  · iexists fk0_part48_5; isplitr; · ipureintro; first | rfl | assumption
    iexact Hk0_part48_11
  isplitl [H13]
  · iexists _; isplitr
    swap; · iexact H13
    ipureintro
    unfold part50_odd.sl.v42
    rw [View.read_writes_eq_canon _ _ _ (View.cover_of_tiled _ S8x512.size (by rfl)), shapeCast_self, View.canon_unit_zero zero2]
    rfl
  isplitl [Hk0_part48_13]
  · iexists fk0_part48_6; isplitr; · ipureintro; first | rfl | assumption
    iexact Hk0_part48_13
  ipureintro
  refine (show _ = gated _ (View.ld (View.read (Elt F) arg9.view f9) (Rect.unit (s := S1x128x256) ![0, 0, 0] S1x128x256.size inb_S1x128x256_S1x128x256_0_0_0)) from rfl).trans ?_
  rw [View.ld_unit_zero zero3]
  rfl

/-- The scratch buffers hold the queries `q`'s scores (in the buffer position `n` reads), running maxima and meta scores. -/
def Ready (n : ℕ) (q : FVec F S64x512 .bf16) (K : Vec F S1x1x8192x64 .bf16) (KM : Vec F S1x1x16x64 .bf16)
    (g0 g1 : Vec F S8192x512 .f32) (gp : Vec F S8x512 .f32) (gm : Vec F S16x512 .f32) : Prop :=
  current n g0 g1 = scores q K ∧ gp = runMax q K 32 ∧ gm = metaScore q KM

/-- The whole body at one point: from scratch buffers ready for the point's queries `Q` (at a row's first point, from
    any), it leaves the result's block at `outBlock` and the scratch buffers ready for the next queries `QN`. -/
theorem body_run (Q QN : Vec F S1x4x64x128 .bf16) (K : Vec F S1x1x8192x64 .bf16)
    (V : Vec F S1x1x80x8192 .bf16) (KM : Vec F S1x1x16x64 .bf16) (VM : Vec F S1x1x80x16 .bf16) (Z : Vec F S1x128x256 .f32)
    (g0 g1 : Vec F S8192x512 .f32) (gp : Vec F S8x512 .f32) (gm : Vec F S16x512 .f32)
    (hr : (i 2).val ≠ 0 → Ready (i 2).val (catQ Q) K KM g0 g1 gp gm) :
    (iprop(owns (c : Thread nD τ) arg3 fullShare Q ∗ owns (c : Thread nD τ) arg4 fullShare QN ∗ owns (c : Thread nD τ) arg5 fullShare K ∗ owns (c : Thread nD τ) arg6 fullShare V
        ∗ owns (c : Thread nD τ) arg7 fullShare KM ∗ owns (c : Thread nD τ) arg8 fullShare VM ∗ owns (c : Thread nD τ) arg9 fullShare Z ∗ (∃ g, owns (c : Thread nD τ) arg10 fullShare g)
        ∗ owns (c : Thread nD τ) arg11 fullShare g0 ∗ owns (c : Thread nD τ) arg12 fullShare g1 ∗ owns (c : Thread nD τ) arg13 fullShare gp ∗ owns (c : Thread nD τ) arg14 fullShare gm) : sProp 𝕄)
      ⊢ WP (cc0_attn_b i arg3 harg3 arg4 harg4 arg5 harg5 arg6 harg6 arg7 harg7 arg8 harg8 arg9 harg9 arg10 harg10 arg11 harg11 arg12 harg12 arg13 harg13 arg14 harg14)
        (fun _ => iprop(owns (c : Thread nD τ) arg3 fullShare Q ∗ owns (c : Thread nD τ) arg4 fullShare QN ∗ owns (c : Thread nD τ) arg5 fullShare K ∗ owns (c : Thread nD τ) arg6 fullShare V
        ∗ owns (c : Thread nD τ) arg7 fullShare KM ∗ owns (c : Thread nD τ) arg8 fullShare VM ∗ owns (c : Thread nD τ) arg9 fullShare Z ∗ owns (c : Thread nD τ) arg10 fullShare (outBlock Q K V KM VM Z)
        ∗ ∃ g0' g1' gp' gm', ⌜Ready ((i 2).val + 1) (catQ QN) K KM g0' g1' gp' gm'⌝
          ∗ owns (c : Thread nD τ) arg11 fullShare g0' ∗ owns (c : Thread nD τ) arg12 fullShare g1' ∗ owns (c : Thread nD τ) arg13 fullShare gp' ∗ owns (c : Thread nD τ) arg14 fullShare gm')) := by
  by_cases h0 : (i 2).val = 0
  · have cut50 := part50_even c E i arg3 harg3 arg4 harg4 arg5 harg5 arg6 harg6 arg7 harg7 arg8 harg8 arg9 harg9 arg10 harg10 arg11 harg11 arg12 harg12 arg13 harg13 arg14 harg14 (metaMax (metaScore (catQ Q) KM)) zeros (runMax (catQ Q) K 32) (head (View.ld QN rQ0)) (head (View.ld QN rQ1)) QN K V KM VM Z (scores (catQ Q) K) (metaScore (catQ Q) KM) (by omega)
    unfold cc0_attn_b
    refine Hoare.bind _ _ _ (Hoare.conseq _ _ _ ?_ (fun _ => .rfl) (Hoare.frame _ _ _ (iprop(owns (c : Thread nD τ) arg6 fullShare V ∗ owns (c : Thread nD τ) arg8 fullShare VM ∗ owns (c : Thread nD τ) arg9 fullShare Z ∗ (∃ f, arg10.view.loc (c : Thread nD τ) ↦[arg10.view.set]{fullShare} f)) : sProp 𝕄)
      (part49_first c E i arg3 harg3 arg4 harg4 arg5 harg5 arg6 harg6 arg7 harg7 arg8 harg8 arg9 harg9 arg10 harg10 arg11 harg11 arg12 harg12 arg13 harg13 arg14 harg14 Q QN K KM h0))) fun r => ?_
    · unfold owns
      iintro ⟨H3, H4, H5, H6, H7, H8, H9, ⟨%d, %f10, -, H10⟩, H11, H12, H13, H14⟩
      isplitr [H6 H8 H9 H10]
      · isplitl [H3]; · iexact H3
        isplitl [H4]; · iexact H4
        isplitl [H5]; · iexact H5
        isplitl [H7]; · iexact H7
        isplitl [H11]; · iexists _; iexact H11
        isplitl [H12]; · iexists _; iexact H12
        isplitl [H13]; · iexists _; iexact H13
        iexists _; iexact H14
      isplitl [H6]; · iexact H6
      isplitl [H8]; · iexact H8
      isplitl [H9]; · iexact H9
      iexists f10; iexact H10
    show _ ⊢ WP _ _
    iintro ⟨⟨H3, H4, H5, H7, H11, ⟨%g, H12⟩, H13, H14, %hret⟩, H6, H8, H9, ⟨%f10, H10⟩⟩
    subst hret
    dsimp only
    sl_exec
    clear cut50
    sl_step
    unfold owns
    isplitl [H3]; · iexact H3
    isplitl [Hk0_part50_1]
    · iexists fk0_part50_0; isplitr; · ipureintro; assumption
      iexact Hk0_part50_1
    isplitl [Hk0_part50_3]
    · iexists fk0_part50_1; isplitr; · ipureintro; assumption
      iexact Hk0_part50_3
    isplitl [Hk0_part50_5]
    · iexists fk0_part50_2; isplitr; · ipureintro; assumption
      iexact Hk0_part50_5
    isplitl [Hk0_part50_7]
    · iexists fk0_part50_3; isplitr; · ipureintro; assumption
      iexact Hk0_part50_7
    isplitl [Hk0_part50_9]
    · iexists fk0_part50_4; isplitr; · ipureintro; assumption
      iexact Hk0_part50_9
    isplitl [Hk0_part50_11]
    · iexists fk0_part50_5; isplitr; · ipureintro; assumption
      iexact Hk0_part50_11
    isplitl [H10]
    · iexists _; isplitr
      swap; · iexact H10
      ipureintro
      rw [View.read_writes_eq_canon _ _ _ (View.cover_of_tiled _ S1x128x256.size (by rfl)), hk0_part50_20]
      exact View.canon_unit_zero zero3 _ _
    iexists (scores (catQ Q) K), (scores (catQ QN) K), (runMax (catQ QN) K 32), (metaScore (catQ QN) KM)
    isplitr
    · ipureintro
      exact ⟨by rw [current, if_neg (by omega)], rfl, rfl⟩
    isplitl [Hk0_part50_13]
    · iexists fk0_part50_6; isplitr; · ipureintro; assumption
      iexact Hk0_part50_13
    isplitl [Hk0_part50_15]
    · iexists fk0_part50_7; isplitr; · ipureintro; assumption
      iexact Hk0_part50_15
    isplitl [Hk0_part50_17]
    · iexists fk0_part50_8; isplitr; · ipureintro; assumption
      iexact Hk0_part50_17
    iexists fk0_part50_9; isplitr; · ipureintro; assumption
    iexact Hk0_part50_19
  · by_cases h2 : (i 2).val % 2 = 0
    · obtain ⟨hcur, rfl, rfl⟩ := hr h0
      rw [current, if_pos h2] at hcur
      subst hcur
      have cut50 := part50_even c E i arg3 harg3 arg4 harg4 arg5 harg5 arg6 harg6 arg7 harg7 arg8 harg8 arg9 harg9 arg10 harg10 arg11 harg11 arg12 harg12 arg13 harg13 arg14 harg14 (metaMax (metaScore (catQ Q) KM)) zeros (runMax (catQ Q) K 32) (head (View.ld QN rQ0)) (head (View.ld QN rQ1)) QN K V KM VM Z (scores (catQ Q) K) (metaScore (catQ Q) KM) h2
      unfold cc0_attn_b
      refine Hoare.bind _ _ _ (Hoare.conseq _ _ _ ?_ (fun _ => .rfl) (Hoare.frame _ _ _ (iprop(owns (c : Thread nD τ) arg5 fullShare K ∗ owns (c : Thread nD τ) arg6 fullShare V ∗ owns (c : Thread nD τ) arg7 fullShare KM ∗ owns (c : Thread nD τ) arg8 fullShare VM ∗ owns (c : Thread nD τ) arg9 fullShare Z ∗ (∃ f, arg10.view.loc (c : Thread nD τ) ↦[arg10.view.set]{fullShare} f) ∗ owns (c : Thread nD τ) arg11 fullShare (scores (catQ Q) K) ∗ owns (c : Thread nD τ) arg12 fullShare g1) : sProp 𝕄)
        (part49_later c E i arg3 harg3 arg4 harg4 arg5 harg5 arg6 harg6 arg7 harg7 arg8 harg8 arg9 harg9 arg10 harg10 arg11 harg11 arg12 harg12 arg13 harg13 arg14 harg14 Q QN (runMax (catQ Q) K 32) (metaScore (catQ Q) KM) h0))) fun r => ?_
      · unfold owns
        iintro ⟨H3, H4, H5, H6, H7, H8, H9, ⟨%d, %f10, -, H10⟩, H11, H12, H13, H14⟩
        isplitl [H3 H4 H13 H14]
        · isplitl [H3]; · iexact H3
          isplitl [H4]; · iexact H4
          isplitl [H13]; · iexact H13
          iexact H14
        isplitl [H5]; · iexact H5
        isplitl [H6]; · iexact H6
        isplitl [H7]; · iexact H7
        isplitl [H8]; · iexact H8
        isplitl [H9]; · iexact H9
        isplitl [H10]; · iexists f10; iexact H10
        isplitl [H11]; · iexact H11
        iexact H12
      show _ ⊢ WP _ _
      iintro ⟨⟨H3, H4, H13, H14, %hret⟩, H5, H6, H7, H8, H9, ⟨%f10, H10⟩, H11, H12⟩
      subst hret
      dsimp only
      sl_exec
      clear cut50
      sl_step
      unfold owns
      isplitl [H3]; · iexact H3
      isplitl [Hk0_part50_1]
      · iexists fk0_part50_0; isplitr; · ipureintro; assumption
        iexact Hk0_part50_1
      isplitl [Hk0_part50_3]
      · iexists fk0_part50_1; isplitr; · ipureintro; assumption
        iexact Hk0_part50_3
      isplitl [Hk0_part50_5]
      · iexists fk0_part50_2; isplitr; · ipureintro; assumption
        iexact Hk0_part50_5
      isplitl [Hk0_part50_7]
      · iexists fk0_part50_3; isplitr; · ipureintro; assumption
        iexact Hk0_part50_7
      isplitl [Hk0_part50_9]
      · iexists fk0_part50_4; isplitr; · ipureintro; assumption
        iexact Hk0_part50_9
      isplitl [Hk0_part50_11]
      · iexists fk0_part50_5; isplitr; · ipureintro; assumption
        iexact Hk0_part50_11
      isplitl [H10]
      · iexists _; isplitr
        swap; · iexact H10
        ipureintro
        rw [View.read_writes_eq_canon _ _ _ (View.cover_of_tiled _ S1x128x256.size (by rfl)), hk0_part50_20]
        exact View.canon_unit_zero zero3 _ _
      iexists (scores (catQ Q) K), (scores (catQ QN) K), (runMax (catQ QN) K 32), (metaScore (catQ QN) KM)
      isplitr
      · ipureintro
        exact ⟨by rw [current, if_neg (by omega)], rfl, rfl⟩
      isplitl [Hk0_part50_13]
      · iexists fk0_part50_6; isplitr; · ipureintro; assumption
        iexact Hk0_part50_13
      isplitl [Hk0_part50_15]
      · iexists fk0_part50_7; isplitr; · ipureintro; assumption
        iexact Hk0_part50_15
      isplitl [Hk0_part50_17]
      · iexists fk0_part50_8; isplitr; · ipureintro; assumption
        iexact Hk0_part50_17
      iexists fk0_part50_9; isplitr; · ipureintro; assumption
      iexact Hk0_part50_19
    · obtain ⟨hcur, rfl, rfl⟩ := hr h0
      rw [current, if_neg h2] at hcur
      subst hcur
      have cut50 := part50_odd c E i arg3 harg3 arg4 harg4 arg5 harg5 arg6 harg6 arg7 harg7 arg8 harg8 arg9 harg9 arg10 harg10 arg11 harg11 arg12 harg12 arg13 harg13 arg14 harg14 (metaMax (metaScore (catQ Q) KM)) zeros (runMax (catQ Q) K 32) (head (View.ld QN rQ0)) (head (View.ld QN rQ1)) QN K V KM VM Z (scores (catQ Q) K) (metaScore (catQ Q) KM) h2
      unfold cc0_attn_b
      refine Hoare.bind _ _ _ (Hoare.conseq _ _ _ ?_ (fun _ => .rfl) (Hoare.frame _ _ _ (iprop(owns (c : Thread nD τ) arg5 fullShare K ∗ owns (c : Thread nD τ) arg6 fullShare V ∗ owns (c : Thread nD τ) arg7 fullShare KM ∗ owns (c : Thread nD τ) arg8 fullShare VM ∗ owns (c : Thread nD τ) arg9 fullShare Z ∗ (∃ f, arg10.view.loc (c : Thread nD τ) ↦[arg10.view.set]{fullShare} f) ∗ owns (c : Thread nD τ) arg12 fullShare (scores (catQ Q) K) ∗ owns (c : Thread nD τ) arg11 fullShare g0) : sProp 𝕄)
        (part49_later c E i arg3 harg3 arg4 harg4 arg5 harg5 arg6 harg6 arg7 harg7 arg8 harg8 arg9 harg9 arg10 harg10 arg11 harg11 arg12 harg12 arg13 harg13 arg14 harg14 Q QN (runMax (catQ Q) K 32) (metaScore (catQ Q) KM) h0))) fun r => ?_
      · unfold owns
        iintro ⟨H3, H4, H5, H6, H7, H8, H9, ⟨%d, %f10, -, H10⟩, H11, H12, H13, H14⟩
        isplitl [H3 H4 H13 H14]
        · isplitl [H3]; · iexact H3
          isplitl [H4]; · iexact H4
          isplitl [H13]; · iexact H13
          iexact H14
        isplitl [H5]; · iexact H5
        isplitl [H6]; · iexact H6
        isplitl [H7]; · iexact H7
        isplitl [H8]; · iexact H8
        isplitl [H9]; · iexact H9
        isplitl [H10]; · iexists f10; iexact H10
        isplitl [H12]; · iexact H12
        iexact H11
      show _ ⊢ WP _ _
      iintro ⟨⟨H3, H4, H13, H14, %hret⟩, H5, H6, H7, H8, H9, ⟨%f10, H10⟩, H12, H11⟩
      subst hret
      dsimp only
      sl_exec
      clear cut50
      sl_step
      unfold owns
      isplitl [H3]; · iexact H3
      isplitl [Hk0_part50_1]
      · iexists fk0_part50_0; isplitr; · ipureintro; assumption
        iexact Hk0_part50_1
      isplitl [Hk0_part50_3]
      · iexists fk0_part50_1; isplitr; · ipureintro; assumption
        iexact Hk0_part50_3
      isplitl [Hk0_part50_5]
      · iexists fk0_part50_2; isplitr; · ipureintro; assumption
        iexact Hk0_part50_5
      isplitl [Hk0_part50_7]
      · iexists fk0_part50_3; isplitr; · ipureintro; assumption
        iexact Hk0_part50_7
      isplitl [Hk0_part50_9]
      · iexists fk0_part50_4; isplitr; · ipureintro; assumption
        iexact Hk0_part50_9
      isplitl [Hk0_part50_11]
      · iexists fk0_part50_5; isplitr; · ipureintro; assumption
        iexact Hk0_part50_11
      isplitl [H10]
      · iexists _; isplitr
        swap; · iexact H10
        ipureintro
        rw [View.read_writes_eq_canon _ _ _ (View.cover_of_tiled _ S1x128x256.size (by rfl)), hk0_part50_20]
        exact View.canon_unit_zero zero3 _ _
      iexists (scores (catQ QN) K), (scores (catQ Q) K), (runMax (catQ QN) K 32), (metaScore (catQ QN) KM)
      isplitr
      · ipureintro
        exact ⟨by rw [current, if_pos (by omega)], rfl, rfl⟩
      isplitl [Hk0_part50_15]
      · iexists fk0_part50_7; isplitr; · ipureintro; assumption
        iexact Hk0_part50_15
      isplitl [Hk0_part50_13]
      · iexists fk0_part50_6; isplitr; · ipureintro; assumption
        iexact Hk0_part50_13
      isplitl [Hk0_part50_17]
      · iexists fk0_part50_8; isplitr; · ipureintro; assumption
        iexact Hk0_part50_17
      iexists fk0_part50_9; isplitr; · ipureintro; assumption
      iexact Hk0_part50_19

end Triples

end Cert.KernelIdeal.Blocks

end
-- ==== Proof.Run.lean ====
/-
  The launch.

  Between two points of one row the next point's scores are ready (`Ready`): the invariant carries that. The run of @main
  follows for any float values, with the result array at the blocks the points leave and every argument unchanged.
-/
module

public import proofs.«01_k».proof.Proof.Point
public import proofs.«01_k».proof.Proof.Gen.KernelIdeal.Frame

@[expose] public section

set_option maxRecDepth 16384

noncomputable section

namespace Cert.KernelIdeal.Run

open Cert.KernelIdeal Cert.KernelIdeal.Gen Cert.KernelIdeal.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Positions in a row -/

/-- A point's coordinates: the row is one batch and one group of heads, and it has 64 points. -/
theorem coords_val : ∀ t : Fin grid0.N, (grid0.coords t 0).val = t.val / 128 ∧ (grid0.coords t 1).val = t.val / 64 % 2 ∧ (grid0.coords t 2).val = t.val % 64 := by
  decide +kernel

/-- The next-query window at a point is the query window at the next point of the row; keys and meta keys are the row's. -/
theorem maps_next : ∀ t t' : Fin grid0.N, t'.val = t.val + 1 → t'.val % 64 ≠ 0 →
    cc0_transform_1 (grid0.coords t) = cc0_transform_0 (grid0.coords t')
    ∧ cc0_transform_2 (grid0.coords t) = cc0_transform_2 (grid0.coords t')
    ∧ cc0_transform_4 (grid0.coords t) = cc0_transform_4 (grid0.coords t') := by
  have h : ∀ t : Fin grid0.N, ∀ h : t.val + 1 < grid0.N, (t.val + 1) % 64 ≠ 0 →
    cc0_transform_1 (grid0.coords t) = cc0_transform_0 (grid0.coords ⟨t.val + 1, h⟩)
    ∧ cc0_transform_2 (grid0.coords t) = cc0_transform_2 (grid0.coords ⟨t.val + 1, h⟩)
    ∧ cc0_transform_4 (grid0.coords t) = cc0_transform_4 (grid0.coords ⟨t.val + 1, h⟩) := by
    decide +kernel
  rintro t ⟨_, ht'⟩ rfl hne
  exact h t ht' hne

/-- Two windows on the queries' array at equal block indices read one block. -/
theorem next_queries (c : Dev nD) (t t' : Fin cfg0.N) (h : cc0_transform_1 (grid0.coords t) = cc0_transform_0 (grid0.coords t')) :
    (iblk m c 1 t : Vec F S1x4x64x128 .bf16) = (iblk m c 0 t' : Vec F S1x4x64x128 .bf16) := by
  funext y
  refine congrArg (V m c main_v5) (funext fun a => Fin.ext ?_)
  show cc0_transform_1 (grid0.coords t) a * S1x4x64x128.size a + 1 * (y a).val = cc0_transform_0 (grid0.coords t') a * S1x4x64x128.size a + 1 * (y a).val
  rw [h]

theorem next_keys (c : Dev nD) (t t' : Fin cfg0.N) (h : cc0_transform_2 (grid0.coords t) = cc0_transform_2 (grid0.coords t')) :
    (iblk m c 2 t : Vec F S1x1x8192x64 .bf16) = (iblk m c 2 t' : Vec F S1x1x8192x64 .bf16) := by
  funext y
  refine congrArg (V m c main_v7) (funext fun a => Fin.ext ?_)
  show cc0_transform_2 (grid0.coords t) a * S1x1x8192x64.size a + 1 * (y a).val = cc0_transform_2 (grid0.coords t') a * S1x1x8192x64.size a + 1 * (y a).val
  rw [h]

theorem next_metaKeys (c : Dev nD) (t t' : Fin cfg0.N) (h : cc0_transform_4 (grid0.coords t) = cc0_transform_4 (grid0.coords t')) :
    (iblk m c 4 t : Vec F S1x1x16x64 .bf16) = (iblk m c 4 t' : Vec F S1x1x16x64 .bf16) := by
  funext y
  refine congrArg (V m c main_v10) (funext fun a => Fin.ext ?_)
  show cc0_transform_4 (grid0.coords t) a * S1x1x16x64.size a + 1 * (y a).val = cc0_transform_4 (grid0.coords t') a * S1x1x16x64.size a + 1 * (y a).val
  rw [h]

/-! ## The pipeline's proof data -/

/-- What the scratch buffers hold before point `n`: inside a row, the point's own scores. -/
def Held (c : Dev nD) (n : ℕ) (g0 g1 : Vec F S8192x512 .f32) (gp : Vec F S8x512 .f32) (gm : Vec F S16x512 .f32) : Prop :=
  ∀ h : n < cfg0.N, n % 64 ≠ 0 → Ready (n % 64) (catQ (iblk m c 0 ⟨n, h⟩)) (iblk m c 2 ⟨n, h⟩) (iblk m c 4 ⟨n, h⟩) g0 g1 gp gm

/-- The invariant before point `n`. -/
def inv (c : Dev nD) (n : ℕ) : sProp 𝕄 :=
  iprop((∃ (g0 g1 : Vec F S8192x512 .f32) (gp : Vec F S8x512 .f32) (gm : Vec F S16x512 .f32), ⌜Held m c n g0 g1 gp gm⌝
      ∗ owns (c : Thread nD τ) (Memref.whole cc0_scratch0) fullShare g0 ∗ owns (c : Thread nD τ) (Memref.whole cc0_scratch1) fullShare g1
      ∗ owns (c : Thread nD τ) (Memref.whole cc0_scratch2) fullShare gp ∗ owns (c : Thread nD τ) (Memref.whole cc0_scratch3) fullShare gm)
    ∗ ∃ r, prngReg c r)

/-- The proof data: each input's buffer at its block, the output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 2 t) (iblk m c 3 t) (iblk m c 4 t) (iblk m c 5 t) (iblk m c 6 t)
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = outBlock (iblk m c 0 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a point -/

/-- A point that finds its own scores leaves the next point's. -/
theorem held_next (c : Dev nD) (t : Fin cfg0.N) (g0 g1 : Vec F S8192x512 .f32) (gp : Vec F S8x512 .f32) (gm : Vec F S16x512 .f32)
    (h : Ready ((grid0.coords t 2).val + 1) (catQ (iblk m c 1 t)) (iblk m c 2 t) (iblk m c 4 t) g0 g1 gp gm) :
    Held m c (t.val + 1) g0 g1 gp gm := by
  intro hn h0
  obtain ⟨e1, e2, e4⟩ := maps_next t ⟨t.val + 1, hn⟩ rfl h0
  rw [next_queries m c t _ e1, next_keys m c t _ e2, next_metaKeys m c t _ e4, (coords_val t).2.2] at h
  rwa [show (t.val + 1) % 64 = t.val % 64 + 1 by omega]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- What a point leaves is the next invariant and each window's buffer as the proof data has it. -/
theorem leaves (c : Dev nD) (t : Fin cfg0.N) :
    (iprop((owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t)
        ∗ owns (c : Thread nD τ) (st0_7 t) fullShare (outBlock (iblk m c 0 t) (iblk m c 2 t) (iblk m c 3 t) (iblk m c 4 t) (iblk m c 5 t) (iblk m c 6 t))
        ∗ ∃ g0' g1' gp' gm', ⌜Ready ((grid0.coords t 2).val + 1) (catQ (iblk m c 1 t)) (iblk m c 2 t) (iblk m c 4 t) g0' g1' gp' gm'⌝
          ∗ owns (c : Thread nD τ) (Memref.whole cc0_scratch0) fullShare g0' ∗ owns (c : Thread nD τ) (Memref.whole cc0_scratch1) fullShare g1'
          ∗ owns (c : Thread nD τ) (Memref.whole cc0_scratch2) fullShare gp' ∗ owns (c : Thread nD τ) (Memref.whole cc0_scratch3) fullShare gm')
      ∗ (dats m 0 c).owesAt () t.castSucc ∗ ∃ r, prngReg c r) : sProp 𝕄) ⊢ bodyPost m c t := by
  unfold bodyPost
  rw [show (dats m 0 c).Φ t.succ = inv m c (t.val + 1) from rfl,
    show (dats m 0 c).owesAt () t.succ = (dats m 0 c).owesAt () t.castSucc from rfl,
    after0_0, after0_1, after0_2, after0_3, after0_4, after0_5, after0_6, after0_7]
  unfold inv
  iintro ⟨⟨H0, H1, H2, H3, H4, H5, H6, H7, ⟨%g0, %g1, %gp, %gm, %hr, S0, S1, S2, S3⟩⟩, Ho, Hg⟩
  isplitl [S0 S1 S2 S3 Hg]
  · isplitr [Hg]
    · iexists g0; iexists g1; iexists gp; iexists gm
      isplitr; · ipureintro; exact held_next m c t g0 g1 gp gm hr
      isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6]
  rw [show (dats m 0 c).Φ t.castSucc = inv m c t.val from rfl]
  unfold inv
  iintro ⟨⟨⟨%g0, %g1, %gp, %gm, %hr, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hrun := body_run c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t) (iblk m c 5 t) (iblk m c 6 t) g0 g1 gp gm
    (fun h0 => by rw [(coords_val t).2.2] at h0 ⊢; exact hr t.isLt h0)
  have hall := Hoare.conseq _ _ _ .rfl (fun _ => leaves m c t) (Hoare.frame _ _ _ (iprop((dats m 0 c).owesAt () t.castSucc ∗ ∃ r, prngReg c r) : sProp 𝕄) hrun)
  change _ ⊢ wp frame (wpE (defs₀ (F := F)) Variants.none (c : Thread nD τ) none) Set.univ _ (fun _ => bodyPost m c t) at hall
  iapply hall
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S0]; · iexact S0
    isplitl [S1]; · iexact S1
    isplitl [S2]; · iexact S2
    iexact S3
  isplitl [Ho]; · iexact Ho
  iexact Hg

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point nothing is asked of the scratch buffers. -/
theorem inv_zero (c : Dev nD) : (Pipeline.ΦA spec0 c : sProp 𝕄) ⊢ inv m c 0 := by
  unfold Pipeline.ΦA inv
  rw [scopedRest0_eq]
  iintro ⟨⟨⟨%f0, S0⟩, ⟨%f1, S1⟩, ⟨%f2, S2⟩, ⟨%f3, S3⟩⟩, Hg⟩
  isplitr [Hg]
  · iexists f0; iexists f1; iexists f2; iexists f3
    isplitr; · ipureintro; intro _ h; exact absurd rfl h
    rw [owns_whole, owns_whole, owns_whole, owns_whole]
    isplitl [S0]; · iexact S0
    isplitl [S1]; · iexact S1
    isplitl [S2]; · iexact S2
    iexact S3
  iexact Hg

/-- After the last point the scratch buffers are given back. -/
theorem inv_last (c : Dev nD) (n : ℕ) : (inv m c n : sProp 𝕄) ⊢ Pipeline.ΦA spec0 c := by
  unfold Pipeline.ΦA inv
  rw [scopedRest0_eq]
  simp only [owns_whole]
  iintro ⟨⟨%g0, %g1, %gp, %gm, -, S0, S1, S2, S3⟩, Hg⟩
  isplitr [Hg]
  · isplitl [S0]; · iexists g0; iexact S0
    isplitl [S1]; · iexists g1; iexact S1
    isplitl [S2]; · iexists gp; iexact S2
    iexists gm; iexact S3
  iexact Hg

set_option backward.isDefEq.respectTransparency.types false in
/-- @main runs; at the end every array of the pipeline is at what the proof data gives, every other buffer as the region
    found it, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => inv_zero m c) (hout := fun c => inv_last m c _) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Frames.lean ====
/-
  The frames: every argument ends unchanged and every counter at zero, for the kernel at both instances (one run, over any
  float values) and for the reference.
-/
module

public import proofs.«01_k».proof.Defs
public import proofs.«01_k».proof.Proof.Run
public import proofs.«01_k».proof.Proof.Gen.Kernel
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem

/-- The two kernels' body tables are one table. -/
theorem bodies_eq : Cert.Kernel.defs₀ (F := Bits) = Cert.KernelIdeal.defs₀ (F := Bits) :=
  congrArg Defs.onTc (funext fun b => funext fun a => by
    obtain ⟨_ | n, h⟩ := b
    · obtain ⟨t, s⟩ := a
      rfl
    · exact absurd h (Nat.not_lt.2 (Nat.le_add_left _ _)))

theorem tables_eq : Cert.Kernel.defs (F := Bits) = Cert.KernelIdeal.defs (F := Bits) :=
  congrArg (Pipeline.defs Cert.KernelIdeal.pcfgs) bodies_eq

/-- The kernel at machine words: its text is the ideal program's, so the run is that program's at words. -/
theorem frame_kernel : Cert.quiescent_Kernel (hKernel := Cert.Kernel.Gen.facts) := by
  intro m ρ _
  have h := Cert.KernelIdeal.Run.frame (F := Bits) m ρ
  rw [tables_eq]
  exact h

theorem frame_kernelIdeal : Cert.quiescent_KernelIdeal (hKernelIdeal := Cert.KernelIdeal.Gen.facts) := fun m ρ _ =>
  Cert.KernelIdeal.Run.frame (F := Ideal) m ρ

/-- The reference runs host operations only and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/-
  The equation over the reals: a weighted mean by powers of two of the scaled scores is the weighted mean by the
  softmax of the scores.

  The scores are finite; the values may be infinite.
-/
module

public import Idealize.ShloMosaic.Lib.IdealHost
public import Idealize.ShloMosaic.PureOps.Ideal.Laws

@[expose] public section

noncomputable section

namespace Cert.Softmax

open Idealize.ShloMosaic

variable {ι : Type} [Fintype ι]

/-- A finite sum of reals is the same sum in the extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem sum_mul_coe (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The least upper bound of finitely many reals is one of them. -/
theorem exists_max [Nonempty ι] (y : ι → ℝ) : ∃ s, ∀ i, y i ≤ y s := by
  obtain ⟨s, -, h⟩ := Finset.exists_max_image Finset.univ y Finset.univ_nonempty
  exact ⟨s, fun i => h i (Finset.mem_univ i)⟩

/-- An extended real below exactly the upper bounds of the reals `y` is their maximum. -/
theorem eq_max (y : ι → ℝ) (Y : EReal) (hY : ∀ b, Y ≤ b ↔ ∀ i, (y i : EReal) ≤ b) (s : ι) (hs : ∀ i, y i ≤ y s) :
    Y = (y s : EReal) :=
  le_antisymm ((hY _).2 fun i => by exact_mod_cast hs i) ((hY Y).1 le_rfl s)

/-- The weights agree: two to the power of scaled differences is the exponential of the differences. -/
theorem exp2_scaled (a m : ℝ) :
    Ideal.exp2 (((a / Real.log 2 : ℝ) : EReal) - ((m / Real.log 2 : ℝ) : EReal)) = ((Real.exp (a - m) : ℝ) : EReal) := by
  have hl : Real.log 2 ≠ 0 := (Real.log_pos one_lt_two).ne'
  rw [← EReal.coe_sub, Ideal.exp2_coe]
  congr 1
  show (2 : ℝ) ^ (a / Real.log 2 - m / Real.log 2) = _
  rw [Real.rpow_def_of_pos two_pos]
  congr 1
  field_simp

theorem exp_diff (a m : ℝ) : Ideal.exp ((a : EReal) - (m : EReal)) = ((Real.exp (a - m) : ℝ) : EReal) := by
  rw [← EReal.coe_sub, Ideal.exp_coe]

/-- The equation. `X` is the largest scaled score, `Y` the largest score. -/
theorem mean_eq [Nonempty ι] (y : ι → ℝ) (v : ι → EReal) (X Y : EReal)
    (hX : ∀ b, X ≤ b ↔ ∀ i, ((y i / Real.log 2 : ℝ) : EReal) ≤ b) (hY : ∀ b, Y ≤ b ↔ ∀ i, (y i : EReal) ≤ b) :
    Ideal.div (∑ i, v i * Ideal.exp2 (((y i / Real.log 2 : ℝ) : EReal) - X))
        (∑ i, 1 * Ideal.exp2 (((y i / Real.log 2 : ℝ) : EReal) - X))
      = ∑ i, v i * Ideal.div (Ideal.exp ((y i : EReal) - Y)) (∑ i, Ideal.exp ((y i : EReal) - Y)) := by
  obtain ⟨s, hs⟩ := exists_max y
  have hl : 0 < Real.log 2 := Real.log_pos one_lt_two
  rw [eq_max (fun i => y i / Real.log 2) X hX s fun i => div_le_div_of_nonneg_right (hs i) hl.le, eq_max y Y hY s hs]
  simp only [exp2_scaled, exp_diff, one_mul]
  rw [← coe_sum]
  have hL : 0 < ∑ i, Real.exp (y i - y s) := Finset.sum_pos (fun i _ => Real.exp_pos _) Finset.univ_nonempty
  rw [Ideal.div_coe hL.ne', sum_mul_coe _ _ _ (by positivity)]
  refine Finset.sum_congr rfl fun i _ => ?_
  rw [Ideal.div_coe hL.ne', mul_assoc]

/-! ## The scores are finite -/

/-- Neither infinity. -/
def Fin' (x : EReal) : Prop := x ≠ ⊤ ∧ x ≠ ⊥

theorem Fin'.coe {x : EReal} (h : Fin' x) : ((x.toReal : ℝ) : EReal) = x := EReal.coe_toReal h.1 h.2

/-- The reference's scale is an eighth. -/
theorem eighth : Ideal.ofBits .f32 0x3E000000#32 = ((1 / 8 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- The pattern a maximum begins from is minus infinity. -/
theorem minus_inf : Ideal.ofBits .f32 0xFF800000#32 = ⊥ := by
  simp [Ideal.ofBits, Ideal.ieee]

theorem inf : Ideal.ofBits .f32 0x7F800000#32 = ⊤ := by
  simp [Ideal.ofBits, Ideal.ieee]

/-- A score of finite keys and queries, real: the scaled queries' is the reference's over log 2. -/
theorem score_scaled (n : ℕ) (k q : Fin n → EReal) (hk : ∀ d, Fin' (k d)) (hq : ∀ d, Fin' (q d)) :
    ∃ y : ℝ, (∑ d, k d * q d) * Ideal.ofBits .f32 0x3E000000#32 = (y : EReal)
      ∧ ∑ d, k d * (q d * Ideal.div (Ideal.ofBits .f32 0x3E000000#32) (Ideal.log (Ideal.ofBits .f32 0x40000000#32)))
        = ((y / Real.log 2 : ℝ) : EReal) := by
  have hl : 0 < Real.log 2 := Real.log_pos one_lt_two
  refine ⟨(∑ d, (k d).toReal * (q d).toReal) * (1 / 8), ?_, ?_⟩
  · rw [eighth, EReal.coe_mul, coe_sum]
    congr 1
    exact Finset.sum_congr rfl fun d _ => by rw [EReal.coe_mul, (hk d).coe, (hq d).coe]
  · rw [eighth, two, Ideal.log_coe, if_neg (by norm_num), Ideal.div_coe hl.ne', Finset.sum_mul, Finset.sum_div, coe_sum]
    refine Finset.sum_congr rfl fun d _ => ?_
    conv_lhs => rw [← (hk d).coe, ← (hq d).coe]
    rw [← EReal.coe_mul, ← EReal.coe_mul, ← EReal.coe_mul]
    congr 1
    field_simp

end Cert.Softmax

end
-- ==== Proof.BlockValue.lean ====
/-
  What one grid point's block holds, element by element, over the extended reals.

  Column `j` of a score array is one query: head `j / 128` of the group, row `j % 128` of the block.
-/
module

public import proofs.«01_k».proof.Proof.Point
public import proofs.«01_k».proof.Proof.Softmax
public import Idealize.ShloMosaic.Lib.Pointwise

@[expose] public section

set_option maxRecDepth 16384

noncomputable section

namespace Cert.KernelIdeal.Blocks

open Cert.KernelIdeal
open Idealize.ShloMosaic Idealize.ShloMosaic.TcCoe Idealize.ShloMosaic.Tactic
open Idealize.SL.Sem
open Facts₀ Facts

variable [Facts]

/-- The queries at an index. -/
theorem catQ_at (Q : Vec Ideal S1x4x64x128 .bf16) (d : Fin 64) (j : Fin 512) :
    catQ (F := Ideal) Q (ix2 d j) = Q (ix4 0 ⟨j.val / 128, by omega⟩ d ⟨j.val % 128, by omega⟩) := by
  pointwise [catQ, beside, head]
  split_ifs <;> refine congrArg Q ((ix4_inj ..).2 ⟨rfl, Fin.ext ?_, rfl, Fin.ext ?_⟩) <;> simp <;> omega

/-- One sub-block's score at an index. -/
theorem score_at (q : FVec Ideal S64x512 .bf16) (k : Vec Ideal S1x1x256x64 .bf16) (x : Fin 256) (j : Fin 512) :
    score (F := Ideal) q k (ix2 x j) = ∑ d : Fin 64, k (ix4 0 0 x d) * q (ix2 d j) := by
  pointwise [score]

/-- A key's score at an index. -/
theorem scores_at (q : FVec Ideal S64x512 .bf16) (K : Vec Ideal S1x1x8192x64 .bf16) (s : Fin 8192) (j : Fin 512) :
    scores (F := Ideal) q K (ix2 s j) = ∑ d : Fin 64, K (ix4 0 0 s d) * q (ix2 d j) := by
  unfold scores
  refine (score_at _ _ _ _).trans ?_
  pointwise []
  refine Finset.sum_congr rfl fun d _ => Ideal.mul_congr (congrArg K ((ix4_inj ..).2 ⟨rfl, rfl, Fin.ext ?_, rfl⟩)) rfl
  show 256 * (s.val / 256) + s.val % 256 = s.val
  omega

/-- A meta key's score at an index. -/
theorem metaScore_at (q : FVec Ideal S64x512 .bf16) (k : Vec Ideal S1x1x16x64 .bf16) (x : Fin 16) (j : Fin 512) :
    metaScore (F := Ideal) q k (ix2 x j) = ∑ d : Fin 64, k (ix4 0 0 x d) * q (ix2 d j) := by
  pointwise [metaScore]

/-- Upper bounds of one sub-block's maxima. -/
theorem blockMax_at (s : FVec Ideal S256x512 .f32) (r : Fin 8) (j : Fin 512) :
    blockMax (F := Ideal) s (ix2 r j) = Finset.univ.fold max ⊥ fun a : Fin 32 => s (ix2 ⟨a.val * 8 + r.val, by omega⟩ j) := by
  pointwise [blockMax]
  rw [Cert.Softmax.minus_inf]

/-- The meta keys' maximum. -/
theorem metaMax_at (s : Vec Ideal S16x512 .f32) (j : Fin 512) :
    metaMax (F := Ideal) s (ix2 0 j) = Finset.univ.fold max ⊥ fun a : Fin 16 => s (ix2 a j) := by
  pointwise [metaMax]
  rw [Cert.Softmax.minus_inf]

/-- The maximum over all the keys. -/
theorem allMax_at (m : FVec Ideal S1x512 .f32) (p : Vec Ideal S8x512 .f32) (j : Fin 512) :
    allMax (F := Ideal) m p (ix2 0 j) = max (m (ix2 0 j)) (Finset.univ.fold max ⊥ fun a : Fin 8 => p (ix2 a j)) := by
  pointwise [allMax]
  rw [Cert.Softmax.minus_inf]

/-- One sub-block's weighted values. -/
theorem accum_at (a : FVec Ideal S80x512 .f32) (v : Vec Ideal S1x1x80x256 .bf16) (m : FVec Ideal S1x512 .f32)
    (s : Vec Ideal S256x512 .f32) (r : Fin 80) (j : Fin 512) :
    accum (F := Ideal) a v (weight m s) (ix2 r j)
      = a (ix2 r j) + ∑ x : Fin 256, v (ix4 0 0 r x) * Ideal.exp2 (s (ix2 x j) - m (ix2 0 j)) := by
  pointwise [accum, weight]
  rfl

/-- The meta keys' weighted values. -/
theorem metaAcc_at (m : FVec Ideal S1x512 .f32) (s : Vec Ideal S16x512 .f32) (v : Vec Ideal S1x1x80x16 .bf16) (r : Fin 80) (j : Fin 512) :
    metaAcc (F := Ideal) m s v (ix2 r j) = ∑ x : Fin 16, v (ix4 0 0 r x) * Ideal.exp2 (s (ix2 x j) - m (ix2 0 j)) := by
  pointwise [metaAcc]
  rfl

/-- The block from the weighted values: each over the weights' sum (row 64), times the gate. -/
theorem outer_at (a : FVec Ideal S80x512 .f32) (Z : Vec Ideal S1x128x256 .f32) (l : Fin 128) (c : Fin 256) :
    shapeCast S1x128x256 (gated (F := Ideal) a Z) shapeCasts_S128x256_S1x128x256 (ix3 0 l c)
      = Ideal.div (a (ix2 ⟨c.val % 64, by omega⟩ ⟨c.val / 64 * 128 + l.val, by omega⟩)) (a (ix2 64 ⟨c.val / 64 * 128 + l.val, by omega⟩))
        * (Z (ix3 0 l c) * Ideal.logistic (Z (ix3 0 l c))) := by
  pointwise [gated, normalized]
  refine Ideal.mul_congr ?_ rfl
  have hc := c.isLt
  have key : ∀ (x y : Fin 80) (z w : Fin 512), x = y → z = w → Ideal.div (a (ix2 x z)) (a (ix2 64 z)) = Ideal.div (a (ix2 y w)) (a (ix2 64 w)) := by
    rintro x _ z _ rfl rfl; rfl
  split_ifs <;> refine key _ _ _ _ (Fin.ext ?_) (Fin.ext ?_) <;> simp <;> omega

/-! ## All the sub-blocks -/

/-- A sub-block's score is the score of its key. -/
theorem score_block (q : FVec Ideal S64x512 .bf16) (K : Vec Ideal S1x1x8192x64 .bf16) (u : Fin 32) (x : Fin 256) (j : Fin 512) :
    score (F := Ideal) q (View.ld K (rK u)) (ix2 x j) = scores (F := Ideal) q K (ix2 ⟨256 * u.val + x.val, by omega⟩ j) := by
  rw [scores_at]
  refine (score_at _ _ _ _).trans ?_
  pointwise []

/-- Upper bounds of a join. -/
theorem joinMax_le (q : FVec Ideal S64x512 .bf16) (K : Vec Ideal S1x1x8192x64 .bf16) (n : ℕ) (p : FVec Ideal S8x512 .f32)
    (r : Fin 8) (j : Fin 512) (b : EReal) :
    (joinMax (F := Ideal) n (runMax q K n) p (ix2 r j) : EReal) ≤ b ↔ (runMax (F := Ideal) q K n (ix2 r j) : EReal) ≤ b ∧ (p (ix2 r j) : EReal) ≤ b := by
  cases n with
  | zero =>
    have h : (runMax (F := Ideal) q K 0 (ix2 r j) : EReal) = ⊥ := Cert.Softmax.minus_inf
    rw [h]
    exact ⟨fun h => ⟨bot_le, h⟩, fun h => h.2⟩
  | succ n => exact max_le_iff

/-- Upper bounds of the running maxima: those of the scores they have seen. -/
theorem runMax_le (q : FVec Ideal S64x512 .bf16) (K : Vec Ideal S1x1x8192x64 .bf16) (r : Fin 8) (j : Fin 512) (b : EReal) :
    ∀ n : ℕ, n ≤ 32 → ((runMax (F := Ideal) q K n (ix2 r j) : EReal) ≤ b
      ↔ ∀ s : Fin 8192, s.val < 256 * n → s.val % 8 = r.val → (scores (F := Ideal) q K (ix2 s j) : EReal) ≤ b) := by
  intro n
  induction n with
  | zero =>
    intro _
    have h : (runMax (F := Ideal) q K 0 (ix2 r j) : EReal) = ⊥ := Cert.Softmax.minus_inf
    rw [h]
    exact ⟨fun _ s h => absurd h (by omega), fun _ => bot_le⟩
  | succ n ih =>
    intro hn
    have e := runMax_succ (F := Ideal) q K ⟨n, by omega⟩
    rw [show runMax (F := Ideal) q K (n + 1) = _ from e, joinMax_le, ih (by omega), blockMax_at, Finset.fold_max_le]
    constructor
    · rintro ⟨h1, -, h2⟩ s hs hr
      by_cases h : s.val < 256 * n
      · exact h1 s h hr
      · have h3 := h2 ⟨(s.val - 256 * n) / 8, by omega⟩ (Finset.mem_univ _)
        rw [score_block] at h3
        have hi : (⟨256 * n + ((s.val - 256 * n) / 8 * 8 + r.val), by omega⟩ : Fin 8192) = s := Fin.ext (by
          show 256 * n + ((s.val - 256 * n) / 8 * 8 + r.val) = s.val
          omega)
        exact hi ▸ h3
    · intro h
      refine ⟨fun s hs hr => h s (by omega) hr, bot_le, fun a _ => ?_⟩
      rw [score_block]
      exact h _ (by show 256 * n + (a.val * 8 + r.val) < _; omega) (by show (256 * n + (a.val * 8 + r.val)) % 8 = _; omega)

/-- Upper bounds of the maximum over all the keys: those of every score. -/
theorem max_le_iff_all (q : FVec Ideal S64x512 .bf16) (K : Vec Ideal S1x1x8192x64 .bf16) (sm : Vec Ideal S16x512 .f32)
    (j : Fin 512) (b : EReal) :
    (allMax (F := Ideal) (metaMax sm) (runMax q K 32) (ix2 0 j) : EReal) ≤ b
      ↔ (∀ s : Fin 16, (sm (ix2 s j) : EReal) ≤ b) ∧ ∀ s : Fin 8192, (scores (F := Ideal) q K (ix2 s j) : EReal) ≤ b := by
  rw [allMax_at, metaMax_at, max_le_iff, Finset.fold_max_le, Finset.fold_max_le]
  refine and_congr ⟨fun h s => h.2 s (Finset.mem_univ s), fun h => ⟨bot_le, fun s _ => h s⟩⟩ ?_
  constructor
  · rintro ⟨-, h⟩ s
    exact (runMax_le q K ⟨s.val % 8, by omega⟩ j b 32 le_rfl).1 (h _ (Finset.mem_univ _)) s s.isLt rfl
  · intro h
    exact ⟨bot_le, fun r _ => (runMax_le q K r j b 32 le_rfl).2 fun s _ _ => h s⟩

/-- The weighted values after `n` sub-blocks. -/
theorem runAcc_at (m : FVec Ideal S1x512 .f32) (S : Vec Ideal S8192x512 .f32) (V : Vec Ideal S1x1x80x8192 .bf16) (a : FVec Ideal S80x512 .f32)
    (r : Fin 80) (j : Fin 512) (f : Fin 8192 → EReal)
    (hf : ∀ s : Fin 8192, f s = V (ix4 0 0 r s) * Ideal.exp2 (S (ix2 s j) - m (ix2 0 j))) :
    ∀ n (hn : n ≤ 32), (runAcc (F := Ideal) m S V a n (ix2 r j) : EReal)
      = a (ix2 r j) + ∑ u : Fin n, ∑ x : Fin 256, f ⟨u.val * 256 + x.val, by omega⟩ := by
  intro n
  induction n with
  | zero => intro _; exact (add_zero _).symm
  | succ n ih =>
    intro hn
    rw [show runAcc (F := Ideal) m S V a (n + 1) = _ from runAcc_succ m S V a ⟨n, by omega⟩, accum_at, ih (by omega),
      Fin.sum_univ_castSucc (n := n), ← add_assoc]
    refine Ideal.add_congr rfl (Finset.sum_congr rfl fun x _ => ?_)
    rw [hf]
    pointwise []
    rw [show (⟨256 * n + x.val, by omega⟩ : Fin 8192) = ⟨(Fin.last n).val * 256 + x.val, by show n * 256 + x.val < _; omega⟩ from
      Fin.ext (by show 256 * n + x.val = n * 256 + x.val; omega)]

/-- All the weighted values, as one sum over the meta keys and one over the keys. -/
theorem total_at (M : FVec Ideal S1x512 .f32) (P : Vec Ideal S8x512 .f32) (sm : Vec Ideal S16x512 .f32)
    (S : Vec Ideal S8192x512 .f32) (V : Vec Ideal S1x1x80x8192 .bf16) (VM : Vec Ideal S1x1x80x16 .bf16) (r : Fin 80) (j : Fin 512) :
    (total (F := Ideal) M zeros P sm S V VM (ix2 r j) : EReal)
      = (∑ x : Fin 16, VM (ix4 0 0 r x) * Ideal.exp2 (sm (ix2 x j) - allMax M P (ix2 0 j)))
        + ∑ s : Fin 8192, V (ix4 0 0 r s) * Ideal.exp2 (S (ix2 s j) - allMax M P (ix2 0 j)) := by
  let f : Fin 8192 → EReal := fun s => V (ix4 0 0 r s) * Ideal.exp2 (S (ix2 s j) - allMax M P (ix2 0 j))
  have h := runAcc_at (allMax M P) S V (metaAcc (allMax M P) sm VM) r j f (fun _ => rfl) 32 le_rfl
  rw [metaAcc_at, ← Fin.sum_univ_tiles 32 256 rfl f] at h
  pointwise [total, zeros]
  rw [mul_zero, zero_add]
  exact h

end Cert.KernelIdeal.Blocks

end
-- ==== Proof.RefValue.lean ====
/-
  What the reference computes, element by element, over the extended reals.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Terms

open Cert.ReferenceIdeal Cert.ReferenceIdeal.Gen
open Idealize.ShloMosaic Idealize.ShloMosaic.TcCoe Idealize.ShloMosaic.Tactic
open Idealize.SL.Sem

/-- The meta tokens' array first, repeated for each batch, then the real tokens'. -/
def joined (M : FVec Ideal S16x2x64 .f32) (X : FVec Ideal S8x8192x2x64 .f32) : FVec Ideal S8x8208x2x64 .f32 :=
  concatenate S8x8208x2x64 1 [⟨S8x16x2x64, (broadcastInDim S8x16x2x64 ![0, 1, 2, 3] bcast_S1x16x2x64_S8x16x2x64_0_1_2_3 (broadcastInDim S1x16x2x64 ![1, 2, 3] bcast_S16x2x64_S1x16x2x64_1_2_3 M))⟩, ⟨S8x8192x2x64, X⟩] concatenates_S8x16x2x64_S8x8192x2x64_S8x8208x2x64_d1

/-- The scores. -/
def scores (Q : FVec Ideal S8x8192x8x64 .f32) (KK : FVec Ideal S8x8208x2x64 .f32) : FVec Ideal S8x2x4x8192x8208 .f32 :=
  mulf (transpose S8x2x4x8192x8208 [0, 1, 4, 3, 2] (Host.dotGeneral dot_S8x8208x2x64_S8x8192x2x4x64_S8x2x8208x8192x4_3_4_1_13_02_02 none KK (shapeCast _ Q shapeCasts_S8x8192x8x64_S8x8192x2x4x64)) transposes_S8x2x8208x8192x4_S8x2x4x8192x8208_0_1_4_3_2) (broadcastInDim S8x2x4x8192x8208 ![] bcast_S_S8x2x4x8192x8208 (constant S_ .f32 0x3E000000#32))

/-- The largest of each query's scores, from −∞. -/
def largest (S : FVec Ideal S8x2x4x8192x8208 .f32) : FVec Ideal S8x2x4x8192 .f32 :=
  Host.reduce FloatOps.maximumf S (constant S_ .f32 0xFF800000#32) reducesTo_S8x2x4x8192x8208_S8x2x4x8192_d4 h_S_

/-- Each query's largest score, once more not below −∞. -/
def top (S : FVec Ideal S8x2x4x8192x8208 .f32) : FVec Ideal S8x2x4x8192 .f32 :=
  maximumf (broadcastInDim S8x2x4x8192 ![] bcast_S_S8x2x4x8192 (constant S_ .f32 0xFF800000#32)) (largest S)

/-- The exponentials of the scores less the largest. -/
def powers (S : FVec Ideal S8x2x4x8192x8208 .f32) (T : FVec Ideal S8x2x4x8192 .f32) : FVec Ideal S8x2x4x8192x8208 .f32 :=
  Host.exp (subf S (broadcastInDim S8x2x4x8192x8208 ![0, 1, 2, 3, 4] bcast_S8x2x4x8192x1_S8x2x4x8192x8208_0_1_2_3_4 (broadcastInDim S8x2x4x8192x1 ![0, 1, 2, 3] bcast_S8x2x4x8192_S8x2x4x8192x1_0_1_2_3 T)))

/-- The weights. -/
def weights (E : FVec Ideal S8x2x4x8192x8208 .f32) : FVec Ideal S8x2x4x8192x8208 .f32 :=
  Host.divf E (broadcastInDim S8x2x4x8192x8208 ![0, 1, 2, 3, 4] bcast_S8x2x4x8192x1_S8x2x4x8192x8208_0_1_2_3_4 (broadcastInDim S8x2x4x8192x1 ![0, 1, 2, 3] bcast_S8x2x4x8192_S8x2x4x8192x1_0_1_2_3 (Host.reduceAdd E (constant S_ .f32 0x00000000#32) reducesTo_S8x2x4x8192x8208_S8x2x4x8192_d4 h_S_)))

/-- The gated result from the weights. -/
def gated (VV : FVec Ideal S8x8208x2x64 .f32) (W : FVec Ideal S8x2x4x8192x8208 .f32) (Z : FVec Ideal S8x8192x512 .f32) : FVec Ideal S8x8192x512 .bf16 :=
  truncf .bf16 (mulf (shapeCast _ (transpose S8x8192x2x4x64 [0, 4, 1, 3, 2] (Host.dotGeneral dot_S8x8208x2x64_S8x2x4x8192x8208_S8x2x64x4x8192_1_4_3_23_02_01 none VV W) transposes_S8x2x64x4x8192_S8x8192x2x4x64_0_4_1_3_2) shapeCasts_S8x8192x2x4x64_S8x8192x512) (mulf Z (Host.divf (broadcastInDim S8x8192x512 ![] bcast_S_S8x8192x512 (constant S_ .f32 0x3F800000#32)) (addf (broadcastInDim S8x8192x512 ![] bcast_S_S8x8192x512 (constant S_ .f32 0x3F800000#32)) (Host.exp (Host.negf Z)))))) bitsLt_bf16_f32

/-- The reference's result. -/
def result (Q : FVec Ideal S8x8192x8x64 .f32) (K V : FVec Ideal S8x8192x2x64 .f32) (KM VM : FVec Ideal S16x2x64 .f32)
    (Z : FVec Ideal S8x8192x512 .f32) : FVec Ideal S8x8192x512 .bf16 :=
  gated (joined VM V) (weights (powers (scores Q (joined KM K)) (top (scores Q (joined KM K))))) Z

/-- The reference's run leaves `result` of its arguments. -/
theorem res_eq (m : (ℓ : Loc nD τ sig) → Buf (Elt Ideal) ℓ) (c : Dev nD) :
    Value.res_main_v27 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_main_v27 result gated weights powers top largest scores joined
  rfl

/-- A meta token's row of the joined array, and a real token's. -/
theorem joined_at (M : FVec Ideal S16x2x64 .f32) (X : FVec Ideal S8x8192x2x64 .f32) (b : Fin 8) (s : Fin 8208) (g : Fin 2) (d : Fin 64) :
    joined M X (ix4 b s g d) = if h : s.val < 16 then M (ix3 ⟨s.val, h⟩ g d) else X (ix4 b ⟨s.val - 16, by omega⟩ g d) := by
  pointwise [joined]

/-- A score: the key times the query over the channels, scaled. -/
theorem scores_at (Q : FVec Ideal S8x8192x8x64 .f32) (KK : FVec Ideal S8x8208x2x64 .f32) (b : Fin 8) (g : Fin 2) (h : Fin 4) (n : Fin 8192) (s : Fin 8208) :
    scores Q KK (ix5 b g h n s) = (∑ d : Fin 64, KK (ix4 b s g d) * Q (ix4 b n ⟨g.val * 4 + h.val, by omega⟩ d)) * Ideal.ofBits .f32 0x3E000000#32 := by
  pointwise [scores]

/-- A host maximum along the last of five axes, at any sizes. -/
theorem host_max {n0 n1 n2 n3 n4 : Nat} {t u : Shape} (h : (⟨5, ![n0, n1, n2, n3, n4]⟩ : Shape).ReducesTo [4] t)
    (S : FVec Ideal ⟨5, ![n0, n1, n2, n3, n4]⟩ .f32) (init : FVec Ideal u .f32) (hu : 0 < u.numel) (j : t.Idx)
    (b : Fin n0) (g : Fin n1) (r : Fin n2) (n : Fin n3) (hb : (j ⟨0, h.lt_r5_a4_0⟩).val = b.val)
    (hg : (j ⟨1, h.lt_r5_a4_1⟩).val = g.val) (hr : (j ⟨2, h.lt_r5_a4_2⟩).val = r.val) (hn : (j ⟨3, h.lt_r5_a4_3⟩).val = n.val) :
    Host.reduce FloatOps.maximumf S init h hu j
      = Finset.univ.fold max (init (Shape.Idx.first hu)) fun s : Fin n4 => S (ix5 b g r n s) := by
  rw [Host.reduce_eq_fold]
  refine (h.fold_fiber_r5_a4 j _ _ _).trans ?_
  obtain ⟨b, hb'⟩ := b
  obtain ⟨g, hg'⟩ := g
  obtain ⟨r, hr'⟩ := r
  obtain ⟨n, hn'⟩ := n
  obtain rfl : (j ⟨0, h.lt_r5_a4_0⟩).val = b := hb
  obtain rfl : (j ⟨1, h.lt_r5_a4_1⟩).val = g := hg
  obtain rfl : (j ⟨2, h.lt_r5_a4_2⟩).val = r := hr
  obtain rfl : (j ⟨3, h.lt_r5_a4_3⟩).val = n := hn
  rfl

/-- The largest score from −∞. -/
theorem largest_at (S : FVec Ideal S8x2x4x8192x8208 .f32) (b : Fin 8) (g : Fin 2) (h : Fin 4) (n : Fin 8192) :
    largest S (ix4 b g h n) = Finset.univ.fold max (Ideal.ofBits .f32 0xFF800000#32) fun s : Fin 8208 => S (ix5 b g h n s) :=
  host_max _ S _ _ _ b g h n rfl rfl rfl rfl

/-- The maximum of an array's element with −∞. -/
theorem not_below (T : FVec Ideal S8x2x4x8192 .f32) (b : Fin 8) (g : Fin 2) (h : Fin 4) (n : Fin 8192) :
    maximumf (broadcastInDim S8x2x4x8192 ![] bcast_S_S8x2x4x8192 (constant S_ .f32 0xFF800000#32)) T (ix4 b g h n)
      = max ⊥ (T (ix4 b g h n)) := by
  pointwise []
  rw [Cert.Softmax.minus_inf]

/-- The largest score, compared once more with −∞. -/
theorem top_at (S : FVec Ideal S8x2x4x8192x8208 .f32) (b : Fin 8) (g : Fin 2) (h : Fin 4) (n : Fin 8192) :
    top S (ix4 b g h n) = max ⊥ (Finset.univ.fold max (Ideal.ofBits .f32 0xFF800000#32) fun s : Fin 8208 => S (ix5 b g h n s)) :=
  (not_below (largest S) b g h n).trans (congrArg (max ⊥) (largest_at S b g h n))

/-- The exponential of a score less the largest. -/
theorem powers_at (S : FVec Ideal S8x2x4x8192x8208 .f32) (T : FVec Ideal S8x2x4x8192 .f32) (b : Fin 8) (g : Fin 2) (h : Fin 4) (n : Fin 8192) (s : Fin 8208) :
    powers S T (ix5 b g h n s) = Ideal.exp (S (ix5 b g h n s) - T (ix4 b g h n)) := by
  pointwise [powers]

/-- A weight: the exponential over the sum of all. -/
theorem weights_at (E : FVec Ideal S8x2x4x8192x8208 .f32) (b : Fin 8) (g : Fin 2) (h : Fin 4) (n : Fin 8192) (s : Fin 8208) :
    weights E (ix5 b g h n s) = Ideal.div (E (ix5 b g h n s)) (∑ s : Fin 8208, E (ix5 b g h n s)) := by
  pointwise [weights]

/-- The weighted values, gated. -/
theorem gated_at (VV : FVec Ideal S8x8208x2x64 .f32) (W : FVec Ideal S8x2x4x8192x8208 .f32) (Z : FVec Ideal S8x8192x512 .f32) (b : Fin 8) (n : Fin 8192) (j : Fin 512) :
    gated VV W Z (ix3 b n j)
      = (∑ s : Fin 8208, VV (ix4 b s ⟨j.val / 256, by omega⟩ ⟨j.val % 64, by omega⟩)
            * W (ix5 b ⟨j.val / 256, by omega⟩ ⟨j.val / 64 % 4, by omega⟩ n s))
        * (Z (ix3 b n j) * Ideal.logistic (Z (ix3 b n j))) := by
  pointwise [gated]
  rfl

/-- The result at the column of a group, a head of it and a channel. -/
theorem gated_col (VV : FVec Ideal S8x8208x2x64 .f32) (W : FVec Ideal S8x2x4x8192x8208 .f32) (Z : FVec Ideal S8x8192x512 .f32)
    (b : Fin 8) (n : Fin 8192) (g : Fin 2) (h : Fin 4) (d : Fin 64) (j : Fin 512) (hj : j.val = g.val * 256 + h.val * 64 + d.val) :
    gated VV W Z (ix3 b n j)
      = (∑ s : Fin 8208, VV (ix4 b s g d) * W (ix5 b g h n s)) * (Z (ix3 b n j) * Ideal.logistic (Z (ix3 b n j))) := by
  have hg : g = ⟨j.val / 256, by omega⟩ := Fin.ext (by show g.val = j.val / 256; omega)
  have hh : h = ⟨j.val / 64 % 4, by omega⟩ := Fin.ext (by show h.val = j.val / 64 % 4; omega)
  have hd : d = ⟨j.val % 64, by omega⟩ := Fin.ext (by show d.val = j.val % 64; omega)
  rw [gated_at, ← hg, ← hh, ← hd]

/-- The result at the column of a group, a head of it and a channel, by the scores, the joined values and the maximum. -/
theorem result_at (Q : FVec Ideal S8x8192x8x64 .f32) (K V : FVec Ideal S8x8192x2x64 .f32) (KM VM : FVec Ideal S16x2x64 .f32)
    (Z : FVec Ideal S8x8192x512 .f32) (b : Fin 8) (n : Fin 8192) (g : Fin 2) (h : Fin 4) (d : Fin 64) (j : Fin 512)
    (hj : j.val = g.val * 256 + h.val * 64 + d.val) :
    result Q K V KM VM Z (ix3 b n j)
      = (∑ s : Fin 8208, joined VM V (ix4 b s g d)
          * Ideal.div (Ideal.exp (scores Q (joined KM K) (ix5 b g h n s) - top (scores Q (joined KM K)) (ix4 b g h n)))
              (∑ s : Fin 8208, Ideal.exp (scores Q (joined KM K) (ix5 b g h n s) - top (scores Q (joined KM K)) (ix4 b g h n))))
        * (Z (ix3 b n j) * Ideal.logistic (Z (ix3 b n j))) := by
  refine (gated_col _ _ Z b n g h d j hj).trans (Ideal.mul_congr (Finset.sum_congr rfl fun s _ => Ideal.mul_congr rfl ?_) rfl)
  rw [weights_at]
  refine congrArg₂ Ideal.div (powers_at _ _ b g h n s) (Finset.sum_congr rfl fun s' _ => powers_at _ _ b g h n s')

/-- Upper bounds of a query's largest score: those of all of them. -/
theorem top_le (S : FVec Ideal S8x2x4x8192x8208 .f32) (b : Fin 8) (g : Fin 2) (h : Fin 4) (n : Fin 8192) (x : EReal) :
    (top S (ix4 b g h n) : EReal) ≤ x ↔ ∀ s : Fin 8208, (S (ix5 b g h n s) : EReal) ≤ x := by
  rw [top_at, Cert.Softmax.minus_inf, max_le_iff, Finset.fold_max_le]
  exact ⟨fun h s => h.2.2 s (Finset.mem_univ s), fun h => ⟨bot_le, bot_le, fun s _ => h s⟩⟩

/-- The score of a meta key. -/
theorem score_meta (Q : FVec Ideal S8x8192x8x64 .f32) (K : FVec Ideal S8x8192x2x64 .f32) (KM : FVec Ideal S16x2x64 .f32)
    (b : Fin 8) (g : Fin 2) (h : Fin 4) (n : Fin 8192) (x : Fin 16) (s : Fin 8208) (hs : s.val = x.val) :
    scores Q (joined KM K) (ix5 b g h n s)
      = (∑ d : Fin 64, KM (ix3 x g d) * Q (ix4 b n ⟨g.val * 4 + h.val, by omega⟩ d)) * Ideal.ofBits .f32 0x3E000000#32 := by
  obtain ⟨s, hs'⟩ := s
  obtain rfl : s = x.val := hs
  rw [scores_at]
  refine Ideal.mul_congr (Finset.sum_congr rfl fun d _ => Ideal.mul_congr ?_ rfl) rfl
  rw [joined_at, dif_pos x.isLt]

/-- The score of a real key. -/
theorem score_key (Q : FVec Ideal S8x8192x8x64 .f32) (K : FVec Ideal S8x8192x2x64 .f32) (KM : FVec Ideal S16x2x64 .f32)
    (b : Fin 8) (g : Fin 2) (h : Fin 4) (n : Fin 8192) (x : Fin 8192) (s : Fin 8208) (hs : s.val = 16 + x.val) :
    scores Q (joined KM K) (ix5 b g h n s)
      = (∑ d : Fin 64, K (ix4 b x g d) * Q (ix4 b n ⟨g.val * 4 + h.val, by omega⟩ d)) * Ideal.ofBits .f32 0x3E000000#32 := by
  rw [scores_at]
  refine Ideal.mul_congr (Finset.sum_congr rfl fun d _ => Ideal.mul_congr ?_ rfl) rfl
  rw [joined_at, dif_neg (by omega)]
  exact congrArg K ((ix4_inj ..).2 ⟨rfl, Fin.ext (by show s.val - 16 = x.val; omega), rfl, rfl⟩)

/-- The value of a meta token. -/
theorem value_meta (V : FVec Ideal S8x8192x2x64 .f32) (VM : FVec Ideal S16x2x64 .f32)
    (b : Fin 8) (g : Fin 2) (d : Fin 64) (x : Fin 16) (s : Fin 8208) (hs : s.val = x.val) :
    joined VM V (ix4 b s g d) = VM (ix3 x g d) := by
  obtain ⟨s, hs'⟩ := s
  obtain rfl : s = x.val := hs
  rw [joined_at, dif_pos x.isLt]

/-- The value of a real token. -/
theorem value_real (V : FVec Ideal S8x8192x2x64 .f32) (VM : FVec Ideal S16x2x64 .f32)
    (b : Fin 8) (g : Fin 2) (d : Fin 64) (x : Fin 8192) (s : Fin 8208) (hs : s.val = 16 + x.val) :
    joined VM V (ix4 b s g d) = V (ix4 b x g d) := by
  rw [joined_at, dif_neg (by omega)]
  exact congrArg V ((ix4_inj ..).2 ⟨rfl, Fin.ext (by show s.val - 16 = x.val; omega), rfl, rfl⟩)

end Cert.ReferenceIdeal.Terms

end
-- ==== Proof.Equation.lean ====
/-
  One query's attention over the keys of two parts: the powers of two of the scaled scores, summed part by part and
  divided at the end, against the softmax of the scores over all the keys.
-/
module

public import proofs.«01_k».proof.Proof.Softmax

@[expose] public section

noncomputable section

namespace Cert.Softmax

open Idealize.ShloMosaic

/-- One query `q` attends over `A` keys `km` with values `vm`, then `B` keys `k` with values `v`; `S` and `V` are the
    scores and values over all of them. `X` and `Y` are the maxima of the scaled scores and of the scores. -/
theorem attention_eq {A B n : ℕ} [Nonempty (Fin (A + B))] (q : Fin n → EReal) (km : Fin A → Fin n → EReal)
    (k : Fin B → Fin n → EReal) (vm : Fin A → EReal) (v : Fin B → EReal)
    (hq : ∀ d, Fin' (q d)) (hkm : ∀ x d, Fin' (km x d)) (hk : ∀ s d, Fin' (k s d))
    (sm : Fin A → EReal) (sc : Fin B → EReal) (X : EReal)
    (hsm : ∀ x, sm x = ∑ d, km x d * (q d * Ideal.div (Ideal.ofBits .f32 0x3E000000#32) (Ideal.log (Ideal.ofBits .f32 0x40000000#32))))
    (hsc : ∀ s, sc s = ∑ d, k s d * (q d * Ideal.div (Ideal.ofBits .f32 0x3E000000#32) (Ideal.log (Ideal.ofBits .f32 0x40000000#32))))
    (hX : ∀ b, X ≤ b ↔ (∀ x, sm x ≤ b) ∧ ∀ s, sc s ≤ b)
    (S V : Fin (A + B) → EReal) (Y : EReal)
    (hSm : ∀ x, S (Fin.castAdd B x) = (∑ d, km x d * q d) * Ideal.ofBits .f32 0x3E000000#32)
    (hSk : ∀ s, S (Fin.natAdd A s) = (∑ d, k s d * q d) * Ideal.ofBits .f32 0x3E000000#32)
    (hVm : ∀ x, V (Fin.castAdd B x) = vm x) (hVk : ∀ s, V (Fin.natAdd A s) = v s)
    (hY : ∀ b, Y ≤ b ↔ ∀ s, S s ≤ b) :
    Ideal.div ((∑ x, vm x * Ideal.exp2 (sm x - X)) + ∑ s, v s * Ideal.exp2 (sc s - X))
        ((∑ x, 1 * Ideal.exp2 (sm x - X)) + ∑ s, 1 * Ideal.exp2 (sc s - X))
      = ∑ s, V s * Ideal.div (Ideal.exp (S s - Y)) (∑ s, Ideal.exp (S s - Y)) := by
  choose ym hm hm' using fun x => score_scaled n (km x) q (hkm x) hq
  choose yk hk1 hk2 using fun s => score_scaled n (k s) q (hk s) hq
  have hS : ∀ s, S s = ((Fin.append ym yk s : ℝ) : EReal) := by
    refine Fin.addCases (fun x => ?_) fun s => ?_
    · rw [hSm, hm, Fin.append_left]
    · rw [hSk, hk1, Fin.append_right]
  have e := mean_eq (Fin.append ym yk) V X Y ?_ ?_
  · rw [Fin.sum_univ_add, Fin.sum_univ_add] at e
    simp only [Fin.append_left, Fin.append_right, hVm, hVk] at e
    simp only [hsm, hsc, hm', hk2, hS]
    exact e
  · intro b
    rw [hX]
    constructor
    · rintro ⟨h1, h2⟩
      refine Fin.addCases (fun x => ?_) fun s => ?_
      · rw [Fin.append_left, ← hm', ← hsm]; exact h1 x
      · rw [Fin.append_right, ← hk2, ← hsc]; exact h2 s
    · intro h
      refine ⟨fun x => ?_, fun s => ?_⟩
      · have := h (Fin.castAdd B x)
        rw [Fin.append_left, ← hm', ← hsm] at this; exact this
      · have := h (Fin.natAdd A s)
        rw [Fin.append_right, ← hk2, ← hsc] at this; exact this
  · intro b
    rw [hY]
    exact forall_congr' fun s => by rw [hS]

end Cert.Softmax

end
-- ==== Proof.Entry.lean ====
/-
  What the windows' blocks hold, in terms of the arguments.

  At point `t` the batch is `t / 128`, the group of heads `t / 64 % 2`, and the queries are the 128 from `t % 64 * 128`.
-/
module

public import proofs.«01_k».proof.Proof.Run
public import Idealize.ShloMosaic.Lib.Pipeline.ValueKit

@[expose] public section

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The queries, keys, values, meta keys, meta values and gate. -/
abbrev aQ : FVec Ideal S8x8192x8x64 .f32 := m ((c : Thread nD τ).loc main_arg0)
abbrev aK : FVec Ideal S8x8192x2x64 .f32 := m ((c : Thread nD τ).loc main_arg1)
abbrev aV : FVec Ideal S8x8192x2x64 .f32 := m ((c : Thread nD τ).loc main_arg2)
abbrev aKM : FVec Ideal S16x2x64 .f32 := m ((c : Thread nD τ).loc main_arg3)
abbrev aVM : FVec Ideal S16x2x64 .f32 := m ((c : Thread nD τ).loc main_arg4)
abbrev aZ : FVec Ideal S8x8192x512 .f32 := m ((c : Thread nD τ).loc main_arg5)

/-- The scale of the queries: the reference's over log 2. -/
def scale : EReal := Ideal.div (Ideal.ofBits .f32 0x3E000000#32) (Ideal.log (Ideal.ofBits .f32 0x40000000#32))

/-! ## The arrays at the call -/

theorem queries (b : Fin 8) (h : Fin 8) (d : Fin 64) (n : Fin 8192) :
    (V m c main_v5 : FVec Ideal S8x8x64x8192 .bf16) (ix4 b h d n) = aQ m c (ix4 b n h d) * scale := by
  entry_read
  pointwise [scale]

theorem keys (b : Fin 8) (g : Fin 2) (s : Fin 8192) (d : Fin 64) :
    (V m c main_v7 : FVec Ideal S8x2x8192x64 .bf16) (ix4 b g s d) = aK m c (ix4 b s g d) := by
  entry_read
  pointwise []

theorem metaKeys (g : Fin 2) (s : Fin 16) (d : Fin 64) :
    (V m c main_v10 : FVec Ideal S1x2x16x64 .bf16) (ix4 0 g s d) = aKM m c (ix3 s g d) := by
  entry_read
  pointwise []

/-- Three arrays joined, each replaced by an equal one. -/
theorem join3 {α : Type} {t a b d : Shape} (ax : Fin t.rank) {x x' : a.Idx → α} {y y' : b.Idx → α} {z z' : d.Idx → α}
    (h : Shape.Concatenates [a, b, d] t ax) (hx : x = x') (hy : y = y') (hz : z = z') :
    concatenate t ax [⟨a, x⟩, ⟨b, y⟩, ⟨d, z⟩] h = concatenate t ax [⟨a, x'⟩, ⟨b, y'⟩, ⟨d, z'⟩] h := by
  subst hx hy hz; rfl

/-- The values joined with the row of ones and the rows of zeros, as the host joins them. -/
theorem values_eq : (V m c main_v15 : FVec Ideal S8x2x80x8192 .bf16) = truncf .bf16 (concatenate S8x2x80x8192 2
      [⟨S8x2x64x8192, transpose S8x2x64x8192 [0, 2, 3, 1] (aV m c) transposes_S8x8192x2x64_S8x2x64x8192_0_2_3_1⟩,
       ⟨S8x2x1x8192, broadcastInDim S8x2x1x8192 ![] bcast_S_S8x2x1x8192 (constant (F := Ideal) S_ .f32 0x3F800000#32)⟩,
       ⟨S8x2x15x8192, broadcastInDim S8x2x15x8192 ![] bcast_S_S8x2x15x8192 (constant (F := Ideal) S_ .f32 0x00000000#32)⟩]
      concatenates_S8x2x64x8192_S8x2x1x8192_S8x2x15x8192_S8x2x80x8192_d2) bitsLt_bf16_f32 := by
  unfold V
  after_results
  refine congrArg (truncf .bf16 · bitsLt_bf16_f32) (join3 _ _ ?_ ?_ ?_)
  · beta_reduce
    show HloOp.result _ _ (Proc.tc.devRef main_v11) = _
    after_results_loop
    rfl
  · beta_reduce
    show HloOp.result _ _ (Proc.tc.devRef main_v12) = _
    after_results_loop
    rfl
  · beta_reduce
    show HloOp.result _ _ (Proc.tc.devRef main_v13) = _
    after_results_loop
    rfl

/-- The meta values joined likewise. -/
theorem metaValues_eq : (V m c main_v21 : FVec Ideal S1x2x80x16 .bf16) = truncf .bf16 (concatenate S1x2x80x16 2
      [⟨S1x2x64x16, transpose S1x2x64x16 [0, 2, 3, 1] (broadcastInDim S1x16x2x64 ![1, 2, 3] bcast_S16x2x64_S1x16x2x64_1_2_3 (aVM m c)) transposes_S1x16x2x64_S1x2x64x16_0_2_3_1⟩,
       ⟨S1x2x1x16, broadcastInDim S1x2x1x16 ![] bcast_S_S1x2x1x16 (constant (F := Ideal) S_ .f32 0x3F800000#32)⟩,
       ⟨S1x2x15x16, broadcastInDim S1x2x15x16 ![] bcast_S_S1x2x15x16 (constant (F := Ideal) S_ .f32 0x00000000#32)⟩]
      concatenates_S1x2x64x16_S1x2x1x16_S1x2x15x16_S1x2x80x16_d2) bitsLt_bf16_f32 := by
  unfold V
  after_results
  refine congrArg (truncf .bf16 · bitsLt_bf16_f32) (join3 _ _ ?_ ?_ ?_)
  · beta_reduce
    show HloOp.result _ _ (Proc.tc.devRef main_v17) = _
    after_results_loop
    rfl
  · beta_reduce
    show HloOp.result _ _ (Proc.tc.devRef main_v18) = _
    after_results_loop
    rfl
  · beta_reduce
    show HloOp.result _ _ (Proc.tc.devRef main_v19) = _
    after_results_loop
    rfl

/-- The values' rows: the features, then ones, then zeros. -/
theorem values (b : Fin 8) (g : Fin 2) (r : Fin 80) (s : Fin 8192) :
    (V m c main_v15 : FVec Ideal S8x2x80x8192 .bf16) (ix4 b g r s)
      = if h : r.val < 64 then aV m c (ix4 b s g ⟨r.val, h⟩) else if r.val < 65 then 1 else 0 := by
  rw [values_eq]
  pointwise []
  by_cases h : r.val < 64
  · rw [dif_pos h, dif_pos h]
  · rw [dif_neg h, dif_neg h]
    by_cases h' : r.val < 65
    · rw [if_pos h', dif_pos (by omega)]
    · rw [if_neg h', dif_neg (by omega)]

theorem metaValues (g : Fin 2) (r : Fin 80) (s : Fin 16) :
    (V m c main_v21 : FVec Ideal S1x2x80x16 .bf16) (ix4 0 g r s)
      = if h : r.val < 64 then aVM m c (ix3 s g ⟨r.val, h⟩) else if r.val < 65 then 1 else 0 := by
  rw [metaValues_eq]
  pointwise []
  by_cases h : r.val < 64
  · rw [dif_pos h, dif_pos h]
  · rw [dif_neg h, dif_neg h]
    by_cases h' : r.val < 65
    · rw [if_pos h', dif_pos (by omega)]
    · rw [if_neg h', dif_neg (by omega)]

/-! ## The blocks at a point -/

/-- The windows' block indices. -/
theorem idx : ∀ t : Fin cfg0.N, win0_0.index t = ![t.val / 128, t.val / 64 % 2, 0, t.val % 64]
    ∧ win0_2.index t = ![t.val / 128, t.val / 64 % 2, 0, 0] ∧ win0_3.index t = ![t.val / 128, t.val / 64 % 2, 0, 0]
    ∧ win0_4.index t = ![0, t.val / 64 % 2, 0, 0] ∧ win0_5.index t = ![0, t.val / 64 % 2, 0, 0]
    ∧ win0_6.index t = ![t.val / 128, t.val % 64, t.val / 64 % 2] ∧ win0_7.index t = ![t.val / 128, t.val % 64, t.val / 64 % 2] :=
  (by decide +kernel : ∀ t : Fin grid0.N, _)

theorem lt_N (t : Fin cfg0.N) : t.val < 1024 := t.isLt

/-- The batch of a point, its group, and the row of its block's query `l`. -/
def bat (t : Fin cfg0.N) : Fin 8 := ⟨t.val / 128, by have := lt_N t; omega⟩
def grp (t : Fin cfg0.N) : Fin 2 := ⟨t.val / 64 % 2, by omega⟩
def row (t : Fin cfg0.N) (l : Fin 128) : Fin 8192 := ⟨t.val % 64 * 128 + l.val, by omega⟩

theorem queries_blk (t : Fin cfg0.N) (h : Fin 4) (d : Fin 64) (l : Fin 128) :
    (iblk m c 0 t : Vec Ideal S1x4x64x128 .bf16) (ix4 0 h d l)
      = aQ m c (ix4 (bat t) (row t l) ⟨(grp t).val * 4 + h.val, by omega⟩ d) * scale := by
  refine Eq.trans ?_ (queries m c (bat t) _ d (row t l))
  blk_ext [iblk, idx t, bat, grp, row]

theorem keys_blk (t : Fin cfg0.N) (s : Fin 8192) (d : Fin 64) :
    (iblk m c 2 t : Vec Ideal S1x1x8192x64 .bf16) (ix4 0 0 s d) = aK m c (ix4 (bat t) s (grp t) d) := by
  refine Eq.trans ?_ (keys m c (bat t) (grp t) s d)
  blk_ext [iblk, idx t, bat, grp, row]

theorem metaKeys_blk (t : Fin cfg0.N) (s : Fin 16) (d : Fin 64) :
    (iblk m c 4 t : Vec Ideal S1x1x16x64 .bf16) (ix4 0 0 s d) = aKM m c (ix3 s (grp t) d) := by
  refine Eq.trans ?_ (metaKeys m c (grp t) s d)
  blk_ext [iblk, idx t, bat, grp, row]

theorem values_blk (t : Fin cfg0.N) (r : Fin 80) (s : Fin 8192) :
    (iblk m c 3 t : Vec Ideal S1x1x80x8192 .bf16) (ix4 0 0 r s)
      = if h : r.val < 64 then aV m c (ix4 (bat t) s (grp t) ⟨r.val, h⟩) else if r.val < 65 then 1 else 0 := by
  refine Eq.trans ?_ (values m c (bat t) (grp t) r s)
  blk_ext [iblk, idx t, bat, grp, row]

theorem metaValues_blk (t : Fin cfg0.N) (r : Fin 80) (s : Fin 16) :
    (iblk m c 5 t : Vec Ideal S1x1x80x16 .bf16) (ix4 0 0 r s)
      = if h : r.val < 64 then aVM m c (ix3 s (grp t) ⟨r.val, h⟩) else if r.val < 65 then 1 else 0 := by
  refine Eq.trans ?_ (metaValues m c (grp t) r s)
  blk_ext [iblk, idx t, bat, grp, row]

theorem gate_blk (t : Fin cfg0.N) (l : Fin 128) (j : Fin 256) :
    (iblk m c 6 t : Vec Ideal S1x128x256 .f32) (ix3 0 l j)
      = aZ m c (ix3 (bat t) (row t l) ⟨(grp t).val * 256 + j.val, by omega⟩) := by
  blk_ext [iblk, V, idx t, bat, grp, row]

end Cert.KernelIdeal.Entry

end
-- ==== Proof.Finite.lean ====
/-
  The precondition: queries, keys and meta keys are finite.
-/
module

public import proofs.«01_k».proof.Defs
public import proofs.«01_k».proof.Proof.Entry
public import proofs.«01_k».proof.Proof.Softmax

@[expose] public section

set_option maxRecDepth 16384

noncomputable section

namespace Cert.Proof

open Idealize.ShloMosaic Idealize.ShloMosaic.TcCoe Idealize.SL.Sem

theorem pre_facts : Cert.Pre_finite_scores.Facts := ⟨by decide, by decide, by decide⟩

/-- The comparison of an absolute value with +∞ says that the value is finite. -/
theorem finite_of (x : EReal) (h : BitVec.ofBool (decide (max x (-x) < Ideal.ofBits .f32 0x7F800000#32)) = 1#1) :
    Cert.Softmax.Fin' x := by
  rw [Cert.Softmax.inf] at h
  have h' : max x (-x) < ⊤ := by
    by_contra hc
    rw [decide_eq_false hc] at h
    exact absurd h (by decide)
  constructor
  · rintro rfl
    exact absurd h' (by simp)
  · rintro rfl
    exact absurd h' (by simp)

variable (m : (ℓ : Loc Cert.KernelIdeal.nD Cert.KernelIdeal.τ Cert.KernelIdeal.sig) → Buf (Elt Ideal) ℓ)
  (c : Dev Cert.KernelIdeal.nD) (h : Cert.Pre_KernelIdeal_finite_scores (hPre_finite_scores := pre_facts) m)

open Cert.KernelIdeal.Entry

include h

/-- Every query is finite. -/
theorem finite_q (b : Fin 8) (n : Fin 8192) (r : Fin 8) (d : Fin 64) : Cert.Softmax.Fin' (aQ m c (ix4 b n r d)) := by
  have e := congrFun (h c).1 (ix4 b n r d)
  pointwise [Cert.Pre_finite_scores.fn] at e
  exact finite_of _ e

/-- Every key is finite. -/
theorem finite_k (b : Fin 8) (n : Fin 8192) (g : Fin 2) (d : Fin 64) : Cert.Softmax.Fin' (aK m c (ix4 b n g d)) := by
  have e := congrFun (h c).2.1 (ix4 b n g d)
  pointwise [Cert.Pre_finite_scores.fn] at e
  exact finite_of _ e

/-- Every meta key is finite. -/
theorem finite_km (s : Fin 16) (g : Fin 2) (d : Fin 64) : Cert.Softmax.Fin' (aKM m c (ix3 s g d)) := by
  have e := congrFun (h c).2.2 (ix3 s g d)
  pointwise [Cert.Pre_finite_scores.fn] at e
  exact finite_of _ e

end Cert.Proof

end
-- ==== Proof.Value.lean ====
/-
  The kernel's array is the reference's result of the same arguments.
-/
module

public import proofs.«01_k».proof.Proof.BlockValue
public import proofs.«01_k».proof.Proof.RefValue
public import proofs.«01_k».proof.Proof.Equation
public import proofs.«01_k».proof.Proof.Finite

@[expose] public section

set_option maxRecDepth 16384

noncomputable section

namespace Cert.KernelIdeal.Final

open Cert.KernelIdeal Cert.KernelIdeal.Gen Cert.KernelIdeal.Blocks Cert.KernelIdeal.Entry
open Idealize.ShloMosaic Idealize.ShloMosaic.TcCoe Idealize.SL.Sem

/-- What the body writes at row `l` and column `j` of a block, from its six input blocks. -/
theorem outBlock_at (Q : Vec Ideal S1x4x64x128 .bf16) (K : Vec Ideal S1x1x8192x64 .bf16) (V : Vec Ideal S1x1x80x8192 .bf16)
    (KM : Vec Ideal S1x1x16x64 .bf16) (VM : Vec Ideal S1x1x80x16 .bf16) (Z : Vec Ideal S1x128x256 .f32) (l : Fin 128) (j : Fin 256)
    (h : Fin 4) (d : Fin 64) (r : Fin 512) (o : Fin 80) (hh : j.val / 64 = h.val) (hd : j.val % 64 = d.val) (hr : r.val = h.val * 128 + l.val) (ho : o.val = d.val) :
    outBlock (F := Ideal) Q K V KM VM Z (ix3 0 l j)
      = Ideal.div
          ((∑ x : Fin 16, VM (ix4 0 0 o x) * Ideal.exp2 (metaScore (F := Ideal) (catQ Q) KM (ix2 x r)
              - allMax (metaMax (metaScore (catQ Q) KM)) (runMax (catQ Q) K 32) (ix2 0 r)))
            + ∑ s : Fin 8192, V (ix4 0 0 o s) * Ideal.exp2 (scores (F := Ideal) (catQ Q) K (ix2 s r)
              - allMax (metaMax (metaScore (catQ Q) KM)) (runMax (catQ Q) K 32) (ix2 0 r)))
          ((∑ x : Fin 16, VM (ix4 0 0 64 x) * Ideal.exp2 (metaScore (F := Ideal) (catQ Q) KM (ix2 x r)
              - allMax (metaMax (metaScore (catQ Q) KM)) (runMax (catQ Q) K 32) (ix2 0 r)))
            + ∑ s : Fin 8192, V (ix4 0 0 64 s) * Ideal.exp2 (scores (F := Ideal) (catQ Q) K (ix2 s r)
              - allMax (metaMax (metaScore (catQ Q) KM)) (runMax (catQ Q) K 32) (ix2 0 r)))
        * (Z (ix3 0 l j) * Ideal.logistic (Z (ix3 0 l j))) := by
  have ho' : o = ⟨j.val % 64, by omega⟩ := Fin.ext (by show o.val = j.val % 64; omega)
  have hr' : r = ⟨j.val / 64 * 128 + l.val, by omega⟩ := Fin.ext (by show r.val = j.val / 64 * 128 + l.val; omega)
  refine (outer_at _ Z l j).trans (Ideal.mul_congr ?_ rfl)
  rw [← ho', ← hr']
  exact congrArg₂ Ideal.div (total_at _ _ _ _ V VM o r) (total_at _ _ _ _ V VM 64 r)

variable (m : (ℓ : Loc nD τ sig) → Buf (Elt Ideal) ℓ) (c : Dev nD)

/-- A point's query at a head's row. -/
theorem query_at (t : Fin cfg0.N) (h : Fin 4) (l : Fin 128) (r : Fin 512) (hr : r.val = h.val * 128 + l.val) (d : Fin 64) :
    catQ (F := Ideal) (iblk m c 0 t) (ix2 d r) = aQ m c (ix4 (bat t) (row t l) ⟨(grp t).val * 4 + h.val, by omega⟩ d) * scale := by
  refine (catQ_at _ d r).trans (Eq.trans ?_ (queries_blk m c t h d l))
  exact congrArg (iblk m c 0 t : Vec Ideal S1x4x64x128 .bf16) ((ix4_inj ..).2 ⟨rfl, Fin.ext (by show r.val / 128 = h.val; omega), rfl,
    Fin.ext (by show r.val % 128 = l.val; omega)⟩)

variable (hpre : Cert.Pre_KernelIdeal_finite_scores (hPre_finite_scores := Cert.Proof.pre_facts) m)

include hpre in
/-- A point's block, element by element, is the reference's result at the element's place. -/
theorem block_at (t : Fin cfg0.N) (l : Fin 128) (j : Fin 256) :
    outBlock (F := Ideal) (iblk m c 0 t) (iblk m c 2 t) (iblk m c 3 t) (iblk m c 4 t) (iblk m c 5 t) (iblk m c 6 t) (ix3 0 l j)
      = Cert.ReferenceIdeal.Terms.result (aQ m c) (aK m c) (aV m c) (aKM m c) (aVM m c) (aZ m c)
          (ix3 (bat t) (row t l) ⟨(grp t).val * 256 + j.val, by omega⟩) := by
  have hj := j.isLt
  let h : Fin 4 := ⟨j.val / 64, by omega⟩
  let d : Fin 64 := ⟨j.val % 64, by omega⟩
  let r : Fin 512 := ⟨h.val * 128 + l.val, by omega⟩
  let o : Fin 80 := ⟨d.val, by omega⟩
  refine (outBlock_at _ _ _ _ _ _ l j h d r o rfl rfl rfl rfl).trans ?_
  refine Eq.trans ?_ (Cert.ReferenceIdeal.Terms.result_at _ _ _ _ _ _ (bat t) (row t l) (grp t) h d _
    (by show (grp t).val * 256 + j.val = (grp t).val * 256 + j.val / 64 * 64 + j.val % 64; omega)).symm
  refine Ideal.mul_congr ?_ ?_
  · refine Eq.trans ?_ (Cert.Softmax.attention_eq (A := 16) (B := 8192) (n := 64)
      (fun d => aQ m c (ix4 (bat t) (row t l) ⟨(grp t).val * 4 + h.val, by omega⟩ d))
      (fun x d => aKM m c (ix3 x (grp t) d)) (fun s d => aK m c (ix4 (bat t) s (grp t) d))
      (fun x => aVM m c (ix3 x (grp t) d)) (fun s => aV m c (ix4 (bat t) s (grp t) d))
      (fun d => Cert.Proof.finite_q m c hpre _ _ _ d) (fun x d => Cert.Proof.finite_km m c hpre x _ d)
      (fun s d => Cert.Proof.finite_k m c hpre _ s _ d)
      (fun x => metaScore (F := Ideal) (catQ (iblk m c 0 t)) (iblk m c 4 t) (ix2 x r))
      (fun s => scores (F := Ideal) (catQ (iblk m c 0 t)) (iblk m c 2 t) (ix2 s r)) _ ?_ ?_
      (max_le_iff_all _ _ _ r)
      (fun s => Cert.ReferenceIdeal.Terms.scores (aQ m c) (Cert.ReferenceIdeal.Terms.joined (aKM m c) (aK m c)) (ix5 (bat t) (grp t) h (row t l) s))
      (fun s => Cert.ReferenceIdeal.Terms.joined (aVM m c) (aV m c) (ix4 (bat t) s (grp t) d)) _
      (fun x => Cert.ReferenceIdeal.Terms.score_meta _ _ _ _ _ _ _ x _ rfl)
      (fun s => Cert.ReferenceIdeal.Terms.score_key _ _ _ _ _ _ _ s _ rfl)
      (fun x => Cert.ReferenceIdeal.Terms.value_meta _ _ _ _ _ x _ rfl)
      (fun s => Cert.ReferenceIdeal.Terms.value_real _ _ _ _ _ s _ rfl)
      (Cert.ReferenceIdeal.Terms.top_le _ _ _ _ _))
    · refine congrArg₂ Ideal.div (Ideal.add_congr (Finset.sum_congr rfl fun x _ => Ideal.mul_congr ?_ rfl) (Finset.sum_congr rfl fun s _ => Ideal.mul_congr ?_ rfl))
        (Ideal.add_congr (Finset.sum_congr rfl fun x _ => Ideal.mul_congr ?_ rfl) (Finset.sum_congr rfl fun s _ => Ideal.mul_congr ?_ rfl))
      · exact (metaValues_blk m c t o x).trans (dif_pos d.isLt)
      · exact (values_blk m c t o s).trans (dif_pos d.isLt)
      · exact (metaValues_blk m c t 64 x).trans ((dif_neg (by decide)).trans (if_pos (by decide)))
      · exact (values_blk m c t 64 s).trans ((dif_neg (by decide)).trans (if_pos (by decide)))
    · intro x
      refine (metaScore_at _ _ x r).trans (Finset.sum_congr rfl fun d _ => Ideal.mul_congr (metaKeys_blk m c t x d) ?_)
      exact query_at m c t h l r rfl d
    · intro s
      refine (scores_at _ _ s r).trans (Finset.sum_congr rfl fun d _ => Ideal.mul_congr (keys_blk m c t s d) ?_)
      exact query_at m c t h l r rfl d
  · rw [gate_blk m c t l j]

include hpre in
/-- The same at a block's index: the element's place is where the window puts it. -/
theorem block_eq (t : Fin cfg0.N) (y : S1x128x256.Idx) :
    outBlock (F := Ideal) (iblk m c 0 t) (iblk m c 2 t) (iblk m c 3 t) (iblk m c 4 t) (iblk m c 5 t) (iblk m c 6 t) y
      = Cert.ReferenceIdeal.Terms.result (aQ m c) (aK m c) (aV m c) (aKM m c) (aVM m c) (aZ m c) ((win0_7.blk t).view.emb y) := by
  idx_vars y
  obtain rfl : y0 = 0 := Subsingleton.elim _ _
  refine (block_at m c hpre t y1 y2).trans ?_
  generalize Cert.ReferenceIdeal.Terms.result (aQ m c) (aK m c) (aV m c) (aKM m c) (aVM m c) (aZ m c) = G
  refine congrArg G ?_
  blk_ext [idx t, bat, grp, row]

include hpre in
/-- The kernel's result array is the reference's result. -/
theorem final : (Run.dats (F := Ideal) m 0 c).arrAt 7 (cfgs 0).N
    = Cert.ReferenceIdeal.Terms.result (aQ m c) (aK m c) (aV m c) (aKM m c) (aVM m c) (aZ m c) := by
  refine (Run.dats (F := Ideal) m 0 c).arrAt_eq_of_covers 7 _ (by decide +kernel) fun t _ y => ?_
  blk_simp
  rw [Run.after0_7]
  exact block_eq m c hpre t y

end Cert.KernelIdeal.Final

end
-- ==== Proof.OutBlock.lean ====
/-
  What one block of the output call holds, element by element, over the extended reals.
-/
module

public import proofs.«01_k».proof.Proof.Gen.Kernel2Ideal.Frame
public import Idealize.ShloMosaic.Lib.Pointwise

@[expose] public section

set_option maxRecDepth 16384

noncomputable section

namespace Cert.Kernel2Ideal.Block

open Cert.Kernel2Ideal Cert.Kernel2Ideal.Gen
open Idealize.ShloMosaic Idealize.ShloMosaic.TcCoe Idealize.ShloMosaic.Tactic
open Idealize.SL.Sem

/-- The scaled input plus the projected merge, at an index. -/
theorem mixed_at (A : Vec Ideal S1x512x512 .bf16) (WA : Vec Ideal S512x1024 .bf16) (B : Vec Ideal S1x512x512 .bf16) (WB : Vec Ideal S512x1024 .bf16)
    (G H : Vec Ideal S1x512x1024 .f32) (WO : Vec Ideal S1024x1024 .bf16) (X : Vec Ideal S1x512x1024 .f32) (r : Fin 512) (j : Fin 1024) :
    k0_pay2 (F := Ideal) A WA B WB G H WO X (ix2 r j)
      = Ideal.ofBits .f32 0x3F9837F0#32 * X (ix3 0 r j)
        + ∑ k : Fin 1024, (Ideal.logistic (G (ix3 0 r k)) * (∑ e : Fin 512, A (ix3 0 r e) * WA (ix2 e k))
            + Ideal.logistic (H (ix3 0 r k)) * (∑ e : Fin 512, B (ix3 0 r e) * WB (ix2 e k))) * WO (ix2 k j) := by
  pointwise [k0_pay2]

/-- The rows' sums, at an index. -/
theorem sums_at (A : Vec Ideal S1x512x512 .bf16) (WA : Vec Ideal S512x1024 .bf16) (B : Vec Ideal S1x512x512 .bf16) (WB : Vec Ideal S512x1024 .bf16)
    (G H : Vec Ideal S1x512x1024 .f32) (WO : Vec Ideal S1024x1024 .bf16) (X : Vec Ideal S1x512x1024 .f32) (r : Fin 512) :
    k0_pay3 (F := Ideal) A WA B WB G H WO X (ix2 r 0) = ∑ k : Fin 1024, k0_pay2 (F := Ideal) A WA B WB G H WO X (ix2 r k) := by
  unfold k0_pay3
  generalize k0_pay2 (F := Ideal) A WA B WB G H WO X = Y
  pointwise []

/-- The layer norm of rows `Y` whose sums are `S`, at an index. -/
theorem normed_at (Y : FVec Ideal S512x1024 .f32) (S : FVec Ideal S512x1 .f32) (G B : Vec Ideal S1x1024 .f32) (r : Fin 512) (j : Fin 1024) :
    k0_pay1 (F := Ideal) Y S (k0_pay4 (F := Ideal)) G B (ix3 0 r j)
      = (Y (ix2 r j) - Ideal.div (S (ix2 r 0)) (Ideal.ofBits .f32 0x44800000#32))
          * Ideal.rsqrt (Ideal.div (∑ k : Fin 1024, (Y (ix2 r k) - Ideal.div (S (ix2 r 0)) (Ideal.ofBits .f32 0x44800000#32))
              * (Y (ix2 r k) - Ideal.div (S (ix2 r 0)) (Ideal.ofBits .f32 0x44800000#32))) (Ideal.ofBits .f32 0x44800000#32) + Ideal.ofBits .f32 0x3727C5AC#32)
          * G (ix2 0 j) + B (ix2 0 j) := by
  pointwise [k0_pay1, k0_pay4]

end Cert.Kernel2Ideal.Block

end
-- ==== Proof.OutRef.lean ====
/-
  What the output call's reference computes, element by element, over the extended reals.
-/
module

public import proofs.«01_k».proof.Proof.Gen.Reference2Ideal.Run
public import Idealize.ShloMosaic.Lib.Pointwise

@[expose] public section

set_option maxRecDepth 16384

noncomputable section

namespace Cert.Reference2Ideal.Terms

open Cert.Reference2Ideal Cert.Reference2Ideal.Gen
open Idealize.ShloMosaic Idealize.ShloMosaic.TcCoe Idealize.ShloMosaic.Tactic
open Idealize.SL.Sem

/-- The logistic function of one half of the gates. -/
def gate (G : FVec Ideal S8x8192x1024 .f32) : FVec Ideal S8x8192x1024 .f32 :=
  Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf G)))

/-- One branch through its projection. -/
def branch (A : FVec Ideal S8x8192x512 .bf16) (W : FVec Ideal S1x512x1024 .f32) : FVec Ideal S8x8192x1024 .f32 :=
  Host.dotGeneral dot_S8x8192x512_S512x1024_S8x8192x1024_2_0_01_1_n_n none (extf .f32 A bitsLt_bf16_f32) (shapeCast _ W shapeCasts_S1x512x1024_S512x1024)

/-- The two gated branches' sum. -/
def merged (A B : FVec Ideal S8x8192x512 .bf16) (G : FVec Ideal S8x8192x2048 .f32) (WA WB : FVec Ideal S1x512x1024 .f32) : FVec Ideal S8x8192x1024 .f32 :=
  addf (mulf (gate (extractStridedSlice S8x8192x1024 ![0, 0, 0] G slices_S8x8192x2048_S8x8192x1024_0_0_0)) (branch A WA))
    (mulf (gate (extractStridedSlice S8x8192x1024 ![0, 0, 1024] G slices_S8x8192x2048_S8x8192x1024_0_0_1024)) (branch B WB))

/-- The scaled input plus the projected merge. -/
def mixed (X M : FVec Ideal S8x8192x1024 .f32) (WO : FVec Ideal S1x1024x1024 .f32) : FVec Ideal S8x8192x1024 .f32 :=
  addf (mulf (broadcastInDim S8x8192x1024 ![] bcast_S_S8x8192x1024 (constant S_ .f32 0x3F9837F0#32)) X) (Host.dotGeneral dot_S8x8192x1024_S1024x1024_S8x8192x1024_2_0_01_1_n_n none M (shapeCast _ WO shapeCasts_S1x1024x1024_S1024x1024))

/-- Each row's mean. -/
def mean (Y : FVec Ideal S8x8192x1024 .f32) : FVec Ideal S8x8192x1 .f32 :=
  Host.divf (broadcastInDim S8x8192x1 ![0, 1] bcast_S8x8192_S8x8192x1_0_1 (Host.reduceAdd Y (constant S_ .f32 0x00000000#32) reducesTo_S8x8192x1024_S8x8192_d2 h_S_)) (broadcastInDim S8x8192x1 ![] bcast_S_S8x8192x1 (constant S_ .f32 0x44800000#32))

/-- Each row less its mean. -/
def centred (Y : FVec Ideal S8x8192x1024 .f32) : FVec Ideal S8x8192x1024 .f32 :=
  subf Y (broadcastInDim S8x8192x1024 ![0, 1, 2] bcast_S8x8192x1_S8x8192x1024_0_1_2 (mean Y))

/-- A row's gain or bias, repeated for every row. -/
def spread (G : FVec Ideal S1x1024 .f32) : FVec Ideal S8x8192x1024 .f32 :=
  broadcastInDim S8x8192x1024 ![0, 1, 2] bcast_S1x1x1024_S8x8192x1024_0_1_2 (broadcastInDim S1x1x1024 ![2] bcast_S1024_S1x1x1024_2 (shapeCast _ G shapeCasts_S1x1024_S1024))

/-- The centred rows `D` over the root of their mean square, times the gain, plus the bias. -/
def scaled (D : FVec Ideal S8x8192x1024 .f32) (G B : FVec Ideal S1x1024 .f32) : FVec Ideal S8x8192x1024 .f32 :=
  addf (mulf (mulf D (broadcastInDim S8x8192x1024 ![0, 1, 2] bcast_S8x8192x1_S8x8192x1024_0_1_2 (Host.rsqrt (addf (mean (mulf D D)) (broadcastInDim S8x8192x1 ![] bcast_S_S8x8192x1 (constant S_ .f32 0x3727C5AC#32)))))) (spread G)) (spread B)

/-- The reference's result. -/
def result (A B : FVec Ideal S8x8192x512 .bf16) (G : FVec Ideal S8x8192x2048 .f32) (X : FVec Ideal S8x8192x1024 .f32) (WA WB : FVec Ideal S1x512x1024 .f32)
    (WO : FVec Ideal S1x1024x1024 .f32) (LG LB : FVec Ideal S1x1024 .f32) : FVec Ideal S8x8192x1024 .f32 :=
  scaled (centred (mixed X (merged A B G WA WB) WO)) LG LB

/-- The reference's run leaves `result` of its arguments. -/
theorem res_eq (m : (ℓ : Loc nD τ sig) → Buf (Elt Ideal) ℓ) (c : Dev nD) :
    Value.res_main_v53 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Value.res_main_v53 result
  rfl

/-- The merge at an index. -/
theorem merged_at (A B : FVec Ideal S8x8192x512 .bf16) (G : FVec Ideal S8x8192x2048 .f32) (WA WB : FVec Ideal S1x512x1024 .f32)
    (b : Fin 8) (n : Fin 8192) (k : Fin 1024) :
    merged A B G WA WB (ix3 b n k)
      = Ideal.logistic (G (ix3 b n ⟨k.val, by omega⟩)) * (∑ e : Fin 512, A (ix3 b n e) * WA (ix3 0 e k))
        + Ideal.logistic (G (ix3 b n ⟨1024 + k.val, by omega⟩)) * (∑ e : Fin 512, B (ix3 b n e) * WB (ix3 0 e k)) := by
  pointwise [merged, gate, branch]
  rfl

/-- The mixture at an index. -/
theorem mixed_at (X M : FVec Ideal S8x8192x1024 .f32) (WO : FVec Ideal S1x1024x1024 .f32) (b : Fin 8) (n : Fin 8192) (j : Fin 1024) :
    mixed X M WO (ix3 b n j) = Ideal.ofBits .f32 0x3F9837F0#32 * X (ix3 b n j) + ∑ k : Fin 1024, M (ix3 b n k) * WO (ix3 0 k j) := by
  pointwise [mixed]

/-- A row's mean. -/
theorem mean_at (Y : FVec Ideal S8x8192x1024 .f32) (b : Fin 8) (n : Fin 8192) :
    mean Y (ix3 b n 0) = Ideal.div (∑ k : Fin 1024, Y (ix3 b n k)) (Ideal.ofBits .f32 0x44800000#32) := by
  pointwise [mean]

theorem centred_at (Y : FVec Ideal S8x8192x1024 .f32) (b : Fin 8) (n : Fin 8192) (j : Fin 1024) :
    centred Y (ix3 b n j) = Y (ix3 b n j) - Ideal.div (∑ k : Fin 1024, Y (ix3 b n k)) (Ideal.ofBits .f32 0x44800000#32) := by
  refine Eq.trans ?_ (congrArg (Y (ix3 b n j) - ·) (mean_at Y b n))
  pointwise [centred]

theorem scaled_at (D : FVec Ideal S8x8192x1024 .f32) (G B : FVec Ideal S1x1024 .f32) (b : Fin 8) (n : Fin 8192) (j : Fin 1024) :
    scaled D G B (ix3 b n j)
      = D (ix3 b n j) * Ideal.rsqrt (Ideal.div (∑ k : Fin 1024, D (ix3 b n k) * D (ix3 b n k)) (Ideal.ofBits .f32 0x44800000#32) + Ideal.ofBits .f32 0x3727C5AC#32)
          * G (ix2 0 j) + B (ix2 0 j) := by
  pointwise [scaled, mean, spread]

end Cert.Reference2Ideal.Terms

end
-- ==== Proof.OutValue.lean ====
/-
  The output call's array is its reference's result of the same arguments.

  At point `t` the batch is `t / 16` and the rows are the 512 from `t % 16 * 512`.
-/
module

public import proofs.«01_k».proof.Proof.OutBlock
public import proofs.«01_k».proof.Proof.OutRef
public import Idealize.ShloMosaic.Lib.Pipeline.ValueKit

@[expose] public section

set_option maxRecDepth 16384

noncomputable section

namespace Cert.Kernel2Ideal.Final

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The two branches, the gates, the layer's input, the two branches' projections, the merge's, the gain and the bias. -/
abbrev aA : FVec Ideal S8x8192x512 .bf16 := m ((c : Thread nD τ).loc main_arg0)
abbrev aB : FVec Ideal S8x8192x512 .bf16 := m ((c : Thread nD τ).loc main_arg1)
abbrev aG : FVec Ideal S8x8192x2048 .f32 := m ((c : Thread nD τ).loc main_arg2)
abbrev aX : FVec Ideal S8x8192x1024 .f32 := m ((c : Thread nD τ).loc main_arg3)
abbrev aWA : FVec Ideal S1x512x1024 .f32 := m ((c : Thread nD τ).loc main_arg4)
abbrev aWB : FVec Ideal S1x512x1024 .f32 := m ((c : Thread nD τ).loc main_arg5)
abbrev aWO : FVec Ideal S1x1024x1024 .f32 := m ((c : Thread nD τ).loc main_arg6)
abbrev aLG : FVec Ideal S1x1024 .f32 := m ((c : Thread nD τ).loc main_arg7)
abbrev aLB : FVec Ideal S1x1024 .f32 := m ((c : Thread nD τ).loc main_arg8)

/-- A point's batch and its rows. -/
def bat (t : Fin cfg0.N) : Fin 8 := ⟨t.val / 16, by have h := t.isLt; change t.val < 128 at h; omega⟩
def row (t : Fin cfg0.N) (r : Fin 512) : Fin 8192 := ⟨t.val % 16 * 512 + r.val, by omega⟩

/-- The windows' blocks at each point. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![0, 0]
    ∧ win0_5.index t = ![0, 0] ∧ win0_6.index t = ![0, 0] ∧ win0_7.index t = ![0, 0] ∧ win0_8.index t = ![t.val / 16, t.val % 16, 0] :=
  (by decide +kernel : ∀ t : Fin grid0.N, _)

/-- The norm's gain over its bias, as the host stacks them. -/
theorem norm_gain (j : Fin 1024) : (V m c main_v4 : FVec Ideal S2x1024 .f32) (ix2 0 j) = aLG m c (ix2 0 j) := by
  entry_read
  pointwise []

theorem norm_bias (j : Fin 1024) : (V m c main_v4 : FVec Ideal S2x1024 .f32) (ix2 1 j) = aLB m c (ix2 0 j) := by
  entry_read
  pointwise []

/-- The projections as the host lays them out. -/
theorem proj_a (e : Fin 512) (k : Fin 1024) : (V m c main_v6 : FVec Ideal S512x1024 .bf16) (ix2 e k) = aWA m c (ix3 0 e k) := by
  entry_read
  pointwise []

theorem proj_b (e : Fin 512) (k : Fin 1024) : (V m c main_v8 : FVec Ideal S512x1024 .bf16) (ix2 e k) = aWB m c (ix3 0 e k) := by
  entry_read
  pointwise []

theorem proj_o (e k : Fin 1024) : (V m c main_v10 : FVec Ideal S1024x1024 .bf16) (ix2 e k) = aWO m c (ix3 0 e k) := by
  entry_read
  pointwise []

/-- What the blocks hold. -/
theorem blk_a (t : Fin cfg0.N) (r e : Fin 512) : (iblk m c 0 t : Vec Ideal S1x512x512 .bf16) (ix3 0 r e) = aA m c (ix3 (bat t) (row t r) e) := by
  blk_ext [iblk, V, idx t, bat, row]

theorem blk_b (t : Fin cfg0.N) (r e : Fin 512) : (iblk m c 1 t : Vec Ideal S1x512x512 .bf16) (ix3 0 r e) = aB m c (ix3 (bat t) (row t r) e) := by
  blk_ext [iblk, V, idx t, bat, row]

theorem blk_g (t : Fin cfg0.N) (r : Fin 512) (k : Fin 2048) : (iblk m c 2 t : Vec Ideal S1x512x2048 .f32) (ix3 0 r k) = aG m c (ix3 (bat t) (row t r) k) := by
  blk_ext [iblk, V, idx t, bat, row]

theorem blk_x (t : Fin cfg0.N) (r : Fin 512) (k : Fin 1024) : (iblk m c 3 t : Vec Ideal S1x512x1024 .f32) (ix3 0 r k) = aX m c (ix3 (bat t) (row t r) k) := by
  blk_ext [iblk, V, idx t, bat, row]

theorem blk_wa (t : Fin cfg0.N) (e : Fin 512) (k : Fin 1024) : (iblk m c 4 t : Vec Ideal S512x1024 .bf16) (ix2 e k) = aWA m c (ix3 0 e k) := by
  refine Eq.trans ?_ (proj_a m c e k)
  blk_ext [iblk, idx t]

theorem blk_wb (t : Fin cfg0.N) (e : Fin 512) (k : Fin 1024) : (iblk m c 5 t : Vec Ideal S512x1024 .bf16) (ix2 e k) = aWB m c (ix3 0 e k) := by
  refine Eq.trans ?_ (proj_b m c e k)
  blk_ext [iblk, idx t]

theorem blk_wo (t : Fin cfg0.N) (e k : Fin 1024) : (iblk m c 6 t : Vec Ideal S1024x1024 .bf16) (ix2 e k) = aWO m c (ix3 0 e k) := by
  refine Eq.trans ?_ (proj_o m c e k)
  blk_ext [iblk, idx t]

theorem blk_lg (t : Fin cfg0.N) (k : Fin 1024) : (iblk m c 7 t : Vec Ideal S2x1024 .f32) (ix2 0 k) = aLG m c (ix2 0 k) := by
  refine Eq.trans ?_ (norm_gain m c k)
  blk_ext [iblk, idx t]

theorem blk_lb (t : Fin cfg0.N) (k : Fin 1024) : (iblk m c 7 t : Vec Ideal S2x1024 .f32) (ix2 1 k) = aLB m c (ix2 0 k) := by
  refine Eq.trans ?_ (norm_bias m c k)
  blk_ext [iblk, idx t]

/-- A block's mixture before the norm. -/
abbrev mixed (t : Fin cfg0.N) : FVec Ideal S512x1024 .f32 :=
  k0_pay2 (F := Ideal) (iblk m c 0 t) (iblk m c 4 t) (iblk m c 1 t) (iblk m c 5 t)
    (View.ld (iblk m c 2 t) r0_2) (View.ld (iblk m c 2 t) r0_3) (iblk m c 6 t) (iblk m c 3 t)

/-- The reference's mixture, of the whole arrays. -/
abbrev whole : FVec Ideal S8x8192x1024 .f32 :=
  Cert.Reference2Ideal.Terms.mixed (aX m c) (Cert.Reference2Ideal.Terms.merged (aA m c) (aB m c) (aG m c) (aWA m c) (aWB m c)) (aWO m c)

/-- A block's mixture is the reference's at its batch and row. -/
theorem mixed_eq (t : Fin cfg0.N) (r : Fin 512) (j : Fin 1024) : mixed m c t (ix2 r j) = whole m c (ix3 (bat t) (row t r) j) := by
  refine (Block.mixed_at _ _ _ _ _ _ _ _ r j).trans (Eq.trans ?_ (Cert.Reference2Ideal.Terms.mixed_at _ _ _ _ _ _).symm)
  refine Ideal.add_congr (Ideal.mul_congr rfl ?_) (Finset.sum_congr rfl fun k _ => Ideal.mul_congr ?_ ?_)
  · exact blk_x m c t r j
  · refine Eq.trans ?_ (Cert.Reference2Ideal.Terms.merged_at _ _ _ _ _ _ _ _).symm
    refine Ideal.add_congr (Ideal.mul_congr (congrArg Ideal.logistic ?_) (Finset.sum_congr rfl fun e _ => Ideal.mul_congr ?_ ?_))
      (Ideal.mul_congr (congrArg Ideal.logistic ?_) (Finset.sum_congr rfl fun e _ => Ideal.mul_congr ?_ ?_))
    · refine Eq.trans ?_ (blk_g m c t r _)
      pointwise []
    · exact blk_a m c t r e
    · exact blk_wa m c t e k
    · refine Eq.trans ?_ (blk_g m c t r _)
      pointwise []
    · exact blk_b m c t r e
    · exact blk_wb m c t e k
  · exact blk_wo m c t k j

/-- What the body leaves in the output block. -/
abbrev outBlock (t : Fin cfg0.N) : Vec Ideal S1x512x1024 .f32 :=
  k0_pay1 (F := Ideal) (mixed m c t)
    (k0_pay3 (F := Ideal) (iblk m c 0 t) (iblk m c 4 t) (iblk m c 1 t) (iblk m c 5 t)
      (View.ld (iblk m c 2 t) r0_2) (View.ld (iblk m c 2 t) r0_3) (iblk m c 6 t) (iblk m c 3 t))
    (k0_pay4 (F := Ideal)) (View.ld (iblk m c 7 t) r0_6) (View.ld (iblk m c 7 t) r0_7)

/-- The reference's result of the kernel's arguments. -/
abbrev expected : FVec Ideal S8x8192x1024 .f32 :=
  Cert.Reference2Ideal.Terms.result (aA m c) (aB m c) (aG m c) (aX m c) (aWA m c) (aWB m c) (aWO m c) (aLG m c) (aLB m c)

/-- A centred element of a block is the reference's. -/
theorem centred_eq (t : Fin cfg0.N) (r : Fin 512) (j : Fin 1024) (s : EReal) (hs : s = ∑ k : Fin 1024, mixed m c t (ix2 r k)) :
    mixed m c t (ix2 r j) - Ideal.div s (Ideal.ofBits .f32 0x44800000#32)
      = Cert.Reference2Ideal.Terms.centred (whole m c) (ix3 (bat t) (row t r) j) := by
  rw [Cert.Reference2Ideal.Terms.centred_at, hs, mixed_eq]
  simp only [mixed_eq]

/-- A block's element is the reference's result at its batch and row. -/
theorem block_at (t : Fin cfg0.N) (r : Fin 512) (j : Fin 1024) : outBlock m c t (ix3 0 r j) = expected m c (ix3 (bat t) (row t r) j) := by
  refine (Block.normed_at _ _ _ _ r j).trans (Eq.trans ?_ (Cert.Reference2Ideal.Terms.scaled_at _ _ _ _ _ _).symm)
  have h (k : Fin 1024) := centred_eq m c t r k _ (Block.sums_at _ _ _ _ _ _ _ _ r)
  refine Ideal.add_congr (Ideal.mul_congr (Ideal.mul_congr (h j) ?_) ?_) ?_
  · exact congrArg (fun z => Ideal.rsqrt (Ideal.div z (Ideal.ofBits .f32 0x44800000#32) + Ideal.ofBits .f32 0x3727C5AC#32))
      (Finset.sum_congr rfl fun k _ => Ideal.mul_congr (h k) (h k))
  · refine Eq.trans ?_ (blk_lg m c t j)
    pointwise []
  · refine Eq.trans ?_ (blk_lb m c t j)
    pointwise []

/-- The same at a block's index: the element's place is where the window puts it. -/
theorem block_eq (t : Fin cfg0.N) (y : S1x512x1024.Idx) : outBlock m c t y = expected m c ((win0_8.blk t).view.emb y) := by
  idx_vars y
  obtain rfl : y0 = 0 := Subsingleton.elim _ _
  refine (block_at m c t y1 y2).trans ?_
  generalize expected m c = G
  refine congrArg G ?_
  blk_ext [idx t, bat, row]

/-- The kernel's result array is the reference's result. -/
theorem final : (dats m 0 c).arrAt 8 (cfgs 0).N = expected m c := by
  refine (dats m 0 c).arrAt_eq_of_covers 8 _ (by decide +kernel) fun t _ y => ?_
  blk_simp
  rw [after0_8]
  frame_out
  exact block_eq m c t y

end Cert.Kernel2Ideal.Final

end
-- ==== Proof.ProjRef.lean ====
/-
  What the projection call's reference computes, element by element, over the extended reals.

  Every result is a few columns of one matrix product; the queries and keys are turned by their position's angles, head by head, in the axial
  branch after the norm of the head.
-/
module

public import proofs.«01_k».proof.Proof.Gen.Reference3Ideal
public import Idealize.ShloMosaic.Lib.Pointwise

@[expose] public section

set_option maxRecDepth 16384

noncomputable section

namespace Cert.Reference3Ideal.Terms

open Cert.Reference3Ideal Cert.Reference3Ideal.Gen
open Idealize.ShloMosaic Idealize.ShloMosaic.TcCoe Idealize.ShloMosaic.Tactic
open Idealize.SL.Sem

/-- One head's 64 features turned by 32 angles: feature `k` with feature `32 + k`. -/
def turn (y : Fin 64 → EReal) (a : Fin 32 → EReal) (d : Fin 64) : EReal :=
  if h : d.val < 32 then y d * Ideal.cos (a ⟨d.val, h⟩) - y ⟨32 + d.val, by omega⟩ * Ideal.sin (a ⟨d.val, h⟩)
  else y ⟨d.val - 32, by omega⟩ * Ideal.sin (a ⟨d.val - 32, by omega⟩) + y ⟨32 + (d.val - 32), by omega⟩ * Ideal.cos (a ⟨d.val - 32, by omega⟩)

/-- Half of a head turned by 16 angles: feature `k` with feature `16 + k`. -/
def turnHalf (y : Fin 32 → EReal) (a : Fin 16 → EReal) (d : Fin 32) : EReal :=
  if h : d.val < 16 then y d * Ideal.cos (a ⟨d.val, h⟩) - y ⟨16 + d.val, by omega⟩ * Ideal.sin (a ⟨d.val, h⟩)
  else y ⟨d.val - 16, by omega⟩ * Ideal.sin (a ⟨d.val - 16, by omega⟩) + y ⟨16 + (d.val - 16), by omega⟩ * Ideal.cos (a ⟨d.val - 16, by omega⟩)

/-- The axial embedding: the head's first half by its row's angles, the second by its column's. -/
def turnAxial (y : Fin 64 → EReal) (r c : Fin 16 → EReal) (d : Fin 64) : EReal :=
  if h : d.val < 32 then turnHalf (fun k => y ⟨k.val, by omega⟩) r ⟨d.val, h⟩
  else turnHalf (fun k => y ⟨32 + k.val, by omega⟩) c ⟨d.val - 32, by omega⟩

/-- A head over the root of its mean square, times the gain. -/
def normed (y g : Fin 64 → EReal) (d : Fin 64) : EReal :=
  y d * Ideal.rsqrt (Ideal.div (∑ k, y k * y k) (Ideal.ofBits .f32 0x42800000#32) + Ideal.ofBits .f32 0x358637BD#32) * g d

/-- The matrix product every result is cut from. -/
def projected (X : FVec Ideal S8x8192x1024 .f32) (W : FVec Ideal S1x1024x4608 .f32) : FVec Ideal S8x8192x4608 .f32 :=
  Host.dotGeneral dot_S8x8192x1024_S1024x4608_S8x8192x4608_2_0_01_1_n_n none X (shapeCast _ W shapeCasts_S1x1024x4608_S1024x4608)

/-- The angles of the tokens' positions, 16 meta tokens before them. -/
def angle : FVec Ideal S8192x32 .f32 :=
  mulf (broadcastInDim S8192x32 ![0, 1] bcast_S8192x1_S8192x32_0_1 (broadcastInDim S8192x1 ![0] bcast_S8192_S8192x1_0 (sitofp .f32 (addi (iotaInDim S8192 32 0) (broadcastInDim S8192 ![] bcast_S_S8192 (constantI S_ 32 16#32)))))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The angles of grid coordinates. -/
def angleOf (P : IVec S8192 32) : FVec Ideal S8192x16 .f32 :=
  mulf (broadcastInDim S8192x16 ![0, 1] bcast_S8192x1_S8192x16_0_1 (broadcastInDim S8192x1 ![0] bcast_S8192_S8192x1_0 (sitofp .f32 P))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- The tokens' rows and columns in their grid of width 64. -/
def rowPos : IVec S8192 32 := shapeCast _ (broadcastInDim S128x64 ![0] bcast_S128_S128x64_0 (iotaInDim S128 32 0)) shapeCasts_S128x64_S8192
def colPos : IVec S8192 32 := shapeCast _ (broadcastInDim S128x64 ![0, 1] bcast_S1x64_S128x64_0_1 (shapeCast _ (iotaInDim S64 32 0) shapeCasts_S64_S1x64)) shapeCasts_S128x64_S8192

/-- The rotary embedding of the eight query heads and of the two key heads. -/
def rotated8 (Y : FVec Ideal S8x8192x8x64 .f32) : FVec Ideal S8x8192x8x64 .f32 :=
  concatenate S8x8192x8x64 3 [⟨S8x8192x8x32, (subf (mulf (extractStridedSlice S8x8192x8x32 ![0, 0, 0, 0] Y slices_S8x8192x8x64_S8x8192x8x32_0_0_0_0) (broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 (Host.cos angle))))) (mulf (extractStridedSlice S8x8192x8x32 ![0, 0, 0, 32] Y slices_S8x8192x8x64_S8x8192x8x32_0_0_0_32) (broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 (Host.sin angle))))))⟩, ⟨S8x8192x8x32, (addf (mulf (extractStridedSlice S8x8192x8x32 ![0, 0, 0, 0] Y slices_S8x8192x8x64_S8x8192x8x32_0_0_0_0) (broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 (Host.sin angle))))) (mulf (extractStridedSlice S8x8192x8x32 ![0, 0, 0, 32] Y slices_S8x8192x8x64_S8x8192x8x32_0_0_0_32) (broadcastInDim S8x8192x8x32 ![0, 1, 2, 3] bcast_S1x8192x1x32_S8x8192x8x32_0_1_2_3 (broadcastInDim S1x8192x1x32 ![1, 2, 3] bcast_S8192x1x32_S1x8192x1x32_1_2_3 (broadcastInDim S8192x1x32 ![0, 2] bcast_S8192x32_S8192x1x32_0_2 (Host.cos angle))))))⟩] concatenates_S8x8192x8x32_S8x8192x8x32_S8x8192x8x64_d3

def rotated2 (Y : FVec Ideal S8x8192x2x64 .f32) : FVec Ideal S8x8192x2x64 .f32 :=
  concatenate S8x8192x2x64 3 [⟨S8x8192x2x32, (subf (mulf (extractStridedSlice S8x8192x2x32 ![0, 0, 0, 0] Y slices_S8x8192x2x64_S8x8192x2x32_0_0_0_0) (broadcastInDim S8x8192x2x32 ![0, 1, 2, 3] bcast_S1x8192x1x32_S8x8192x2x32_0_1_2_3 (broadcastInDim S1x8192x1x32 ![1, 2, 3] bcast_S8192x1x32_S1x8192x1x32_1_2_3 (broadcastInDim S8192x1x32 ![0, 2] bcast_S8192x32_S8192x1x32_0_2 (Host.cos angle))))) (mulf (extractStridedSlice S8x8192x2x32 ![0, 0, 0, 32] Y slices_S8x8192x2x64_S8x8192x2x32_0_0_0_32) (broadcastInDim S8x8192x2x32 ![0, 1, 2, 3] bcast_S1x8192x1x32_S8x8192x2x32_0_1_2_3 (broadcastInDim S1x8192x1x32 ![1, 2, 3] bcast_S8192x1x32_S1x8192x1x32_1_2_3 (broadcastInDim S8192x1x32 ![0, 2] bcast_S8192x32_S8192x1x32_0_2 (Host.sin angle))))))⟩, ⟨S8x8192x2x32, (addf (mulf (extractStridedSlice S8x8192x2x32 ![0, 0, 0, 0] Y slices_S8x8192x2x64_S8x8192x2x32_0_0_0_0) (broadcastInDim S8x8192x2x32 ![0, 1, 2, 3] bcast_S1x8192x1x32_S8x8192x2x32_0_1_2_3 (broadcastInDim S1x8192x1x32 ![1, 2, 3] bcast_S8192x1x32_S1x8192x1x32_1_2_3 (broadcastInDim S8192x1x32 ![0, 2] bcast_S8192x32_S8192x1x32_0_2 (Host.sin angle))))) (mulf (extractStridedSlice S8x8192x2x32 ![0, 0, 0, 32] Y slices_S8x8192x2x64_S8x8192x2x32_0_0_0_32) (broadcastInDim S8x8192x2x32 ![0, 1, 2, 3] bcast_S1x8192x1x32_S8x8192x2x32_0_1_2_3 (broadcastInDim S1x8192x1x32 ![1, 2, 3] bcast_S8192x1x32_S1x8192x1x32_1_2_3 (broadcastInDim S8192x1x32 ![0, 2] bcast_S8192x32_S8192x1x32_0_2 (Host.cos angle))))))⟩] concatenates_S8x8192x2x32_S8x8192x2x32_S8x8192x2x64_d3

/-- The same of half the features, by the angles `A`. -/
def rotatedHalf8 (Y : FVec Ideal S8x8192x8x32 .f32) (A : FVec Ideal S8192x16 .f32) : FVec Ideal S8x8192x8x32 .f32 :=
  concatenate S8x8192x8x32 3 [⟨S8x8192x8x16, (subf (mulf (extractStridedSlice S8x8192x8x16 ![0, 0, 0, 0] Y slices_S8x8192x8x32_S8x8192x8x16_0_0_0_0) (broadcastInDim S8x8192x8x16 ![0, 1, 2, 3] bcast_S1x8192x1x16_S8x8192x8x16_0_1_2_3 (broadcastInDim S1x8192x1x16 ![1, 2, 3] bcast_S8192x1x16_S1x8192x1x16_1_2_3 (broadcastInDim S8192x1x16 ![0, 2] bcast_S8192x16_S8192x1x16_0_2 (Host.cos A))))) (mulf (extractStridedSlice S8x8192x8x16 ![0, 0, 0, 16] Y slices_S8x8192x8x32_S8x8192x8x16_0_0_0_16) (broadcastInDim S8x8192x8x16 ![0, 1, 2, 3] bcast_S1x8192x1x16_S8x8192x8x16_0_1_2_3 (broadcastInDim S1x8192x1x16 ![1, 2, 3] bcast_S8192x1x16_S1x8192x1x16_1_2_3 (broadcastInDim S8192x1x16 ![0, 2] bcast_S8192x16_S8192x1x16_0_2 (Host.sin A))))))⟩, ⟨S8x8192x8x16, (addf (mulf (extractStridedSlice S8x8192x8x16 ![0, 0, 0, 0] Y slices_S8x8192x8x32_S8x8192x8x16_0_0_0_0) (broadcastInDim S8x8192x8x16 ![0, 1, 2, 3] bcast_S1x8192x1x16_S8x8192x8x16_0_1_2_3 (broadcastInDim S1x8192x1x16 ![1, 2, 3] bcast_S8192x1x16_S1x8192x1x16_1_2_3 (broadcastInDim S8192x1x16 ![0, 2] bcast_S8192x16_S8192x1x16_0_2 (Host.sin A))))) (mulf (extractStridedSlice S8x8192x8x16 ![0, 0, 0, 16] Y slices_S8x8192x8x32_S8x8192x8x16_0_0_0_16) (broadcastInDim S8x8192x8x16 ![0, 1, 2, 3] bcast_S1x8192x1x16_S8x8192x8x16_0_1_2_3 (broadcastInDim S1x8192x1x16 ![1, 2, 3] bcast_S8192x1x16_S1x8192x1x16_1_2_3 (broadcastInDim S8192x1x16 ![0, 2] bcast_S8192x16_S8192x1x16_0_2 (Host.cos A))))))⟩] concatenates_S8x8192x8x16_S8x8192x8x16_S8x8192x8x32_d3

def rotatedHalf2 (Y : FVec Ideal S8x8192x2x32 .f32) (A : FVec Ideal S8192x16 .f32) : FVec Ideal S8x8192x2x32 .f32 :=
  concatenate S8x8192x2x32 3 [⟨S8x8192x2x16, (subf (mulf (extractStridedSlice S8x8192x2x16 ![0, 0, 0, 0] Y slices_S8x8192x2x32_S8x8192x2x16_0_0_0_0) (broadcastInDim S8x8192x2x16 ![0, 1, 2, 3] bcast_S1x8192x1x16_S8x8192x2x16_0_1_2_3 (broadcastInDim S1x8192x1x16 ![1, 2, 3] bcast_S8192x1x16_S1x8192x1x16_1_2_3 (broadcastInDim S8192x1x16 ![0, 2] bcast_S8192x16_S8192x1x16_0_2 (Host.cos A))))) (mulf (extractStridedSlice S8x8192x2x16 ![0, 0, 0, 16] Y slices_S8x8192x2x32_S8x8192x2x16_0_0_0_16) (broadcastInDim S8x8192x2x16 ![0, 1, 2, 3] bcast_S1x8192x1x16_S8x8192x2x16_0_1_2_3 (broadcastInDim S1x8192x1x16 ![1, 2, 3] bcast_S8192x1x16_S1x8192x1x16_1_2_3 (broadcastInDim S8192x1x16 ![0, 2] bcast_S8192x16_S8192x1x16_0_2 (Host.sin A))))))⟩, ⟨S8x8192x2x16, (addf (mulf (extractStridedSlice S8x8192x2x16 ![0, 0, 0, 0] Y slices_S8x8192x2x32_S8x8192x2x16_0_0_0_0) (broadcastInDim S8x8192x2x16 ![0, 1, 2, 3] bcast_S1x8192x1x16_S8x8192x2x16_0_1_2_3 (broadcastInDim S1x8192x1x16 ![1, 2, 3] bcast_S8192x1x16_S1x8192x1x16_1_2_3 (broadcastInDim S8192x1x16 ![0, 2] bcast_S8192x16_S8192x1x16_0_2 (Host.sin A))))) (mulf (extractStridedSlice S8x8192x2x16 ![0, 0, 0, 16] Y slices_S8x8192x2x32_S8x8192x2x16_0_0_0_16) (broadcastInDim S8x8192x2x16 ![0, 1, 2, 3] bcast_S1x8192x1x16_S8x8192x2x16_0_1_2_3 (broadcastInDim S1x8192x1x16 ![1, 2, 3] bcast_S8192x1x16_S1x8192x1x16_1_2_3 (broadcastInDim S8192x1x16 ![0, 2] bcast_S8192x16_S8192x1x16_0_2 (Host.cos A))))))⟩] concatenates_S8x8192x2x16_S8x8192x2x16_S8x8192x2x32_d3

/-- The axial embedding of the query heads and of the key heads. -/
def axial8 (Y : FVec Ideal S8x8192x8x64 .f32) : FVec Ideal S8x8192x8x64 .f32 :=
  concatenate S8x8192x8x64 3 [⟨S8x8192x8x32, rotatedHalf8 (extractStridedSlice S8x8192x8x32 ![0, 0, 0, 0] Y slices_S8x8192x8x64_S8x8192x8x32_0_0_0_0) (angleOf rowPos)⟩,
    ⟨S8x8192x8x32, rotatedHalf8 (extractStridedSlice S8x8192x8x32 ![0, 0, 0, 32] Y slices_S8x8192x8x64_S8x8192x8x32_0_0_0_32) (angleOf colPos)⟩] concatenates_S8x8192x8x32_S8x8192x8x32_S8x8192x8x64_d3

def axial2 (Y : FVec Ideal S8x8192x2x64 .f32) : FVec Ideal S8x8192x2x64 .f32 :=
  concatenate S8x8192x2x64 3 [⟨S8x8192x2x32, rotatedHalf2 (extractStridedSlice S8x8192x2x32 ![0, 0, 0, 0] Y slices_S8x8192x2x64_S8x8192x2x32_0_0_0_0) (angleOf rowPos)⟩,
    ⟨S8x8192x2x32, rotatedHalf2 (extractStridedSlice S8x8192x2x32 ![0, 0, 0, 32] Y slices_S8x8192x2x64_S8x8192x2x32_0_0_0_32) (angleOf colPos)⟩] concatenates_S8x8192x2x32_S8x8192x2x32_S8x8192x2x64_d3

/-- Each head over the root of its mean square, times the gain. -/
def rms8 (Y : FVec Ideal S8x8192x8x64 .f32) (G : FVec Ideal S1x64 .f32) : FVec Ideal S8x8192x8x64 .f32 :=
  mulf (mulf Y (broadcastInDim S8x8192x8x64 ![0, 1, 2, 3] bcast_S8x8192x8x1_S8x8192x8x64_0_1_2_3 (Host.rsqrt (addf (Host.divf (broadcastInDim S8x8192x8x1 ![0, 1, 2] bcast_S8x8192x8_S8x8192x8x1_0_1_2 (Host.reduceAdd (mulf Y Y) (constant S_ .f32 0x00000000#32) reducesTo_S8x8192x8x64_S8x8192x8_d3 h_S_)) (broadcastInDim S8x8192x8x1 ![] bcast_S_S8x8192x8x1 (constant S_ .f32 0x42800000#32))) (broadcastInDim S8x8192x8x1 ![] bcast_S_S8x8192x8x1 (constant S_ .f32 0x358637BD#32)))))) (broadcastInDim S8x8192x8x64 ![0, 1, 2, 3] bcast_S1x1x1x64_S8x8192x8x64_0_1_2_3 (broadcastInDim S1x1x1x64 ![3] bcast_S64_S1x1x1x64_3 (shapeCast _ G shapeCasts_S1x64_S64)))

def rms2 (Y : FVec Ideal S8x8192x2x64 .f32) (G : FVec Ideal S1x64 .f32) : FVec Ideal S8x8192x2x64 .f32 :=
  mulf (mulf Y (broadcastInDim S8x8192x2x64 ![0, 1, 2, 3] bcast_S8x8192x2x1_S8x8192x2x64_0_1_2_3 (Host.rsqrt (addf (Host.divf (broadcastInDim S8x8192x2x1 ![0, 1, 2] bcast_S8x8192x2_S8x8192x2x1_0_1_2 (Host.reduceAdd (mulf Y Y) (constant S_ .f32 0x00000000#32) reducesTo_S8x8192x2x64_S8x8192x2_d3 h_S_)) (broadcastInDim S8x8192x2x1 ![] bcast_S_S8x8192x2x1 (constant S_ .f32 0x42800000#32))) (broadcastInDim S8x8192x2x1 ![] bcast_S_S8x8192x2x1 (constant S_ .f32 0x358637BD#32)))))) (broadcastInDim S8x8192x2x64 ![0, 1, 2, 3] bcast_S1x1x1x64_S8x8192x2x64_0_1_2_3 (broadcastInDim S1x1x1x64 ![3] bcast_S64_S1x1x1x64_3 (shapeCast _ G shapeCasts_S1x64_S64)))

/-- The scale of the scores in base two. -/
def base2 : FVec Ideal S_ .f32 := Host.divf (constant S_ .f32 0x3E000000#32) (Host.log (constant S_ .f32 0x40000000#32))

/-- The layouts in which queries, keys and values are returned. -/
def queries (Y : FVec Ideal S8x8192x8x64 .f32) : FVec Ideal S8x8x64x8192 .bf16 :=
  transpose S8x8x64x8192 [0, 2, 3, 1] (truncf .bf16 (mulf Y (broadcastInDim S8x8192x8x64 ![] bcast_S_S8x8192x8x64 base2)) bitsLt_bf16_f32) transposes_S8x8192x8x64_S8x8x64x8192_0_2_3_1

def keys (Y : FVec Ideal S8x8192x2x64 .f32) : FVec Ideal S8x2x8192x64 .bf16 :=
  transpose S8x2x8192x64 [0, 2, 1, 3] (truncf .bf16 Y bitsLt_bf16_f32) transposes_S8x8192x2x64_S8x2x8192x64_0_2_1_3

def values (Y : FVec Ideal S8x8192x2x64 .f32) : FVec Ideal S8x2x80x8192 .bf16 :=
  truncf .bf16 ((concatenate S8x2x80x8192 2 [⟨S8x2x64x8192, ((transpose S8x2x64x8192 [0, 2, 3, 1] Y transposes_S8x8192x2x64_S8x2x64x8192_0_2_3_1) : FVec Ideal S8x2x64x8192 .f32)⟩, ⟨S8x2x1x8192, ((broadcastInDim S8x2x1x8192 ![] bcast_S_S8x2x1x8192 (constant S_ .f32 0x3F800000#32)) : FVec Ideal S8x2x1x8192 .f32)⟩, ⟨S8x2x15x8192, ((broadcastInDim S8x2x15x8192 ![] bcast_S_S8x2x15x8192 (constant S_ .f32 0x00000000#32)) : FVec Ideal S8x2x15x8192 .f32)⟩] concatenates_S8x2x64x8192_S8x2x1x8192_S8x2x15x8192_S8x2x80x8192_d2 : FVec Ideal S8x2x80x8192 .f32)) bitsLt_bf16_f32

section Results

variable (X : FVec Ideal S8x8192x1024 .f32) (W : FVec Ideal S1x1024x4608 .f32) (GQ GK : FVec Ideal S1x64 .f32)

/-- The nine results. -/
def resQA : FVec Ideal S8x8x64x8192 .bf16 := queries (rotated8 (shapeCast _ (extractStridedSlice S8x8192x512 ![0, 0, 0] (projected X W) slices_S8x8192x4608_S8x8192x512_0_0_0) shapeCasts_S8x8192x512_S8x8192x8x64))
def resKA : FVec Ideal S8x2x8192x64 .bf16 := keys (rotated2 (shapeCast _ (extractStridedSlice S8x8192x128 ![0, 0, 512] (projected X W) slices_S8x8192x4608_S8x8192x128_0_0_512) shapeCasts_S8x8192x128_S8x8192x2x64))
def resVA : FVec Ideal S8x2x80x8192 .bf16 := values (shapeCast _ (extractStridedSlice S8x8192x128 ![0, 0, 640] (projected X W) slices_S8x8192x4608_S8x8192x128_0_0_640) shapeCasts_S8x8192x128_S8x8192x2x64)
def resZA : FVec Ideal S8x8192x512 .f32 := extractStridedSlice S8x8192x512 ![0, 0, 768] (projected X W) slices_S8x8192x4608_S8x8192x512_0_0_768
def resQB : FVec Ideal S8x8x64x8192 .bf16 := queries (axial8 (rms8 (shapeCast _ (extractStridedSlice S8x8192x512 ![0, 0, 1280] (projected X W) slices_S8x8192x4608_S8x8192x512_0_0_1280) shapeCasts_S8x8192x512_S8x8192x8x64) GQ))
def resKB : FVec Ideal S8x2x8192x64 .bf16 := keys (axial2 (rms2 (shapeCast _ (extractStridedSlice S8x8192x128 ![0, 0, 1792] (projected X W) slices_S8x8192x4608_S8x8192x128_0_0_1792) shapeCasts_S8x8192x128_S8x8192x2x64) GK))
def resVB : FVec Ideal S8x2x80x8192 .bf16 := values (shapeCast _ (extractStridedSlice S8x8192x128 ![0, 0, 1920] (projected X W) slices_S8x8192x4608_S8x8192x128_0_0_1920) shapeCasts_S8x8192x128_S8x8192x2x64)
def resZB : FVec Ideal S8x8192x512 .f32 := extractStridedSlice S8x8192x512 ![0, 0, 2048] (projected X W) slices_S8x8192x4608_S8x8192x512_0_0_2048
def resG : FVec Ideal S8x8192x2048 .f32 := extractStridedSlice S8x8192x2048 ![0, 0, 2560] (projected X W) slices_S8x8192x4608_S8x8192x2048_0_0_2560

/-- An element of the product. -/
theorem projected_at (b : Fin 8) (n : Fin 8192) (j : Fin 4608) : projected X W (ix3 b n j) = ∑ e : Fin 1024, X (ix3 b n e) * W (ix3 0 e j) := by
  pointwise [projected]

/-- The embeddings and the norm, head by head. -/
theorem rotated8_at (Y : FVec Ideal S8x8192x8x64 .f32) (b : Fin 8) (n : Fin 8192) (h : Fin 8) (d : Fin 64) :
    rotated8 Y (ix4 b n h d) = turn (fun k => Y (ix4 b n h k)) (fun k => angle (ix2 n k)) d := by
  pointwise [rotated8, turn]

theorem rotated2_at (Y : FVec Ideal S8x8192x2x64 .f32) (b : Fin 8) (n : Fin 8192) (h : Fin 2) (d : Fin 64) :
    rotated2 Y (ix4 b n h d) = turn (fun k => Y (ix4 b n h k)) (fun k => angle (ix2 n k)) d := by
  pointwise [rotated2, turn]

theorem rotatedHalf8_at (Y : FVec Ideal S8x8192x8x32 .f32) (A : FVec Ideal S8192x16 .f32) (b : Fin 8) (n : Fin 8192) (h : Fin 8) (d : Fin 32) :
    rotatedHalf8 Y A (ix4 b n h d) = turnHalf (fun k => Y (ix4 b n h k)) (fun k => A (ix2 n k)) d := by
  pointwise [rotatedHalf8, turnHalf]

theorem rotatedHalf2_at (Y : FVec Ideal S8x8192x2x32 .f32) (A : FVec Ideal S8192x16 .f32) (b : Fin 8) (n : Fin 8192) (h : Fin 2) (d : Fin 32) :
    rotatedHalf2 Y A (ix4 b n h d) = turnHalf (fun k => Y (ix4 b n h k)) (fun k => A (ix2 n k)) d := by
  pointwise [rotatedHalf2, turnHalf]

theorem axial8_at (Y : FVec Ideal S8x8192x8x64 .f32) (b : Fin 8) (n : Fin 8192) (h : Fin 8) (d : Fin 64) :
    axial8 Y (ix4 b n h d) = turnAxial (fun k => Y (ix4 b n h k)) (fun k => angleOf rowPos (ix2 n k)) (fun k => angleOf colPos (ix2 n k)) d := by
  pointwise [axial8, turnAxial, rotatedHalf8_at]

theorem axial2_at (Y : FVec Ideal S8x8192x2x64 .f32) (b : Fin 8) (n : Fin 8192) (h : Fin 2) (d : Fin 64) :
    axial2 Y (ix4 b n h d) = turnAxial (fun k => Y (ix4 b n h k)) (fun k => angleOf rowPos (ix2 n k)) (fun k => angleOf colPos (ix2 n k)) d := by
  pointwise [axial2, turnAxial, rotatedHalf2_at]

theorem rms8_at (Y : FVec Ideal S8x8192x8x64 .f32) (G : FVec Ideal S1x64 .f32) (b : Fin 8) (n : Fin 8192) (h : Fin 8) (d : Fin 64) :
    rms8 Y G (ix4 b n h d) = normed (fun k => Y (ix4 b n h k)) (fun k => G (ix2 0 k)) d := by
  pointwise [rms8, normed]

theorem rms2_at (Y : FVec Ideal S8x8192x2x64 .f32) (G : FVec Ideal S1x64 .f32) (b : Fin 8) (n : Fin 8192) (h : Fin 2) (d : Fin 64) :
    rms2 Y G (ix4 b n h d) = normed (fun k => Y (ix4 b n h k)) (fun k => G (ix2 0 k)) d := by
  pointwise [rms2, normed]

/-- The scale of the scores in base two. -/
def scale2 : EReal := Ideal.div (Ideal.ofBits .f32 0x3E000000#32) (Ideal.log (Ideal.ofBits .f32 0x40000000#32))

theorem queries_at (Y : FVec Ideal S8x8192x8x64 .f32) (b : Fin 8) (h : Fin 8) (d : Fin 64) (n : Fin 8192) :
    queries Y (ix4 b h d n) = Y (ix4 b n h d) * scale2 := by
  pointwise [queries, base2, scale2]

theorem keys_at (Y : FVec Ideal S8x8192x2x64 .f32) (b : Fin 8) (h : Fin 2) (n : Fin 8192) (d : Fin 64) :
    keys Y (ix4 b h n d) = Y (ix4 b n h d) := by
  pointwise [keys]

theorem values_at (Y : FVec Ideal S8x8192x2x64 .f32) (b : Fin 8) (h : Fin 2) (d : Fin 80) (n : Fin 8192) :
    values Y (ix4 b h d n)
      = if hd : d.val < 64 then Y (ix4 b n h ⟨d.val, hd⟩)
        else if _h : d.val - 64 < 1 then 1 else 0 := by
  pointwise [values]

/-- One of the reference's heads: 64 columns of the product from column `o + 64 h`. -/
def head (o : ℕ) (b : Fin 8) (n : Fin 8192) (h : ℕ) (ho : o + h * 64 + 64 ≤ 4608) (k : Fin 64) : EReal :=
  projected X W (ix3 b n ⟨o + (h * 64 + k.val), by omega⟩)

/-- The results, head by head. -/
theorem resQA_at (b : Fin 8) (h : Fin 8) (d : Fin 64) (n : Fin 8192) :
    resQA X W (ix4 b h d n) = turn (head X W 0 b n h.val (by omega)) (fun k => angle (ix2 n k)) d * scale2 := by
  rw [resQA, queries_at, rotated8_at]
  refine congrArg (fun f => turn f _ d * scale2) (funext fun k => ?_)
  pointwise [head]

theorem resKA_at (b : Fin 8) (h : Fin 2) (n : Fin 8192) (d : Fin 64) :
    resKA X W (ix4 b h n d) = turn (head X W 512 b n h.val (by omega)) (fun k => angle (ix2 n k)) d := by
  rw [resKA, keys_at, rotated2_at]
  refine congrArg (fun f => turn f _ d) (funext fun k => ?_)
  pointwise [head]

theorem resVA_at (b : Fin 8) (h : Fin 2) (d : Fin 80) (n : Fin 8192) :
    resVA X W (ix4 b h d n) = if hd : d.val < 64 then head X W 640 b n h.val (by omega) ⟨d.val, hd⟩
      else if _h : d.val - 64 < 1 then 1 else 0 := by
  rw [resVA, values_at]
  pointwise [head]

theorem resQB_at (b : Fin 8) (h : Fin 8) (d : Fin 64) (n : Fin 8192) :
    resQB X W GQ (ix4 b h d n) = turnAxial (normed (head X W 1280 b n h.val (by omega)) (fun k => GQ (ix2 0 k)))
      (fun k => angleOf rowPos (ix2 n k)) (fun k => angleOf colPos (ix2 n k)) d * scale2 := by
  rw [resQB, queries_at, axial8_at]
  refine congrArg (fun f => turnAxial f _ _ d * scale2) (funext fun k => ?_)
  rw [rms8_at]
  refine congrArg (fun f => normed f _ k) (funext fun k => ?_)
  pointwise [head]

theorem resKB_at (b : Fin 8) (h : Fin 2) (n : Fin 8192) (d : Fin 64) :
    resKB X W GK (ix4 b h n d) = turnAxial (normed (head X W 1792 b n h.val (by omega)) (fun k => GK (ix2 0 k)))
      (fun k => angleOf rowPos (ix2 n k)) (fun k => angleOf colPos (ix2 n k)) d := by
  rw [resKB, keys_at, axial2_at]
  refine congrArg (fun f => turnAxial f _ _ d) (funext fun k => ?_)
  rw [rms2_at]
  refine congrArg (fun f => normed f _ k) (funext fun k => ?_)
  pointwise [head]

theorem resVB_at (b : Fin 8) (h : Fin 2) (d : Fin 80) (n : Fin 8192) :
    resVB X W (ix4 b h d n) = if hd : d.val < 64 then head X W 1920 b n h.val (by omega) ⟨d.val, hd⟩
      else if _h : d.val - 64 < 1 then 1 else 0 := by
  rw [resVB, values_at]
  pointwise [head]

theorem resZA_at (b : Fin 8) (n : Fin 8192) (j : Fin 512) : resZA X W (ix3 b n j) = projected X W (ix3 b n ⟨768 + j.val, by omega⟩) := by
  pointwise [resZA]

theorem resZB_at (b : Fin 8) (n : Fin 8192) (j : Fin 512) : resZB X W (ix3 b n j) = projected X W (ix3 b n ⟨2048 + j.val, by omega⟩) := by
  pointwise [resZB]

theorem resG_at (b : Fin 8) (n : Fin 8192) (j : Fin 2048) : resG X W (ix3 b n j) = projected X W (ix3 b n ⟨2560 + j.val, by omega⟩) := by
  pointwise [resG]

end Results

end Cert.Reference3Ideal.Terms

end
-- ==== Proof.ProjEntry.lean ====
/-
  The arrays that the projection call's host code lays out for its blocks, element by element, over the extended reals: the projection's
  columns in two stacks, the gains, the tables of cosines and sines.
-/
module

public import proofs.«01_k».proof.Proof.Gen.Kernel3Ideal.Frame
public import proofs.«01_k».proof.Proof.ProjRef
public import Idealize.ShloMosaic.Lib.Pipeline.ValueKit

@[expose] public section

set_option maxRecDepth 16384

noncomputable section

namespace Cert.Kernel3Ideal.Final

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The tokens, the projection and the two norms' gains. -/
abbrev aX : FVec Ideal S8x8192x1024 .f32 := m ((c : Thread nD τ).loc main_arg0)
abbrev aW : FVec Ideal S1x1024x4608 .f32 := m ((c : Thread nD τ).loc main_arg1)
abbrev aGQ : FVec Ideal S1x64 .f32 := m ((c : Thread nD τ).loc main_arg2)
abbrev aGK : FVec Ideal S1x64 .f32 := m ((c : Thread nD τ).loc main_arg3)

/-- A point's batch and its rows. -/
def bat (t : Fin cfg0.N) : Fin 8 := ⟨t.val % 8, by omega⟩
def row (t : Fin cfg0.N) (r : Fin 512) : Fin 8192 := ⟨t.val / 8 * 512 + r.val, by have h := t.isLt; change t.val < 128 at h; omega⟩

/-- The windows' blocks at each point. -/
theorem idx : ∀ t : Fin cfg0.N, win0_0.index t = ![t.val % 8, t.val / 8, 0] ∧ win0_1.index t = ![0, 0] ∧ win0_2.index t = ![0, 0]
    ∧ win0_3.index t = ![t.val / 8, 0] ∧ win0_4.index t = ![0, t.val / 8] ∧ win0_5.index t = ![0, 0] ∧ win0_6.index t = ![0, 0]
    ∧ win0_7.index t = ![t.val % 8, 0, 0, t.val / 8] ∧ win0_8.index t = ![t.val % 8, 0, t.val / 8, 0] ∧ win0_9.index t = ![t.val % 8, 0, 0, t.val / 8]
    ∧ win0_10.index t = ![t.val % 8, t.val / 8, 0] ∧ win0_11.index t = ![t.val % 8, 0, 0, t.val / 8] ∧ win0_12.index t = ![t.val % 8, 0, t.val / 8, 0]
    ∧ win0_13.index t = ![t.val % 8, 0, 0, t.val / 8] ∧ win0_14.index t = ![t.val % 8, t.val / 8, 0] ∧ win0_15.index t = ![t.val % 8, t.val / 8, 0] :=
  (by decide +kernel : ∀ t : Fin grid0.N, _)

/-- The projection's feature-major columns as the host stacks them, transposed: the two branches' queries and values. -/
theorem stack_t : (V m c main_v13 : FVec Ideal S1280x1024 .bf16) = truncf .bf16 (transpose S1280x1024 [1, 0] (concatenate S1024x1280 1
    [⟨S1024x512, extractStridedSlice S1024x512 ![0, 0] (shapeCast S1024x4608 (aW m c) shapeCasts_S1x1024x4608_S1024x4608) slices_S1024x4608_S1024x512_0_0⟩,
     ⟨S1024x128, extractStridedSlice S1024x128 ![0, 640] (shapeCast S1024x4608 (aW m c) shapeCasts_S1x1024x4608_S1024x4608) slices_S1024x4608_S1024x128_0_640⟩,
     ⟨S1024x512, extractStridedSlice S1024x512 ![0, 1280] (shapeCast S1024x4608 (aW m c) shapeCasts_S1x1024x4608_S1024x4608) slices_S1024x4608_S1024x512_0_1280⟩,
     ⟨S1024x128, extractStridedSlice S1024x128 ![0, 1920] (shapeCast S1024x4608 (aW m c) shapeCasts_S1x1024x4608_S1024x4608) slices_S1024x4608_S1024x128_0_1920⟩]
    concatenates_S1024x512_S1024x128_S1024x512_S1024x128_S1024x1280_d1 : FVec Ideal S1024x1280 .f32) transposes_S1024x1280_S1280x1024_1_0) bitsLt_bf16_f32 := rfl

theorem cols_t (j : Fin 1280) (e : Fin 1024) : (V m c main_v13 : FVec Ideal S1280x1024 .bf16) (ix2 j e)
    = if h : j.val < 512 then aW m c (ix3 0 e ⟨j.val, by omega⟩) else if h : j.val - 512 < 128 then aW m c (ix3 0 e ⟨640 + (j.val - 512), by omega⟩)
      else if h : j.val - 512 - 128 < 512 then aW m c (ix3 0 e ⟨1280 + (j.val - 512 - 128), by omega⟩) else aW m c (ix3 0 e ⟨1920 + (j.val - 512 - 128 - 512), by omega⟩) := by
  rw [stack_t]
  pointwise []

/-- The row-major columns: the two branches' keys, the gates of the two attentions, the merge gates. -/
theorem stack_s : (V m c main_v14 : FVec Ideal S1024x3328 .bf16) = truncf .bf16 (concatenate S1024x3328 1
    [⟨S1024x128, extractStridedSlice S1024x128 ![0, 512] (shapeCast S1024x4608 (aW m c) shapeCasts_S1x1024x4608_S1024x4608) slices_S1024x4608_S1024x128_0_512⟩,
     ⟨S1024x128, extractStridedSlice S1024x128 ![0, 1792] (shapeCast S1024x4608 (aW m c) shapeCasts_S1x1024x4608_S1024x4608) slices_S1024x4608_S1024x128_0_1792⟩,
     ⟨S1024x512, extractStridedSlice S1024x512 ![0, 768] (shapeCast S1024x4608 (aW m c) shapeCasts_S1x1024x4608_S1024x4608) slices_S1024x4608_S1024x512_0_768⟩,
     ⟨S1024x512, extractStridedSlice S1024x512 ![0, 2048] (shapeCast S1024x4608 (aW m c) shapeCasts_S1x1024x4608_S1024x4608) slices_S1024x4608_S1024x512_0_2048⟩,
     ⟨S1024x2048, extractStridedSlice S1024x2048 ![0, 2560] (shapeCast S1024x4608 (aW m c) shapeCasts_S1x1024x4608_S1024x4608) slices_S1024x4608_S1024x2048_0_2560⟩]
    concatenates_S1024x128_S1024x128_S1024x512_S1024x512_S1024x2048_S1024x3328_d1 : FVec Ideal S1024x3328 .f32) bitsLt_bf16_f32 := rfl

theorem cols_s (e : Fin 1024) (j : Fin 3328) : (V m c main_v14 : FVec Ideal S1024x3328 .bf16) (ix2 e j)
    = if h : j.val < 128 then aW m c (ix3 0 e ⟨512 + j.val, by omega⟩) else if h : j.val - 128 < 128 then aW m c (ix3 0 e ⟨1792 + (j.val - 128), by omega⟩)
      else if h : j.val - 128 - 128 < 512 then aW m c (ix3 0 e ⟨768 + (j.val - 128 - 128), by omega⟩)
      else if h : j.val - 128 - 128 - 512 < 512 then aW m c (ix3 0 e ⟨2048 + (j.val - 128 - 128 - 512), by omega⟩)
      else aW m c (ix3 0 e ⟨2560 + (j.val - 128 - 128 - 512 - 512), by omega⟩) := by
  rw [stack_s]
  pointwise []

/-- The gains: twice along the lanes for the keys, a column repeated for the queries. -/
theorem tile_k : (V m c main_v19 : FVec Ideal S1x128 .f32) = broadcastInDim S1x128 ![1] bcast_S128_S1x128_1 (shapeCast S128
    (broadcastInDim S2x64 ![0, 1] bcast_S1x64_S2x64_0_1 (shapeCast S1x64 (shapeCast S64 (aGK m c) shapeCasts_S1x64_S64) shapeCasts_S64_S1x64)) shapeCasts_S2x64_S128) := rfl

theorem gain_k (j : Fin 128) : (V m c main_v19 : FVec Ideal S1x128 .f32) (ix2 0 j) = aGK m c (ix2 0 ⟨j.val % 64, by omega⟩) := by
  rw [tile_k]
  pointwise []

theorem tile_q : (V m c main_v22 : FVec Ideal S64x128 .f32) = broadcastInDim S64x128 ![0, 1] bcast_S64x1_S64x128_0_1
    (broadcastInDim S64x1 ![0] bcast_S64_S64x1_0 (shapeCast S64 (aGQ m c) shapeCasts_S1x64_S64)) := rfl

theorem gain_q (d : Fin 64) (j : Fin 128) : (V m c main_v22 : FVec Ideal S64x128 .f32) (ix2 d j) = aGQ m c (ix2 0 d) := by
  rw [tile_q]
  pointwise []

/-- The angles are the reference's. -/
theorem angle_eq : (V m c main_v48 : FVec Ideal S8192x32 .f32) = Cert.Reference3Ideal.Terms.angle := rfl

theorem angle_row : (V m c main_v73 : FVec Ideal S8192x16 .f32) = Cert.Reference3Ideal.Terms.angleOf Cert.Reference3Ideal.Terms.rowPos := rfl

theorem angle_col : (V m c main_v89 : FVec Ideal S8192x16 .f32) = Cert.Reference3Ideal.Terms.angleOf Cert.Reference3Ideal.Terms.colPos := rfl

end Cert.Kernel3Ideal.Final

end
-- ==== Proof.ProjParts.lean ====
/-
  What the projection call's body computes, as functions of plain arguments: a head turned by its angles, a head normed, a row against a column.
-/
module

public import proofs.«01_k».proof.Proof.ProjEntry

@[expose] public section

set_option maxRecDepth 16384

noncomputable section

namespace Cert.Kernel3Ideal.Final

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- A head's 64 entries turned by the positions' 32 cosines and sines. -/
def turnBy (y : Fin 64 → EReal) (C S : Fin 32 → EReal) (d : Fin 64) : EReal :=
  if h : d.val < 32 then y d * C ⟨d.val, h⟩ - y ⟨32 + d.val, by omega⟩ * S ⟨d.val, h⟩
  else y ⟨d.val - 32, by omega⟩ * S ⟨d.val - 32, by omega⟩ + y ⟨32 + (d.val - 32), by omega⟩ * C ⟨d.val - 32, by omega⟩

theorem turnBy_lo (y : Fin 64 → EReal) (C S : Fin 32 → EReal) (d : Fin 64) (e : Fin 32) (h : d.val = e.val) :
    turnBy y C S d = y ⟨e.val, by omega⟩ * C e - y ⟨32 + e.val, by omega⟩ * S e := by
  obtain ⟨d, hd⟩ := d
  obtain rfl : d = e.val := h
  exact dif_pos e.isLt

theorem turnBy_hi (y : Fin 64 → EReal) (C S : Fin 32 → EReal) (d : Fin 64) (e : Fin 32) (h : d.val = 32 + e.val) :
    turnBy y C S d = y ⟨e.val, by omega⟩ * S e + y ⟨32 + e.val, by omega⟩ * C e := by
  obtain ⟨d, hd⟩ := d
  obtain rfl : d = 32 + e.val := h
  have h1 : 32 + e.val - 32 = e.val := by omega
  unfold turnBy
  rw [dif_neg (show ¬ 32 + e.val < 32 by omega)]
  simp only [h1]

/-- Equal parts make equal wholes. -/
theorem sub_congr {a a' b b' : EReal} (ha : a = a') (hb : b = b') : a - b = a' - b' := by rw [ha, hb]

theorem ix2_congr {p q : ℕ} {a a' : Fin p} {b b' : Fin q} (ha : a.val = a'.val) (hb : b.val = b'.val) : ix2 a b = ix2 a' b' := by
  rw [Fin.ext ha, Fin.ext hb]

/-- A head's 64 entries turned by a row's 16 cosines and sines in the first half, by a column's in the second. -/
def turnAxBy (y : Fin 64 → EReal) (C S D U : Fin 16 → EReal) (d : Fin 64) : EReal :=
  if h : d.val < 16 then y ⟨d.val, d.isLt⟩ * C ⟨d.val, h⟩ - y ⟨16 + d.val, by omega⟩ * S ⟨d.val, h⟩
  else if h : d.val < 32 then y ⟨d.val - 16, by omega⟩ * S ⟨d.val - 16, by omega⟩ + y ⟨16 + (d.val - 16), by omega⟩ * C ⟨d.val - 16, by omega⟩
  else if h : d.val < 48 then y ⟨32 + (d.val - 32), by omega⟩ * D ⟨d.val - 32, by omega⟩ - y ⟨48 + (d.val - 32), by omega⟩ * U ⟨d.val - 32, by omega⟩
  else y ⟨32 + (d.val - 48), by omega⟩ * U ⟨d.val - 48, by omega⟩ + y ⟨48 + (d.val - 48), by omega⟩ * D ⟨d.val - 48, by omega⟩

theorem turnAxBy_0 (y : Fin 64 → EReal) (C S D U : Fin 16 → EReal) (d : Fin 64) (e : Fin 16) (h : d.val = e.val) :
    turnAxBy y C S D U d = y ⟨e.val, by omega⟩ * C e - y ⟨16 + e.val, by omega⟩ * S e := by
  obtain ⟨d, hd⟩ := d
  obtain rfl : d = e.val := h
  exact dif_pos e.isLt

theorem turnAxBy_1 (y : Fin 64 → EReal) (C S D U : Fin 16 → EReal) (d : Fin 64) (e : Fin 16) (h : d.val = 16 + e.val) :
    turnAxBy y C S D U d = y ⟨e.val, by omega⟩ * S e + y ⟨16 + e.val, by omega⟩ * C e := by
  obtain ⟨d, hd⟩ := d
  obtain rfl : d = 16 + e.val := h
  have h1 : 16 + e.val - 16 = e.val := by omega
  unfold turnAxBy
  rw [dif_neg (show ¬ 16 + e.val < 16 by omega), dif_pos (show 16 + e.val < 32 by omega)]
  simp only [h1]

theorem turnAxBy_2 (y : Fin 64 → EReal) (C S D U : Fin 16 → EReal) (d : Fin 64) (e : Fin 16) (h : d.val = 32 + e.val) :
    turnAxBy y C S D U d = y ⟨32 + e.val, by omega⟩ * D e - y ⟨48 + e.val, by omega⟩ * U e := by
  obtain ⟨d, hd⟩ := d
  obtain rfl : d = 32 + e.val := h
  have h1 : 32 + e.val - 32 = e.val := by omega
  unfold turnAxBy
  rw [dif_neg (show ¬ 32 + e.val < 16 by omega), dif_neg (show ¬ 32 + e.val < 32 by omega), dif_pos (show 32 + e.val < 48 by omega)]
  simp only [h1]

theorem turnAxBy_3 (y : Fin 64 → EReal) (C S D U : Fin 16 → EReal) (d : Fin 64) (e : Fin 16) (h : d.val = 48 + e.val) :
    turnAxBy y C S D U d = y ⟨32 + e.val, by omega⟩ * U e + y ⟨48 + e.val, by omega⟩ * D e := by
  obtain ⟨d, hd⟩ := d
  obtain rfl : d = 48 + e.val := h
  have h1 : 48 + e.val - 48 = e.val := by omega
  unfold turnAxBy
  rw [dif_neg (show ¬ 48 + e.val < 16 by omega), dif_neg (show ¬ 48 + e.val < 32 by omega), dif_neg (show ¬ 48 + e.val < 48 by omega)]
  simp only [h1]

/-- A head's 64 entries scaled by their root mean square, the mean taken by a product. -/
def normBy (y g : Fin 64 → EReal) (d : Fin 64) : EReal :=
  y d * Ideal.rsqrt ((∑ k : Fin 64, y k * y k) * Ideal.ofBits .f32 0x3C800000#32 + Ideal.ofBits .f32 0x358637BD#32) * g d

theorem normBy_congr {a g : EReal} {f y' g' : Fin 64 → EReal} {d : Fin 64} (ha : a = y' d) (hf : ∀ k, f k = y' k) (hg : g = g' d) :
    a * Ideal.rsqrt ((∑ k : Fin 64, f k * f k) * Ideal.ofBits .f32 0x3C800000#32 + Ideal.ofBits .f32 0x358637BD#32) * g = normBy y' g' d := by
  obtain rfl : f = y' := funext hf
  rw [ha, hg]; rfl

/-- A block's rows against the row-major columns. -/
def dotS (X : Vec Ideal S1x512x1024 .f32) (W : Vec Ideal S1024x3328 .bf16) (r : Fin 512) (j : Fin 3328) : EReal := ∑ e : Fin 1024, X (ix3 0 r e) * W (ix2 e j)

theorem dotS_congr (X : Vec Ideal S1x512x1024 .f32) (W : Vec Ideal S1024x3328 .bf16) {r r' : Fin 512} {j j' : Fin 3328} (hr : r.val = r'.val) (hj : j.val = j'.val) :
    dotS X W r j = dotS X W r' j' := by rw [Fin.ext hr, Fin.ext hj]

end Cert.Kernel3Ideal.Final

end
-- ==== Proof.ProjReads.lean ====
/-
  What the projection call's blocks hold, element by element, over the extended reals.
-/
module

public import proofs.«01_k».proof.Proof.ProjParts

@[expose] public section

set_option maxRecDepth 16384
set_option maxHeartbeats 20000000

noncomputable section

namespace Cert.Kernel3Ideal.Final

open Cert.Kernel3Ideal Cert.Kernel3Ideal.Gen
open Idealize.ShloMosaic Idealize.ShloMosaic.TcCoe Idealize.SL.Sem
open Cert.Reference3Ideal.Terms (angle angleOf rowPos colPos projected)

variable (m : (ℓ : Loc nD τ sig) → Buf (Elt Ideal) ℓ) (c : Dev nD)

/-- The feature-major table: the positions' cosines and sines, the rows', the columns'. -/
theorem table_t : (V m c main_v118 : FVec Ideal S128x8192 .f32) = transpose S128x8192 [1, 0] (concatenate S8192x128 1
    [⟨S8192x32, (Host.cos (angle : FVec Ideal S8192x32 .f32) : FVec Ideal S8192x32 .f32)⟩, ⟨S8192x32, (Host.sin (angle : FVec Ideal S8192x32 .f32) : FVec Ideal S8192x32 .f32)⟩,
     ⟨S8192x16, (Host.cos (angleOf rowPos : FVec Ideal S8192x16 .f32) : FVec Ideal S8192x16 .f32)⟩, ⟨S8192x16, (Host.sin (angleOf rowPos : FVec Ideal S8192x16 .f32) : FVec Ideal S8192x16 .f32)⟩,
     ⟨S8192x16, (Host.cos (angleOf colPos : FVec Ideal S8192x16 .f32) : FVec Ideal S8192x16 .f32)⟩, ⟨S8192x16, (Host.sin (angleOf colPos : FVec Ideal S8192x16 .f32) : FVec Ideal S8192x16 .f32)⟩]
    concatenates_S8192x32_S8192x32_S8192x16_S8192x16_S8192x16_S8192x16_S8192x128_d1 : FVec Ideal S8192x128 .f32) transposes_S8192x128_S128x8192_1_0 := rfl

/-- Its row `k` at token `n`. -/
def entry_t (k : Fin 128) (n : Fin 8192) : EReal :=
  if h : k.val < 32 then Ideal.cos (angle (ix2 n ⟨k.val, h⟩)) else if h : k.val - 32 < 32 then Ideal.sin (angle (ix2 n ⟨k.val - 32, h⟩))
  else if h : k.val - 32 - 32 < 16 then Ideal.cos (angleOf rowPos (ix2 n ⟨k.val - 32 - 32, h⟩)) else if h : k.val - 32 - 32 - 16 < 16 then Ideal.sin (angleOf rowPos (ix2 n ⟨k.val - 32 - 32 - 16, h⟩))
  else if h : k.val - 32 - 32 - 16 - 16 < 16 then Ideal.cos (angleOf colPos (ix2 n ⟨k.val - 32 - 32 - 16 - 16, h⟩)) else Ideal.sin (angleOf colPos (ix2 n ⟨k.val - 32 - 32 - 16 - 16 - 16, by omega⟩))

theorem table_t_at (k : Fin 128) (n : Fin 8192) : (V m c main_v118 : FVec Ideal S128x8192 .f32) (ix2 k n) = entry_t k n := by
  rw [table_t]; unfold entry_t
  generalize angle = a; generalize angleOf rowPos = p; generalize angleOf colPos = q
  pointwise []

/-- What the blocks hold. -/
theorem blk_x (t : Fin cfg0.N) (r : Fin 512) (e : Fin 1024) : (iblk m c 0 t : Vec Ideal S1x512x1024 .f32) (ix3 0 r e) = aX m c (ix3 (bat t) (row t r) e) := by
  blk_ext [iblk, V, idx t, bat, row]

theorem blk_t (t : Fin cfg0.N) (j : Fin 1280) (e : Fin 1024) : (iblk m c 1 t : Vec Ideal S1280x1024 .bf16) (ix2 j e) = (V m c main_v13 : FVec Ideal S1280x1024 .bf16) (ix2 j e) := by
  blk_ext [iblk, idx t]

theorem blk_s (t : Fin cfg0.N) (e : Fin 1024) (j : Fin 3328) : (iblk m c 2 t : Vec Ideal S1024x3328 .bf16) (ix2 e j) = (V m c main_v14 : FVec Ideal S1024x3328 .bf16) (ix2 e j) := by
  blk_ext [iblk, idx t]

theorem blk_tab (t : Fin cfg0.N) (r : Fin 512) (j : Fin 768) : (iblk m c 3 t : Vec Ideal S512x768 .f32) (ix2 r j) = (V m c main_v110 : FVec Ideal S8192x768 .f32) (ix2 (row t r) j) := by
  blk_ext [iblk, idx t, row]

theorem blk_tabt (t : Fin cfg0.N) (k : Fin 128) (r : Fin 512) : (iblk m c 4 t : Vec Ideal S128x512 .f32) (ix2 k r) = entry_t k (row t r) := by
  refine Eq.trans ?_ (table_t_at m c k (row t r))
  blk_ext [iblk, idx t, row]

theorem blk_gk (t : Fin cfg0.N) (j : Fin 128) : (iblk m c 5 t : Vec Ideal S1x128 .f32) (ix2 0 j) = aGK m c (ix2 0 ⟨j.val % 64, by omega⟩) := by
  refine Eq.trans ?_ (gain_k m c j)
  blk_ext [iblk, idx t]

theorem blk_gq (t : Fin cfg0.N) (d : Fin 64) (j : Fin 128) : (iblk m c 6 t : Vec Ideal S64x128 .f32) (ix2 d j) = aGQ m c (ix2 0 d) := by
  refine Eq.trans ?_ (gain_q m c d j)
  blk_ext [iblk, idx t]

/-- The product's column that a feature-major row, or a row-major column, is. -/
def colT (j : Fin 1280) : Fin 4608 :=
  if h : j.val < 512 then ⟨j.val, by omega⟩ else if h : j.val < 640 then ⟨j.val + 128, by omega⟩ else if h : j.val < 1152 then ⟨j.val + 640, by omega⟩ else ⟨j.val + 768, by omega⟩
def colS (j : Fin 3328) : Fin 4608 :=
  if h : j.val < 128 then ⟨512 + j.val, by omega⟩ else if h : j.val < 256 then ⟨j.val + 1664, by omega⟩ else if h : j.val < 768 then ⟨j.val + 512, by omega⟩ else ⟨j.val + 1280, by omega⟩

theorem cols_t_at (j : Fin 1280) (e : Fin 1024) : (V m c main_v13 : FVec Ideal S1280x1024 .bf16) (ix2 j e) = aW m c (ix3 0 e (colT j)) := by
  rw [cols_t]; unfold colT
  split_ifs <;> first | (exfalso; omega) | exact congrArg (aW m c) (congrArg (ix3 0 e) (Fin.ext (by first | rfl | (dsimp only; omega))))

theorem cols_s_at (e : Fin 1024) (j : Fin 3328) : (V m c main_v14 : FVec Ideal S1024x3328 .bf16) (ix2 e j) = aW m c (ix3 0 e (colS j)) := by
  rw [cols_s]; unfold colS
  split_ifs <;> first | (exfalso; omega) | exact congrArg (aW m c) (congrArg (ix3 0 e) (Fin.ext (by first | rfl | (dsimp only; omega))))

/-- A block's products are the whole product's. -/
theorem t_at (t : Fin cfg0.N) (j : Fin 1280) (r : Fin 512) :
    k0_pay5 (F := Ideal) (iblk m c 0 t) (iblk m c 1 t) (ix2 j r) = projected (aX m c) (aW m c) (ix3 (bat t) (row t r) (colT j)) := by
  rw [Cert.Reference3Ideal.Terms.projected_at]
  have h : k0_pay5 (F := Ideal) (iblk m c 0 t) (iblk m c 1 t) (ix2 j r) = ∑ e : Fin 1024, aW m c (ix3 0 e (colT j)) * aX m c (ix3 (bat t) (row t r) e) := by
    pointwise [k0_pay5, k0_pay4]
    exact Finset.sum_congr rfl fun e _ => Ideal.mul_congr ((blk_t m c t j e).trans (cols_t_at m c j e)) (blk_x m c t r e)
  exact h.trans (Finset.sum_congr rfl fun e _ => mul_comm _ _)

theorem s_at (t : Fin cfg0.N) (r : Fin 512) (j : Fin 3328) :
    dotS (iblk m c 0 t) (iblk m c 2 t) r j = projected (aX m c) (aW m c) (ix3 (bat t) (row t r) (colS j)) := by
  rw [Cert.Reference3Ideal.Terms.projected_at]
  exact Finset.sum_congr rfl fun e _ => Ideal.mul_congr (blk_x m c t r e) ((blk_s m c t e j).trans (cols_s_at m c e j))

theorem gq_at (t : Fin cfg0.N) (d : Fin 64) (r : Fin 512) : k0_pay65 (F := Ideal) (iblk m c 6 t) (ix2 d r) = aGQ m c (ix2 0 d) := by
  pointwise [k0_pay65]
  split_ifs <;> exact blk_gq m c t d _

end Cert.Kernel3Ideal.Final

end
-- ==== Proof.ProjConsts.lean ====
/-
  The float constants of the projection call, as the extended reals their patterns denote.
-/
module

public import Idealize.ShloMosaic.PureOps.Ideal

@[expose] public section

noncomputable section

namespace Cert.Kernel3Ideal.Consts

open Idealize.ShloMosaic

/-- An eighth, two, 64 and its reciprocal. -/
theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

/-- The mean of 64 entries is their sum times 1/64. -/
theorem mean_eq (s : EReal) : s * Ideal.ofBits .f32 0x3C800000#32 = Ideal.div s (Ideal.ofBits .f32 0x42800000#32) := by
  rw [ofBits_64, ofBits_64th, Ideal.div_coe (by norm_num)]

/-- An eighth over the logarithm of two is the real number that the queries' scale names. -/
theorem scale_eq : Ideal.div (Ideal.ofBits .f32 0x3E000000#32) (Ideal.log (Ideal.ofBits .f32 0x40000000#32)) = (((1 / 8) * (Real.log 2)⁻¹ : ℝ) : EReal) := by
  rw [ofBits_eighth, ofBits_two, Ideal.log_coe, if_neg (by norm_num), Ideal.div_coe (Real.log_pos (by norm_num)).ne', one_div (Real.log 2)]
  exact (EReal.coe_mul _ _).symm

end Cert.Kernel3Ideal.Consts

end
-- ==== Proof.ProjTurn.lean ====
/-
  The embedding of a head as the projection call's body computes it, in equal halves or by rotated lanes, is the reference's.
-/
module

public import proofs.«01_k».proof.Proof.ProjParts
public import proofs.«01_k».proof.Proof.ProjConsts

@[expose] public section

set_option maxRecDepth 16384
set_option maxHeartbeats 20000000

noncomputable section

namespace Cert.Kernel3Ideal.Final

open Cert.Kernel3Ideal Cert.Kernel3Ideal.Gen
open Idealize.ShloMosaic Idealize.ShloMosaic.TcCoe Idealize.SL.Sem
open Cert.Reference3Ideal.Terms (turn turnHalf turnAxial normed)

theorem turn_eq (y : Fin 64 → EReal) (a : Fin 32 → EReal) (d : Fin 64) :
    turnBy y (fun k => Ideal.cos (a k)) (fun k => Ideal.sin (a k)) d = turn y a d := rfl

theorem normBy_eq (y g : Fin 64 → EReal) (d : Fin 64) : normBy y g d = normed y g d := by
  unfold normBy normed
  rw [Consts.mean_eq]

/-- The four quarters of the axial embedding. -/
theorem axial_eq (y : Fin 64 → EReal) (r c : Fin 16 → EReal) (d : Fin 64) :
    turnAxBy y (fun k => Ideal.cos (r k)) (fun k => Ideal.sin (r k)) (fun k => Ideal.cos (c k)) (fun k => Ideal.sin (c k)) d = turnAxial y r c d := by
  unfold turnAxial turnHalf
  by_cases h1 : d.val < 16
  · rw [turnAxBy_0 _ _ _ _ _ d ⟨d.val, h1⟩ rfl, dif_pos (show d.val < 32 by omega), dif_pos (show (⟨d.val, _⟩ : Fin 32).val < 16 from h1)]
  · by_cases h2 : d.val < 32
    · rw [turnAxBy_1 _ _ _ _ _ d ⟨d.val - 16, by omega⟩ (by dsimp only; omega), dif_pos h2, dif_neg (show ¬ (⟨d.val, _⟩ : Fin 32).val < 16 from h1)]
    · by_cases h3 : d.val < 48
      · rw [turnAxBy_2 _ _ _ _ _ d ⟨d.val - 32, by omega⟩ (by dsimp only; omega), dif_neg h2, dif_pos (show (⟨d.val - 32, by omega⟩ : Fin 32).val < 16 by dsimp only; omega)]
        exact sub_congr rfl (Ideal.mul_congr (congrArg y (Fin.ext (by dsimp only; omega))) rfl)
      · rw [turnAxBy_3 _ _ _ _ _ d ⟨d.val - 48, by omega⟩ (by dsimp only; omega), dif_neg h2, dif_neg (show ¬ (⟨d.val - 32, by omega⟩ : Fin 32).val < 16 by dsimp only; omega)]
        have e : (⟨d.val - 48, by omega⟩ : Fin 16) = ⟨d.val - 32 - 16, by omega⟩ := Fin.ext (by dsimp only; omega)
        exact Ideal.add_congr (Ideal.mul_congr (congrArg y (Fin.ext (by dsimp only; omega))) (congrArg (fun k => Ideal.sin (c k)) e))
          (Ideal.mul_congr (congrArg y (Fin.ext (by dsimp only; omega))) (congrArg (fun k => Ideal.cos (c k)) e))

/-- A lane and its two neighbours, each against its table's entry, make the turned lane. -/
theorem rolled_turn (y : Fin 64 → EReal) (a : Fin 32 → EReal) (d : Fin 64) {k0 k1 k2 C S U : EReal} (h0 : k0 = y d)
    (h1 : (h : d.val < 32) → k1 = y ⟨32 + d.val, by omega⟩) (h2 : (h : 32 ≤ d.val) → k2 = y ⟨d.val - 32, by omega⟩)
    (hC : C = Ideal.cos (a ⟨d.val % 32, by omega⟩)) (hS : S = if d.val < 32 then -Ideal.sin (a ⟨d.val % 32, by omega⟩) else 0)
    (hU : U = if d.val < 32 then 0 else Ideal.sin (a ⟨d.val % 32, by omega⟩)) : k0 * C + k1 * S + k2 * U = turn y a d := by
  rw [h0, hC, hS, hU, ← turn_eq]
  by_cases h : d.val < 32
  · rw [if_pos h, if_pos h, h1 h, turnBy_lo _ _ _ d ⟨d.val % 32, by omega⟩ (by dsimp only; omega), mul_zero, add_zero, mul_neg, sub_eq_add_neg]
    exact Ideal.add_congr (Ideal.mul_congr (congrArg y (Fin.ext (by dsimp only; omega))) rfl) (congrArg (- ·) (Ideal.mul_congr (congrArg y (Fin.ext (by dsimp only; omega))) rfl))
  · rw [if_neg h, if_neg h, h2 (by omega), turnBy_hi _ _ _ d ⟨d.val % 32, by omega⟩ (by dsimp only; omega), mul_zero, add_zero, add_comm]
    exact Ideal.add_congr (Ideal.mul_congr (congrArg y (Fin.ext (by dsimp only; omega))) rfl) (Ideal.mul_congr (congrArg y (Fin.ext (by dsimp only; omega))) rfl)

theorem rolled_axial (y : Fin 64 → EReal) (r c : Fin 16 → EReal) (d : Fin 64) {k0 k1 k2 C S U : EReal} (h0 : k0 = y d)
    (h1 : (h : d.val % 32 < 16) → k1 = y ⟨16 + d.val, by omega⟩) (h2 : (h : 16 ≤ d.val % 32) → k2 = y ⟨d.val - 16, by omega⟩)
    (hC : C = if d.val < 32 then Ideal.cos (r ⟨d.val % 16, by omega⟩) else Ideal.cos (c ⟨d.val % 16, by omega⟩))
    (hS : S = if d.val % 32 < 16 then -(if d.val < 32 then Ideal.sin (r ⟨d.val % 16, by omega⟩) else Ideal.sin (c ⟨d.val % 16, by omega⟩)) else 0)
    (hU : U = if d.val % 32 < 16 then 0 else (if d.val < 32 then Ideal.sin (r ⟨d.val % 16, by omega⟩) else Ideal.sin (c ⟨d.val % 16, by omega⟩))) :
    k0 * C + k1 * S + k2 * U = turnAxial y r c d := by
  rw [h0, hC, hS, hU, ← axial_eq]
  by_cases h : d.val % 32 < 16
  · rw [if_pos h, if_pos h, h1 h, mul_zero, add_zero, mul_neg, ← sub_eq_add_neg]
    by_cases g : d.val < 32
    · rw [if_pos g, if_pos g, turnAxBy_0 _ _ _ _ _ d ⟨d.val % 16, by omega⟩ (by dsimp only; omega)]
      exact sub_congr (Ideal.mul_congr (congrArg y (Fin.ext (by dsimp only; omega))) rfl) (Ideal.mul_congr (congrArg y (Fin.ext (by dsimp only; omega))) rfl)
    · rw [if_neg g, if_neg g, turnAxBy_2 _ _ _ _ _ d ⟨d.val % 16, by omega⟩ (by dsimp only; omega)]
      exact sub_congr (Ideal.mul_congr (congrArg y (Fin.ext (by dsimp only; omega))) rfl) (Ideal.mul_congr (congrArg y (Fin.ext (by dsimp only; omega))) rfl)
  · rw [if_neg h, if_neg h, h2 (by omega), mul_zero, add_zero, add_comm]
    by_cases g : d.val < 32
    · rw [if_pos g, if_pos g, turnAxBy_1 _ _ _ _ _ d ⟨d.val % 16, by omega⟩ (by dsimp only; omega)]
      exact Ideal.add_congr (Ideal.mul_congr (congrArg y (Fin.ext (by dsimp only; omega))) rfl) (Ideal.mul_congr (congrArg y (Fin.ext (by dsimp only; omega))) rfl)
    · rw [if_neg g, if_neg g, turnAxBy_3 _ _ _ _ _ d ⟨d.val % 16, by omega⟩ (by dsimp only; omega)]
      exact Ideal.add_congr (Ideal.mul_congr (congrArg y (Fin.ext (by dsimp only; omega))) rfl) (Ideal.mul_congr (congrArg y (Fin.ext (by dsimp only; omega))) rfl)

/-- The number that the queries' scale names is the reference's scale. -/
theorem scale_named : Named.named (F := Ideal) κ "qscale" (φ := .f32) 0x3E38AA3B#32 = Cert.Reference3Ideal.Terms.scale2 :=
  (IdealRules.named_const.ideal_named_scalar _ _ _ _ rfl).trans Consts.scale_eq.symm

end Cert.Kernel3Ideal.Final

end
-- ==== Proof.ProjHeads.lean ====
/-
  The projection call's products and tables at the entries its outputs read, as the reference's heads and angles.
-/
module

public import proofs.«01_k».proof.Proof.ProjReads
public import proofs.«01_k».proof.Proof.ProjTurn

@[expose] public section

set_option maxRecDepth 16384
set_option maxHeartbeats 20000000

noncomputable section

namespace Cert.Kernel3Ideal.Final

open Cert.Kernel3Ideal Cert.Kernel3Ideal.Gen
open Idealize.ShloMosaic Idealize.ShloMosaic.TcCoe Idealize.SL.Sem
open Cert.Reference3Ideal.Terms (angle angleOf rowPos colPos projected head scale2 turn turnAxial normed)

variable (m : (ℓ : Loc nD τ sig) → Buf (Elt Ideal) ℓ) (c : Dev nD)

theorem colT_a (j : Fin 1280) (h : j.val < 512) : (colT j).val = j.val := by
  unfold colT; rw [dif_pos h]

theorem colT_b (j : Fin 1280) (h : 512 ≤ j.val) (h' : j.val < 640) : (colT j).val = j.val + 128 := by
  unfold colT; rw [dif_neg (by omega), dif_pos h']

theorem colT_c (j : Fin 1280) (h : 640 ≤ j.val) (h' : j.val < 1152) : (colT j).val = j.val + 640 := by
  unfold colT; rw [dif_neg (by omega), dif_neg (by omega), dif_pos h']

theorem colT_d (j : Fin 1280) (h : 1152 ≤ j.val) : (colT j).val = j.val + 768 := by
  unfold colT; rw [dif_neg (by omega), dif_neg (by omega), dif_neg (by omega)]

theorem colS_a (j : Fin 3328) (h : j.val < 128) : (colS j).val = 512 + j.val := by
  unfold colS; rw [dif_pos h]

theorem colS_b (j : Fin 3328) (h : 128 ≤ j.val) (h' : j.val < 256) : (colS j).val = j.val + 1664 := by
  unfold colS; rw [dif_neg (by omega), dif_pos h']

theorem colS_c (j : Fin 3328) (h : 256 ≤ j.val) (h' : j.val < 768) : (colS j).val = j.val + 512 := by
  unfold colS; rw [dif_neg (by omega), dif_neg (by omega), dif_pos h']

theorem colS_d (j : Fin 3328) (h : 768 ≤ j.val) : (colS j).val = j.val + 1280 := by
  unfold colS; rw [dif_neg (by omega), dif_neg (by omega), dif_neg (by omega)]

/-- A product is the head's entry whose column it is. -/
theorem t_head (t : Fin cfg0.N) (j : Fin 1280) (r : Fin 512) (o h : ℕ) (ho : o + h * 64 + 64 ≤ 4608) (k : Fin 64) (hj : (colT j).val = o + (h * 64 + k.val)) :
    k0_pay5 (F := Ideal) (iblk m c 0 t) (iblk m c 1 t) (ix2 j r) = head (aX m c) (aW m c) o (bat t) (row t r) h ho k :=
  (t_at m c t j r).trans (congrArg (fun j => projected (aX m c) (aW m c) (ix3 (bat t) (row t r) j)) (Fin.ext hj))

theorem s_head (t : Fin cfg0.N) (r : Fin 512) (j : Fin 3328) (o h : ℕ) (ho : o + h * 64 + 64 ≤ 4608) (k : Fin 64) (hj : (colS j).val = o + (h * 64 + k.val)) :
    dotS (iblk m c 0 t) (iblk m c 2 t) r j = head (aX m c) (aW m c) o (bat t) (row t r) h ho k :=
  (s_at m c t r j).trans (congrArg (fun j => projected (aX m c) (aW m c) (ix3 (bat t) (row t r) j)) (Fin.ext hj))

/-- A product is the whole product's entry at its column. -/
theorem s_col (t : Fin cfg0.N) (r : Fin 512) (j : Fin 3328) (i : Fin 4608) (hj : (colS j).val = i.val) :
    dotS (iblk m c 0 t) (iblk m c 2 t) r j = projected (aX m c) (aW m c) (ix3 (bat t) (row t r) i) :=
  (s_at m c t r j).trans (congrArg (fun j => projected (aX m c) (aW m c) (ix3 (bat t) (row t r) j)) (Fin.ext hj))

end Cert.Kernel3Ideal.Final

end
-- ==== Proof.ProjRows.lean ====
/-
  What the projection call's body leaves in the blocks of the gates, the values and the keys, element by element, over the extended reals.
-/
module

public import proofs.«01_k».proof.Proof.ProjParts
public import Idealize.ShloMosaic.Lib.KernelVsHost

@[expose] public section

set_option maxRecDepth 16384
set_option maxHeartbeats 2000000

noncomputable section

namespace Cert.Kernel3Ideal.Final

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The gates of the two attentions and of the merge. -/
theorem za_block (t : Fin cfg0.N) (r j : Fin 512) : (outsAt0 m c t).2.2.2.1 (ix3 0 r j) = dotS (iblk m c 0 t) (iblk m c 2 t) r ⟨256 + j.val, by omega⟩ := by
  simp only [outsAt0, dotS]
  frame_out
  pointwise [k0_pay194, k0_pay4]

theorem zb_block (t : Fin cfg0.N) (r j : Fin 512) : (outsAt0 m c t).2.2.2.2.2.2.2.1 (ix3 0 r j) = dotS (iblk m c 0 t) (iblk m c 2 t) r ⟨768 + j.val, by omega⟩ := by
  simp only [outsAt0, dotS]
  frame_out
  pointwise [k0_pay195, k0_pay4]

theorem gate_block (t : Fin cfg0.N) (y : S1x512x2048.Idx) : (outsAt0 m c t).2.2.2.2.2.2.2.2 y = dotS (iblk m c 0 t) (iblk m c 2 t) (y 1) ⟨1280 + (y 2).val, by have h : (y 2).val < 2048 := (y 2).isLt; omega⟩ := by
  simp only [outsAt0]
  frame_out
  canon_tiles x h
  all_goals
    refine Eq.trans ?_ (dotS_congr _ _ (r := ⟨(x 1).val, x1_lt⟩) (j := ⟨1280 + (y 2).val, by omega⟩) (by first | rfl | omega | (dsimp only; omega)) (by first | rfl | omega | (dsimp only; omega)))
    open_payloads
    pointwise [dotS]
    refine Fin.sum_fin_congr fun e => Ideal.mul_congr rfl (congrArg _ (ix2_congr rfl ?_))
    all_goals (dsimp only; omega)

/-- Rows of values, then a row of ones, then zeros. -/
def vBlock (o : ℕ) (ho : o + 128 ≤ 1280) (T : FVec Ideal S1280x512 .f32) : Vec Ideal S1x2x80x512 .bf16 := fun y =>
  if hd : (y 2).val < 64 then T (ix2 ⟨o + (64 * (y 1).val + (y 2).val), by have h : (y 1).val < 2 := (y 1).isLt; omega⟩ (y 3)) else if (y 2).val - 64 < 1 then 1 else 0

theorem row_eq : ∀ e : Fin 16, IntOp.cmpi CmpIPredicate.eq (BitVec.ofNat 32 e.val) 0#32 = if e.val < 1 then 1#1 else 0#1 := by decide +kernel

theorem one_at (e : Fin 16) (d : ℕ) (h : d = 64 + e.val) :
    (Scalar.select (IntOp.cmpi CmpIPredicate.eq (BitVec.ofNat 32 e.val) 0#32) 1 0 : EReal) = if d - 64 < 1 then 1 else 0 := by
  rw [row_eq]
  by_cases h1 : e.val < 1
  · rw [if_pos h1, if_pos (by omega)]; rfl
  · rw [if_neg h1, if_neg (by omega)]; rfl

theorem va_block (t : Fin cfg0.N) (y : S1x2x80x512.Idx) : (outsAt0 m c t).2.2.1 y = vBlock 512 (by omega) (k0_pay5 (F := Ideal) (iblk m c 0 t) (iblk m c 1 t)) y := by
  simp only [outsAt0]
  frame_out
  canon_tiles x h using (View.cover_of_tiledBy _ ![1, 1, 16, 512] (by sl_kernel_rfl) y)
  all_goals
    open_payloads
    pointwise [vBlock]
    first
      | rw [dif_pos (by omega)]
        refine congrArg _ (ix2_congr ?_ ?_)
        all_goals first | omega | (dsimp only; omega) | rfl
      | rw [dif_neg (by omega)]
        exact one_at ⟨(x 2).val, x2_lt⟩ (y 2).val (by dsimp only; omega)

theorem vb_block (t : Fin cfg0.N) (y : S1x2x80x512.Idx) : (outsAt0 m c t).2.2.2.2.2.2.1 y = vBlock 1152 (by omega) (k0_pay5 (F := Ideal) (iblk m c 0 t) (iblk m c 1 t)) y := by
  simp only [outsAt0]
  frame_out
  canon_tiles x h using (View.cover_of_tiledBy _ ![1, 1, 16, 512] (by sl_kernel_rfl) y)
  all_goals
    open_payloads
    pointwise [vBlock]
    first
      | rw [dif_pos (by omega)]
        refine congrArg _ (ix2_congr ?_ ?_)
        all_goals first | omega | (dsimp only; omega) | rfl
      | rw [dif_neg (by omega)]
        exact one_at ⟨(x 2).val, x2_lt⟩ (y 2).val (by dsimp only; omega)
/-- The first branch's keys before the heads are cut apart. -/
theorem keysA_at (v2 : FVec Ideal S512x1024 .bf16) (w : Vec Ideal S1024x256 .bf16) (C S1 S2 : Vec Ideal S512x128 .f32) (r : Fin 512) (j : Fin 128) :
    k0_pay184 (F := Ideal) v2 w C S1 S2 (ix2 r j)
      = k0_pay183 (F := Ideal) v2 w (ix2 r ⟨j.val, by omega⟩) * C (ix2 r j) + k0_pay183 (F := Ideal) v2 w (ix2 r ⟨(j.val + 128 - 96) % 128, by omega⟩) * S1 (ix2 r j)
        + k0_pay183 (F := Ideal) v2 w (ix2 r ⟨(j.val + 128 - 32) % 128, by omega⟩) * S2 (ix2 r j) := by
  unfold k0_pay184
  generalize k0_pay183 (F := Ideal) v2 w = K
  pointwise []

theorem lane_lt : ∀ j : Fin 128, IntOp.cmpi CmpIPredicate.slt (BitVec.ofNat 32 j.val) 64#32 = if j.val / 64 = 0 then 1#1 else 0#1 := by decide +kernel

/-- A row's 128 lanes normed head by head. -/
theorem normB_at (K : FVec Ideal S512x256 .f32) (g : Vec Ideal S1x128 .f32) (r : Fin 512) (j : Fin 128) :
    k0_pay188 (F := Ideal) K g (ix2 r j)
      = K (ix2 r ⟨128 + j.val, by omega⟩)
        * Ideal.rsqrt ((∑ k : Fin 64, K (ix2 r ⟨128 + (j.val / 64 * 64 + k.val), by omega⟩) * K (ix2 r ⟨128 + (j.val / 64 * 64 + k.val), by omega⟩)) * Ideal.ofBits .f32 0x3C800000#32 + Ideal.ofBits .f32 0x358637BD#32)
        * g (ix2 0 j) := by
  unfold k0_pay188
  pointwise []
  refine Ideal.mul_congr (Ideal.mul_congr rfl (congrArg Ideal.rsqrt (Ideal.add_congr (Ideal.mul_congr ?_ rfl) rfl))) rfl
  rw [lane_lt]
  by_cases h : j.val / 64 = 0
  · rw [if_pos h]
    simp only [h, Nat.zero_mul, Nat.zero_add]
    rfl
  · have h1 : j.val / 64 = 1 := by omega
    rw [if_neg h]
    simp only [h1, Nat.one_mul]
    rfl

theorem keysB_at (K : FVec Ideal S512x256 .f32) (g : Vec Ideal S1x128 .f32) (C S1 S2 : Vec Ideal S512x128 .f32) (r : Fin 512) (j : Fin 128) :
    k0_pay191 (F := Ideal) (k0_pay189 K g C S1) (k0_pay190 K g S2) (ix2 r j)
      = k0_pay188 (F := Ideal) K g (ix2 r j) * C (ix2 r j) + k0_pay188 (F := Ideal) K g (ix2 r ⟨(j.val + 128 - 112) % 128, by omega⟩) * S1 (ix2 r j)
        + k0_pay188 (F := Ideal) K g (ix2 r ⟨(j.val + 128 - 16) % 128, by omega⟩) * S2 (ix2 r j) := by
  unfold k0_pay191 k0_pay189 k0_pay190
  generalize k0_pay188 (F := Ideal) K g = N
  pointwise []

theorem keys_at (X : Vec Ideal S1x512x1024 .f32) (W : Vec Ideal S1024x3328 .bf16) (r : Fin 512) (j : Fin 256) :
    k0_pay183 (F := Ideal) (k0_pay4 X) (View.ld W (Rect.unit ![0, 0] ![1024, 256] inb_S1024x3328_S1024x256_0_0)) (ix2 r j) = dotS X W r ⟨j.val, by omega⟩ := by
  pointwise [k0_pay183, k0_pay4, dotS]

/-- The first branch's keys of a block. -/
def kaBlock (X : Vec Ideal S1x512x1024 .f32) (W : Vec Ideal S1024x3328 .bf16) (R : Vec Ideal S512x768 .f32) (r : Fin 512) (j : Fin 128) : EReal :=
  dotS X W r ⟨j.val, by omega⟩ * R (ix2 r ⟨j.val, by omega⟩) + dotS X W r ⟨(j.val + 128 - 96) % 128, by omega⟩ * R (ix2 r ⟨128 + j.val, by omega⟩)
    + dotS X W r ⟨(j.val + 128 - 32) % 128, by omega⟩ * R (ix2 r ⟨256 + j.val, by omega⟩)

theorem kaBlock_congr (X : Vec Ideal S1x512x1024 .f32) (W : Vec Ideal S1024x3328 .bf16) (R : Vec Ideal S512x768 .f32) {r r' : Fin 512} {j j' : Fin 128} (hr : r.val = r'.val) (hj : j.val = j'.val) :
    kaBlock X W R r j = kaBlock X W R r' j' := by rw [Fin.ext hr, Fin.ext hj]

theorem ka_block (t : Fin cfg0.N) (y : S1x2x512x64.Idx) : (outsAt0 m c t).2.1 y
    = kaBlock (iblk m c 0 t) (iblk m c 2 t) (iblk m c 3 t) (y 2) ⟨64 * (y 1).val + (y 3).val, by have h : (y 1).val < 2 := (y 1).isLt; have h' : (y 3).val < 64 := (y 3).isLt; omega⟩ := by
  simp only [outsAt0]
  frame_out
  canon_tiles x h
  · refine Eq.trans ?_ (kaBlock_congr _ _ _ (r := ⟨(x 2).val, x2_lt⟩) (j := ⟨64 + (x 3).val, by omega⟩) (by dsimp only; omega) (by dsimp only; omega))
    pointwise [k0_pay185, k0_pay186, k0_pay187, keysA_at, keys_at, kaBlock]
  · refine Eq.trans ?_ (kaBlock_congr _ _ _ (r := ⟨(x 2).val, x2_lt⟩) (j := ⟨(x 3).val, by omega⟩) (by dsimp only; omega) (by dsimp only; omega))
    pointwise [k0_pay185, k0_pay186, k0_pay187, keysA_at, keys_at, kaBlock]

/-- The second branch's keys of a block: a lane of the normed keys, and the keys turned. -/
def kbNorm (X : Vec Ideal S1x512x1024 .f32) (W : Vec Ideal S1024x3328 .bf16) (g : Vec Ideal S1x128 .f32) (r : Fin 512) (j : Fin 128) : EReal :=
  dotS X W r ⟨128 + j.val, by omega⟩
    * Ideal.rsqrt ((∑ k : Fin 64, dotS X W r ⟨128 + (j.val / 64 * 64 + k.val), by omega⟩ * dotS X W r ⟨128 + (j.val / 64 * 64 + k.val), by omega⟩) * Ideal.ofBits .f32 0x3C800000#32 + Ideal.ofBits .f32 0x358637BD#32)
    * g (ix2 0 j)

theorem kbNorm_eq (X : Vec Ideal S1x512x1024 .f32) (W : Vec Ideal S1024x3328 .bf16) (g : Vec Ideal S1x128 .f32) (r : Fin 512) (j : Fin 128) :
    k0_pay188 (F := Ideal) (k0_pay183 (k0_pay4 X) (View.ld W (Rect.unit ![0, 0] ![1024, 256] inb_S1024x3328_S1024x256_0_0))) g (ix2 r j) = kbNorm X W g r j := by
  rw [normB_at]
  simp only [keys_at]
  rfl

def kbBlock (X : Vec Ideal S1x512x1024 .f32) (W : Vec Ideal S1024x3328 .bf16) (R : Vec Ideal S512x768 .f32) (g : Vec Ideal S1x128 .f32) (r : Fin 512) (j : Fin 128) : EReal :=
  kbNorm X W g r j * R (ix2 r ⟨384 + j.val, by omega⟩) + kbNorm X W g r ⟨(j.val + 128 - 112) % 128, by omega⟩ * R (ix2 r ⟨512 + j.val, by omega⟩)
    + kbNorm X W g r ⟨(j.val + 128 - 16) % 128, by omega⟩ * R (ix2 r ⟨640 + j.val, by omega⟩)

theorem kbBlock_congr (X : Vec Ideal S1x512x1024 .f32) (W : Vec Ideal S1024x3328 .bf16) (R : Vec Ideal S512x768 .f32) (g : Vec Ideal S1x128 .f32) {r r' : Fin 512} {j j' : Fin 128} (hr : r.val = r'.val) (hj : j.val = j'.val) :
    kbBlock X W R g r j = kbBlock X W R g r' j' := by rw [Fin.ext hr, Fin.ext hj]

theorem kb_block (t : Fin cfg0.N) (y : S1x2x512x64.Idx) : (outsAt0 m c t).2.2.2.2.2.1 y
    = kbBlock (iblk m c 0 t) (iblk m c 2 t) (iblk m c 3 t) (iblk m c 5 t) (y 2) ⟨64 * (y 1).val + (y 3).val, by have h : (y 1).val < 2 := (y 1).isLt; have h' : (y 3).val < 64 := (y 3).isLt; omega⟩ := by
  simp only [outsAt0]
  frame_out
  canon_tiles x h
  · refine Eq.trans ?_ (kbBlock_congr _ _ _ _ (r := ⟨(x 2).val, x2_lt⟩) (j := ⟨64 + (x 3).val, by omega⟩) (by dsimp only; omega) (by dsimp only; omega))
    pointwise [k0_pay192, k0_pay193, keysB_at, kbNorm_eq, kbBlock]
  · refine Eq.trans ?_ (kbBlock_congr _ _ _ _ (r := ⟨(x 2).val, x2_lt⟩) (j := ⟨(x 3).val, by omega⟩) (by dsimp only; omega) (by dsimp only; omega))
    pointwise [k0_pay192, k0_pay193, keysB_at, kbNorm_eq, kbBlock]

end Cert.Kernel3Ideal.Final

end
-- ==== Proof.ProjDense.lean ====
/-
  The projection call's gates and values are the reference's.
-/
module

public import proofs.«01_k».proof.Proof.ProjHeads
public import proofs.«01_k».proof.Proof.ProjRows

@[expose] public section

set_option maxRecDepth 16384
set_option maxHeartbeats 20000000

noncomputable section

namespace Cert.Kernel3Ideal.Final

open Cert.Kernel3Ideal Cert.Kernel3Ideal.Gen
open Idealize.ShloMosaic Idealize.ShloMosaic.TcCoe Idealize.SL.Sem
open Cert.Reference3Ideal.Terms (angle angleOf rowPos colPos projected head scale2 turn turnAxial normed)

variable (m : (ℓ : Loc nD τ sig) → Buf (Elt Ideal) ℓ) (c : Dev nD)

/-- The gates. -/
theorem za_eq (t : Fin cfg0.N) (y : S1x512x512.Idx) : (outsAt0 m c t).2.2.2.1 y = Cert.Reference3Ideal.Terms.resZA (aX m c) (aW m c) ((win0_10.blk t).view.emb y) := by
  idx_vars y
  obtain rfl : y0 = 0 := Subsingleton.elim _ _
  refine (za_block m c t y1 y2).trans ((s_col m c t y1 _ ⟨768 + y2.val, by omega⟩ ?_).trans ((Cert.Reference3Ideal.Terms.resZA_at (aX m c) (aW m c) (bat t) (row t y1) y2).symm.trans ?_))
  · rw [colS_c _ (by dsimp only; omega) (by dsimp only; omega)]; try (dsimp only; omega)
  generalize Cert.Reference3Ideal.Terms.resZA (aX m c) (aW m c) = G
  refine congrArg G ?_
  blk_ext [idx t, bat, row]

theorem final_10 : (dats m 0 c).arrAt 10 (cfgs 0).N = Cert.Reference3Ideal.Terms.resZA (aX m c) (aW m c) := by
  refine (dats m 0 c).arrAt_eq_of_covers 10 _ (by decide +kernel) fun t _ y => ?_
  blk_simp
  rw [after0_10]
  exact za_eq m c t y

theorem zb_eq (t : Fin cfg0.N) (y : S1x512x512.Idx) : (outsAt0 m c t).2.2.2.2.2.2.2.1 y = Cert.Reference3Ideal.Terms.resZB (aX m c) (aW m c) ((win0_14.blk t).view.emb y) := by
  idx_vars y
  obtain rfl : y0 = 0 := Subsingleton.elim _ _
  refine (zb_block m c t y1 y2).trans ((s_col m c t y1 _ ⟨2048 + y2.val, by omega⟩ ?_).trans ((Cert.Reference3Ideal.Terms.resZB_at (aX m c) (aW m c) (bat t) (row t y1) y2).symm.trans ?_))
  · rw [colS_d _ (by dsimp only; omega)]; try (dsimp only; omega)
  generalize Cert.Reference3Ideal.Terms.resZB (aX m c) (aW m c) = G
  refine congrArg G ?_
  blk_ext [idx t, bat, row]

theorem final_14 : (dats m 0 c).arrAt 14 (cfgs 0).N = Cert.Reference3Ideal.Terms.resZB (aX m c) (aW m c) := by
  refine (dats m 0 c).arrAt_eq_of_covers 14 _ (by decide +kernel) fun t _ y => ?_
  blk_simp
  rw [after0_14]
  exact zb_eq m c t y

theorem gate_eq (t : Fin cfg0.N) (y : S1x512x2048.Idx) : (outsAt0 m c t).2.2.2.2.2.2.2.2 y = Cert.Reference3Ideal.Terms.resG (aX m c) (aW m c) ((win0_15.blk t).view.emb y) := by
  idx_vars y
  obtain rfl : y0 = 0 := Subsingleton.elim _ _
  refine (gate_block m c t (ix3 0 y1 y2)).trans ((s_col m c t y1 _ ⟨2560 + y2.val, by omega⟩ ?_).trans ((Cert.Reference3Ideal.Terms.resG_at (aX m c) (aW m c) (bat t) (row t y1) y2).symm.trans ?_))
  · rw [colS_d _ (show 768 ≤ 1280 + y2.val by omega)]; change 1280 + y2.val + 1280 = 2560 + y2.val; omega
  generalize Cert.Reference3Ideal.Terms.resG (aX m c) (aW m c) = G
  refine congrArg G ?_
  blk_ext [idx t, bat, row]

theorem final_15 : (dats m 0 c).arrAt 15 (cfgs 0).N = Cert.Reference3Ideal.Terms.resG (aX m c) (aW m c) := by
  refine (dats m 0 c).arrAt_eq_of_covers 15 _ (by decide +kernel) fun t _ y => ?_
  blk_simp
  rw [after0_15]
  exact gate_eq m c t y

/-- The values. -/
theorem va_eq (t : Fin cfg0.N) (y : S1x2x80x512.Idx) : (outsAt0 m c t).2.2.1 y = Cert.Reference3Ideal.Terms.resVA (aX m c) (aW m c) ((win0_9.blk t).view.emb y) := by
  idx_vars y
  obtain rfl : y0 = 0 := Subsingleton.elim _ _
  refine (va_block m c t (ix4 0 y1 y2 y3)).trans ?_
  have e : vBlock 512 (by omega) (k0_pay5 (F := Ideal) (iblk m c 0 t) (iblk m c 1 t)) (ix4 0 y1 y2 y3) = Cert.Reference3Ideal.Terms.resVA (aX m c) (aW m c) (ix4 (bat t) y1 y2 (row t y3)) := by
    rw [Cert.Reference3Ideal.Terms.resVA_at]
    by_cases h : y2.val < 64
    · rw [dif_pos h]
      refine (dif_pos h).trans (t_head m c t _ y3 640 y1.val _ ⟨y2.val, h⟩ ?_)
      refine (colT_b _ (show 512 ≤ 512 + (64 * y1.val + y2.val) by omega) (show 512 + (64 * y1.val + y2.val) < 640 by omega)).trans ?_
      change 512 + (64 * y1.val + y2.val) + 128 = 640 + (y1.val * 64 + y2.val)
      omega
    · rw [dif_neg h]
      exact dif_neg h
  refine e.trans ?_
  generalize Cert.Reference3Ideal.Terms.resVA (aX m c) (aW m c) = G
  refine congrArg G ?_
  blk_ext [idx t, bat, row]

theorem final_9 : (dats m 0 c).arrAt 9 (cfgs 0).N = Cert.Reference3Ideal.Terms.resVA (aX m c) (aW m c) := by
  refine (dats m 0 c).arrAt_eq_of_covers 9 _ (by decide +kernel) fun t _ y => ?_
  blk_simp
  rw [after0_9]
  exact va_eq m c t y

theorem vb_eq (t : Fin cfg0.N) (y : S1x2x80x512.Idx) : (outsAt0 m c t).2.2.2.2.2.2.1 y = Cert.Reference3Ideal.Terms.resVB (aX m c) (aW m c) ((win0_13.blk t).view.emb y) := by
  idx_vars y
  obtain rfl : y0 = 0 := Subsingleton.elim _ _
  refine (vb_block m c t (ix4 0 y1 y2 y3)).trans ?_
  have e : vBlock 1152 (by omega) (k0_pay5 (F := Ideal) (iblk m c 0 t) (iblk m c 1 t)) (ix4 0 y1 y2 y3) = Cert.Reference3Ideal.Terms.resVB (aX m c) (aW m c) (ix4 (bat t) y1 y2 (row t y3)) := by
    rw [Cert.Reference3Ideal.Terms.resVB_at]
    by_cases h : y2.val < 64
    · rw [dif_pos h]
      refine (dif_pos h).trans (t_head m c t _ y3 1920 y1.val _ ⟨y2.val, h⟩ ?_)
      refine (colT_d _ (show 1152 ≤ 1152 + (64 * y1.val + y2.val) by omega)).trans ?_
      change 1152 + (64 * y1.val + y2.val) + 768 = 1920 + (y1.val * 64 + y2.val)
      omega
    · rw [dif_neg h]
      exact dif_neg h
  refine e.trans ?_
  generalize Cert.Reference3Ideal.Terms.resVB (aX m c) (aW m c) = G
  refine congrArg G ?_
  blk_ext [idx t, bat, row]

theorem final_13 : (dats m 0 c).arrAt 13 (cfgs 0).N = Cert.Reference3Ideal.Terms.resVB (aX m c) (aW m c) := by
  refine (dats m 0 c).arrAt_eq_of_covers 13 _ (by decide +kernel) fun t _ y => ?_
  blk_simp
  rw [after0_13]
  exact vb_eq m c t y

end Cert.Kernel3Ideal.Final

end
-- ==== Proof.ProjQueries.lean ====
/-
  What the projection call's body leaves in the blocks of the queries, element by element, over the extended reals.
-/
module

public import proofs.«01_k».proof.Proof.ProjParts

@[expose] public section

set_option maxRecDepth 16384
set_option maxHeartbeats 2000000

noncomputable section

namespace Cert.Kernel3Ideal.Final

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The first branch's queries of a block. -/
def qaBlock (T : FVec Ideal S1280x512 .f32) (R : Vec Ideal S128x512 .f32) : Vec Ideal S1x8x64x512 .bf16 := fun y =>
  turnBy (fun k => T (ix2 ⟨64 * (y 1).val + k.val, by have h : (y 1).val < 8 := (y 1).isLt; omega⟩ (y 3))) (fun k => R (ix2 ⟨k.val, by omega⟩ (y 3))) (fun k => R (ix2 ⟨32 + k.val, by omega⟩ (y 3))) (y 2)
    * Named.named (F := Ideal) κ "qscale" (φ := .f32) 0x3E38AA3B#32

theorem qa_block (t : Fin cfg0.N) (y : S1x8x64x512.Idx) : (outsAt0 m c t).1 y = qaBlock (k0_pay5 (F := Ideal) (iblk m c 0 t) (iblk m c 1 t)) (iblk m c 4 t) y := by
  simp only [outsAt0]
  frame_out
  canon_tiles x h
  all_goals
    open_payloads
    pointwise [qaBlock]
    first
      | rw [turnBy_hi _ _ _ (y 2) ⟨(x 2).val, x2_lt⟩ (by dsimp only; omega)]
        refine Ideal.mul_congr (Ideal.add_congr (Ideal.mul_congr (congrArg _ (ix2_congr ?_ ?_)) (congrArg _ (ix2_congr ?_ ?_))) (Ideal.mul_congr (congrArg _ (ix2_congr ?_ ?_)) (congrArg _ (ix2_congr ?_ ?_)))) rfl
      | rw [turnBy_lo _ _ _ (y 2) ⟨(x 2).val, x2_lt⟩ (by dsimp only; omega)]
        refine Ideal.mul_congr (sub_congr (Ideal.mul_congr (congrArg _ (ix2_congr ?_ ?_)) (congrArg _ (ix2_congr ?_ ?_))) (Ideal.mul_congr (congrArg _ (ix2_congr ?_ ?_)) (congrArg _ (ix2_congr ?_ ?_)))) rfl
    all_goals first | omega | (dsimp only; omega) | rfl

/-- The second branch's queries of a block. -/
def qbBlock (T : FVec Ideal S1280x512 .f32) (G : FVec Ideal S64x512 .f32) (R : Vec Ideal S128x512 .f32) : Vec Ideal S1x8x64x512 .bf16 := fun y =>
  turnAxBy (normBy (fun k => T (ix2 ⟨640 + (64 * (y 1).val + k.val), by have h : (y 1).val < 8 := (y 1).isLt; omega⟩ (y 3))) (fun k => G (ix2 k (y 3))))
    (fun k => R (ix2 ⟨64 + k.val, by omega⟩ (y 3))) (fun k => R (ix2 ⟨80 + k.val, by omega⟩ (y 3))) (fun k => R (ix2 ⟨96 + k.val, by omega⟩ (y 3))) (fun k => R (ix2 ⟨112 + k.val, by omega⟩ (y 3))) (y 2)
    * Named.named (F := Ideal) κ "qscale" (φ := .f32) 0x3E38AA3B#32

theorem qb_block (t : Fin cfg0.N) (y : S1x8x64x512.Idx) : (outsAt0 m c t).2.2.2.2.1 y = qbBlock (k0_pay5 (F := Ideal) (iblk m c 0 t) (iblk m c 1 t)) (k0_pay65 (F := Ideal) (iblk m c 6 t)) (iblk m c 4 t) y := by
  simp only [outsAt0]
  frame_out
  canon_tiles x h
  all_goals
    open_payloads
    pointwise [qbBlock]
    first
      | rw [turnAxBy_0 _ _ _ _ _ (y 2) ⟨(x 2).val, x2_lt⟩ (by dsimp only; omega)]
        refine Ideal.mul_congr (sub_congr (Ideal.mul_congr (normBy_congr (congrArg _ (ix2_congr ?_ ?_)) (fun k => congrArg _ (ix2_congr ?_ ?_)) (congrArg _ (ix2_congr ?_ ?_))) (congrArg _ (ix2_congr ?_ ?_)))
          (Ideal.mul_congr (normBy_congr (congrArg _ (ix2_congr ?_ ?_)) (fun k => congrArg _ (ix2_congr ?_ ?_)) (congrArg _ (ix2_congr ?_ ?_))) (congrArg _ (ix2_congr ?_ ?_)))) rfl
      | rw [turnAxBy_1 _ _ _ _ _ (y 2) ⟨(x 2).val, x2_lt⟩ (by dsimp only; omega)]
        refine Ideal.mul_congr (Ideal.add_congr (Ideal.mul_congr (normBy_congr (congrArg _ (ix2_congr ?_ ?_)) (fun k => congrArg _ (ix2_congr ?_ ?_)) (congrArg _ (ix2_congr ?_ ?_))) (congrArg _ (ix2_congr ?_ ?_)))
          (Ideal.mul_congr (normBy_congr (congrArg _ (ix2_congr ?_ ?_)) (fun k => congrArg _ (ix2_congr ?_ ?_)) (congrArg _ (ix2_congr ?_ ?_))) (congrArg _ (ix2_congr ?_ ?_)))) rfl
      | rw [turnAxBy_2 _ _ _ _ _ (y 2) ⟨(x 2).val, x2_lt⟩ (by dsimp only; omega)]
        refine Ideal.mul_congr (sub_congr (Ideal.mul_congr (normBy_congr (congrArg _ (ix2_congr ?_ ?_)) (fun k => congrArg _ (ix2_congr ?_ ?_)) (congrArg _ (ix2_congr ?_ ?_))) (congrArg _ (ix2_congr ?_ ?_)))
          (Ideal.mul_congr (normBy_congr (congrArg _ (ix2_congr ?_ ?_)) (fun k => congrArg _ (ix2_congr ?_ ?_)) (congrArg _ (ix2_congr ?_ ?_))) (congrArg _ (ix2_congr ?_ ?_)))) rfl
      | rw [turnAxBy_3 _ _ _ _ _ (y 2) ⟨(x 2).val, x2_lt⟩ (by dsimp only; omega)]
        refine Ideal.mul_congr (Ideal.add_congr (Ideal.mul_congr (normBy_congr (congrArg _ (ix2_congr ?_ ?_)) (fun k => congrArg _ (ix2_congr ?_ ?_)) (congrArg _ (ix2_congr ?_ ?_))) (congrArg _ (ix2_congr ?_ ?_)))
          (Ideal.mul_congr (normBy_congr (congrArg _ (ix2_congr ?_ ?_)) (fun k => congrArg _ (ix2_congr ?_ ?_)) (congrArg _ (ix2_congr ?_ ?_))) (congrArg _ (ix2_congr ?_ ?_)))) rfl
    all_goals first | omega | (dsimp only; omega) | rfl

end Cert.Kernel3Ideal.Final

end
-- ==== Proof.ProjGroups.lean ====
/-
  The projection call's feature-major table, group by group.
-/
module

public import proofs.«01_k».proof.Proof.ProjReads
public import proofs.«01_k».proof.Proof.ProjTurn

@[expose] public section

set_option maxRecDepth 16384
set_option maxHeartbeats 20000000

noncomputable section

namespace Cert.Kernel3Ideal.Final

open Cert.Kernel3Ideal Cert.Kernel3Ideal.Gen
open Idealize.ShloMosaic Idealize.ShloMosaic.TcCoe Idealize.SL.Sem
open Cert.Reference3Ideal.Terms (angle angleOf rowPos colPos projected head scale2 turn turnAxial normed)

variable (m : (ℓ : Loc nD τ sig) → Buf (Elt Ideal) ℓ) (c : Dev nD)

/-- The feature-major table's six groups. -/
theorem entry_0 (k : Fin 32) (n : Fin 8192) : entry_t ⟨k.val, by omega⟩ n = Ideal.cos (angle (ix2 n k)) := by
  unfold entry_t
  generalize angle = a; generalize angleOf rowPos = p; generalize angleOf colPos = q
  rw [dif_pos (show k.val < 32 by omega)]

theorem entry_1 (k : Fin 32) (n : Fin 8192) : entry_t ⟨32 + k.val, by omega⟩ n = Ideal.sin (angle (ix2 n k)) := by
  unfold entry_t
  generalize angle = a; generalize angleOf rowPos = p; generalize angleOf colPos = q
  rw [dif_neg (show ¬ 32 + k.val < 32 by omega), dif_pos (show 32 + k.val - 32 < 32 by omega)]
  exact congrArg (fun k => Ideal.sin (a (ix2 n k))) (Fin.ext (by dsimp only; omega))

theorem entry_2 (k : Fin 16) (n : Fin 8192) : entry_t ⟨64 + k.val, by omega⟩ n = Ideal.cos (angleOf rowPos (ix2 n k)) := by
  unfold entry_t
  generalize angle = a; generalize angleOf rowPos = p; generalize angleOf colPos = q
  rw [dif_neg (show ¬ 64 + k.val < 32 by omega), dif_neg (show ¬ 64 + k.val - 32 < 32 by omega), dif_pos (show 64 + k.val - 32 - 32 < 16 by omega)]
  exact congrArg (fun k => Ideal.cos (p (ix2 n k))) (Fin.ext (by dsimp only; omega))

theorem entry_3 (k : Fin 16) (n : Fin 8192) : entry_t ⟨80 + k.val, by omega⟩ n = Ideal.sin (angleOf rowPos (ix2 n k)) := by
  unfold entry_t
  generalize angle = a; generalize angleOf rowPos = p; generalize angleOf colPos = q
  rw [dif_neg (show ¬ 80 + k.val < 32 by omega), dif_neg (show ¬ 80 + k.val - 32 < 32 by omega), dif_neg (show ¬ 80 + k.val - 32 - 32 < 16 by omega), dif_pos (show 80 + k.val - 32 - 32 - 16 < 16 by omega)]
  exact congrArg (fun k => Ideal.sin (p (ix2 n k))) (Fin.ext (by dsimp only; omega))

theorem entry_4 (k : Fin 16) (n : Fin 8192) : entry_t ⟨96 + k.val, by omega⟩ n = Ideal.cos (angleOf colPos (ix2 n k)) := by
  unfold entry_t
  generalize angle = a; generalize angleOf rowPos = p; generalize angleOf colPos = q
  rw [dif_neg (show ¬ 96 + k.val < 32 by omega), dif_neg (show ¬ 96 + k.val - 32 < 32 by omega), dif_neg (show ¬ 96 + k.val - 32 - 32 < 16 by omega), dif_neg (show ¬ 96 + k.val - 32 - 32 - 16 < 16 by omega), dif_pos (show 96 + k.val - 32 - 32 - 16 - 16 < 16 by omega)]
  exact congrArg (fun k => Ideal.cos (q (ix2 n k))) (Fin.ext (by dsimp only; omega))

theorem entry_5 (k : Fin 16) (n : Fin 8192) : entry_t ⟨112 + k.val, by omega⟩ n = Ideal.sin (angleOf colPos (ix2 n k)) := by
  unfold entry_t
  generalize angle = a; generalize angleOf rowPos = p; generalize angleOf colPos = q
  rw [dif_neg (show ¬ 112 + k.val < 32 by omega), dif_neg (show ¬ 112 + k.val - 32 < 32 by omega), dif_neg (show ¬ 112 + k.val - 32 - 32 < 16 by omega), dif_neg (show ¬ 112 + k.val - 32 - 32 - 16 < 16 by omega), dif_neg (show ¬ 112 + k.val - 32 - 32 - 16 - 16 < 16 by omega)]
  exact congrArg (fun k => Ideal.sin (q (ix2 n k))) (Fin.ext (by dsimp only; omega))

end Cert.Kernel3Ideal.Final

end
-- ==== Proof.ProjOutQ.lean ====
/-
  The projection call's queries are the reference's.
-/
module

public import proofs.«01_k».proof.Proof.ProjHeads
public import proofs.«01_k».proof.Proof.ProjQueries
public import proofs.«01_k».proof.Proof.ProjGroups

@[expose] public section

set_option maxRecDepth 16384
set_option maxHeartbeats 20000000

noncomputable section

namespace Cert.Kernel3Ideal.Final

open Cert.Kernel3Ideal Cert.Kernel3Ideal.Gen
open Idealize.ShloMosaic Idealize.ShloMosaic.TcCoe Idealize.SL.Sem
open Cert.Reference3Ideal.Terms (angle angleOf rowPos colPos projected head scale2 turn turnAxial normed)

variable (m : (ℓ : Loc nD τ sig) → Buf (Elt Ideal) ℓ) (c : Dev nD)

/-- Equal entries, cosines and sines make equal heads. -/
theorem turnBy_congr {y y' : Fin 64 → EReal} {C C' S S' : Fin 32 → EReal} (d : Fin 64) (hy : ∀ k, y k = y' k) (hC : ∀ k, C k = C' k) (hS : ∀ k, S k = S' k) :
    turnBy y C S d = turnBy y' C' S' d := by rw [funext hy, funext hC, funext hS]

theorem turnAxBy_congr {y y' : Fin 64 → EReal} {C C' S S' D D' U U' : Fin 16 → EReal} (d : Fin 64) (hy : ∀ k, y k = y' k) (hC : ∀ k, C k = C' k) (hS : ∀ k, S k = S' k) (hD : ∀ k, D k = D' k) (hU : ∀ k, U k = U' k) :
    turnAxBy y C S D U d = turnAxBy y' C' S' D' U' d := by rw [funext hy, funext hC, funext hS, funext hD, funext hU]

/-- The first branch's queries. -/
theorem qa_at (t : Fin cfg0.N) (h : Fin 8) (d : Fin 64) (r : Fin 512) : qaBlock (k0_pay5 (F := Ideal) (iblk m c 0 t) (iblk m c 1 t)) (iblk m c 4 t) (ix4 0 h d r)
    = Cert.Reference3Ideal.Terms.resQA (aX m c) (aW m c) (ix4 (bat t) h d (row t r)) := by
  rw [Cert.Reference3Ideal.Terms.resQA_at, ← turn_eq, ← scale_named]
  refine Ideal.mul_congr (turnBy_congr d (fun k => ?_) (fun k => ?_) (fun k => ?_)) rfl
  · refine t_head m c t _ r 0 h.val _ k ((colT_a _ (show 64 * h.val + k.val < 512 by omega)).trans ?_)
    change 64 * h.val + k.val = 0 + (h.val * 64 + k.val)
    omega
  · exact (blk_tabt m c t _ r).trans (entry_0 k _)
  · exact (blk_tabt m c t _ r).trans (entry_1 k _)

theorem qa_eq (t : Fin cfg0.N) (y : S1x8x64x512.Idx) : (outsAt0 m c t).1 y = Cert.Reference3Ideal.Terms.resQA (aX m c) (aW m c) ((win0_7.blk t).view.emb y) := by
  idx_vars y
  obtain rfl : y0 = 0 := Subsingleton.elim _ _
  have e := (qa_block m c t (ix4 0 y1 y2 y3)).trans (qa_at m c t y1 y2 y3)
  refine e.trans ?_
  generalize Cert.Reference3Ideal.Terms.resQA (aX m c) (aW m c) = G
  refine congrArg G ?_
  blk_ext [idx t, bat, row]

theorem final_7 : (dats m 0 c).arrAt 7 (cfgs 0).N = Cert.Reference3Ideal.Terms.resQA (aX m c) (aW m c) := by
  refine (dats m 0 c).arrAt_eq_of_covers 7 _ (by decide +kernel) fun t _ y => ?_
  blk_simp
  rw [after0_7]
  exact qa_eq m c t y

/-- The second branch's queries. -/
theorem qb_at (t : Fin cfg0.N) (h : Fin 8) (d : Fin 64) (r : Fin 512) : qbBlock (k0_pay5 (F := Ideal) (iblk m c 0 t) (iblk m c 1 t)) (k0_pay65 (F := Ideal) (iblk m c 6 t)) (iblk m c 4 t) (ix4 0 h d r)
    = Cert.Reference3Ideal.Terms.resQB (aX m c) (aW m c) (aGQ m c) (ix4 (bat t) h d (row t r)) := by
  rw [Cert.Reference3Ideal.Terms.resQB_at, ← axial_eq, ← scale_named]
  refine Ideal.mul_congr (turnAxBy_congr d (fun k => ?_) (fun k => ?_) (fun k => ?_) (fun k => ?_) (fun k => ?_)) rfl
  · rw [← normBy_eq]
    have hh : ∀ k : Fin 64, (k0_pay5 (F := Ideal) (iblk m c 0 t) (iblk m c 1 t)) (ix2 ⟨640 + (64 * h.val + k.val), by omega⟩ r) = head (aX m c) (aW m c) 1280 (bat t) (row t r) h.val (by omega) k := fun k => by
      refine t_head m c t _ r 1280 h.val _ k ((colT_c _ (show 640 ≤ 640 + (64 * h.val + k.val) by omega) (show 640 + (64 * h.val + k.val) < 1152 by omega)).trans ?_)
      change 640 + (64 * h.val + k.val) + 640 = 1280 + (h.val * 64 + k.val)
      omega
    exact normBy_congr (hh k) hh (gq_at m c t k r)
  · exact (blk_tabt m c t _ r).trans (entry_2 k _)
  · exact (blk_tabt m c t _ r).trans (entry_3 k _)
  · exact (blk_tabt m c t _ r).trans (entry_4 k _)
  · exact (blk_tabt m c t _ r).trans (entry_5 k _)

theorem qb_eq (t : Fin cfg0.N) (y : S1x8x64x512.Idx) : (outsAt0 m c t).2.2.2.2.1 y = Cert.Reference3Ideal.Terms.resQB (aX m c) (aW m c) (aGQ m c) ((win0_11.blk t).view.emb y) := by
  idx_vars y
  obtain rfl : y0 = 0 := Subsingleton.elim _ _
  have e := (qb_block m c t (ix4 0 y1 y2 y3)).trans (qb_at m c t y1 y2 y3)
  refine e.trans ?_
  generalize Cert.Reference3Ideal.Terms.resQB (aX m c) (aW m c) (aGQ m c) = G
  refine congrArg G ?_
  blk_ext [idx t, bat, row]

theorem final_11 : (dats m 0 c).arrAt 11 (cfgs 0).N = Cert.Reference3Ideal.Terms.resQB (aX m c) (aW m c) (aGQ m c) := by
  refine (dats m 0 c).arrAt_eq_of_covers 11 _ (by decide +kernel) fun t _ y => ?_
  blk_simp
  rw [after0_11]
  exact qb_eq m c t y

end Cert.Kernel3Ideal.Final

end
-- ==== Proof.ProjTable.lean ====
/-
  The steps by which the projection call's host code lays out its row-major table, element by element, over the extended reals.
-/
module

public import proofs.«01_k».proof.Proof.ProjParts

@[expose] public section

set_option maxRecDepth 16384
set_option maxHeartbeats 20000000

noncomputable section

namespace Cert.Kernel3Ideal.Final

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- Which lanes lie in the first half of their group of 64, and of 32. -/
def maskA : IVec S1x128 1 := broadcastInDim S1x128 ![1] bcast_S128_S1x128_1 (fun i => lit0 (S128.rowMajor i) : IVec S128 1)
def maskB : IVec S1x128 1 := broadcastInDim S1x128 ![1] bcast_S128_S1x128_1 (fun i => lit1 (S128.rowMajor i) : IVec S128 1)

/-- The positions' angles over the two heads' lanes, and the rows' and columns'. -/
def spreadA (y : FVec Ideal S8192x32 .f32) : FVec Ideal S8192x128 .f32 :=
  shapeCast S8192x128 (broadcastInDim S1x8192x4x32 ![0, 1, 2, 3] bcast_S1x8192x1x32_S1x8192x4x32_0_1_2_3 (shapeCast S1x8192x1x32 y shapeCasts_S8192x32_S1x8192x1x32)) shapeCasts_S1x8192x4x32_S8192x128
def spreadB (p q : FVec Ideal S8192x16 .f32) : FVec Ideal S8192x128 .f32 :=
  shapeCast S8192x128 (broadcastInDim S1x8192x2x64 ![0, 1, 2, 3] bcast_S1x8192x1x64_S1x8192x2x64_0_1_2_3 (shapeCast S1x8192x1x64
    (concatenate S8192x64 1 [⟨S8192x16, p⟩, ⟨S8192x16, p⟩, ⟨S8192x16, q⟩, ⟨S8192x16, q⟩] concatenates_S8192x16_S8192x16_S8192x16_S8192x16_S8192x64_d1 : FVec Ideal S8192x64 .f32)
    shapeCasts_S8192x64_S1x8192x1x64)) shapeCasts_S1x8192x2x64_S8192x128
def zeros : FVec Ideal S8192x128 .f32 := broadcastInDim S8192x128 ![] bcast_S_S8192x128 (constant S_ .f32 0x00000000#32)
def masked (k : IVec S1x128 1) (x y : FVec Ideal S8192x128 .f32) : FVec Ideal S8192x128 .f32 := select (broadcastInDim S8192x128 ![0, 1] bcast_S1x128_S8192x128_0_1 k) x y

theorem maskA_at : ∀ j : Fin 128, maskA (ix2 0 j) = if j.val % 64 < 32 then 1#1 else 0#1 := by decide +kernel
theorem maskB_at : ∀ j : Fin 128, maskB (ix2 0 j) = if j.val % 32 < 16 then 1#1 else 0#1 := by decide +kernel

theorem spreadA_at (y : FVec Ideal S8192x32 .f32) (n : Fin 8192) (j : Fin 128) : spreadA y (ix2 n j) = y (ix2 n ⟨j.val % 32, by omega⟩) := by
  pointwise [spreadA]

/-- A lane's angle among the rows' and the columns'. -/
def pick (p q : FVec Ideal S8192x16 .f32) (n : Fin 8192) (k : Fin 64) : EReal :=
  if k.val < 32 then p (ix2 n ⟨k.val % 16, by omega⟩) else q (ix2 n ⟨k.val % 16, by omega⟩)

theorem spreadB_at (p q : FVec Ideal S8192x16 .f32) (n : Fin 8192) (j : Fin 128) : spreadB p q (ix2 n j) = pick p q n ⟨j.val % 64, by omega⟩ := by
  pointwise [spreadB, pick]
  split_ifs with h1 h2 h3 h4 h5 h6
  all_goals first
    | (exfalso; omega)
    | (rw [if_pos (show j.val % 64 < 32 by omega)]; exact congrArg p (ix2_congr rfl (by first | omega | (dsimp only; done) | (dsimp only; omega) | rfl)))
    | (rw [if_neg (show ¬ j.val % 64 < 32 by omega)]; exact congrArg q (ix2_congr rfl (by first | omega | (dsimp only; done) | (dsimp only; omega) | rfl)))
    | exact congrArg p (ix2_congr rfl (by first | omega | (dsimp only; done) | (dsimp only; omega) | rfl))
    | exact congrArg q (ix2_congr rfl (by first | omega | (dsimp only; done) | (dsimp only; omega) | rfl))

theorem masked_at (k : IVec S1x128 1) (x y : FVec Ideal S8192x128 .f32) (n : Fin 8192) (j : Fin 128) : masked k x y (ix2 n j) = if k (ix2 0 j) = 1#1 then x (ix2 n j) else y (ix2 n j) := by
  pointwise [masked]
  rfl

/-- Six arrays of 128 lanes beside one another. -/
def six (a b d e f g : FVec Ideal S8192x128 .f32) : FVec Ideal S8192x768 .f32 :=
  concatenate S8192x768 1 [⟨S8192x128, a⟩, ⟨S8192x128, b⟩, ⟨S8192x128, d⟩, ⟨S8192x128, e⟩, ⟨S8192x128, f⟩, ⟨S8192x128, g⟩]
    concatenates_S8192x128_S8192x128_S8192x128_S8192x128_S8192x128_S8192x128_S8192x768_d1

section Six

variable (a b d e f g : FVec Ideal S8192x128 .f32) (n : Fin 8192) (j : Fin 128)

/-- A lane of each. -/
theorem six_0 : six a b d e f g (ix2 n ⟨j.val, by omega⟩) = a (ix2 n j) := by
  pointwise [six]

theorem six_1 : six a b d e f g (ix2 n ⟨128 + j.val, by omega⟩) = b (ix2 n j) := by
  pointwise [six]

theorem six_2 : six a b d e f g (ix2 n ⟨256 + j.val, by omega⟩) = d (ix2 n j) := by
  pointwise [six]
  split_ifs <;> first | (exfalso; omega) | exact congrArg d (ix2_congr rfl (by first | omega | (dsimp only; omega)))

theorem six_3 : six a b d e f g (ix2 n ⟨384 + j.val, by omega⟩) = e (ix2 n j) := by
  pointwise [six]
  split_ifs <;> first | (exfalso; omega) | exact congrArg e (ix2_congr rfl (by first | omega | (dsimp only; omega)))

theorem six_4 : six a b d e f g (ix2 n ⟨512 + j.val, by omega⟩) = f (ix2 n j) := by
  pointwise [six]
  split_ifs <;> first | (exfalso; omega) | exact congrArg f (ix2_congr rfl (by first | omega | (dsimp only; omega)))

theorem six_5 : six a b d e f g (ix2 n ⟨640 + j.val, by omega⟩) = g (ix2 n j) := by
  pointwise [six]
  split_ifs <;> first | (exfalso; omega) | exact congrArg g (ix2_congr rfl (by first | omega | (dsimp only; omega)))

end Six

theorem neg_at (x : FVec Ideal S8192x128 .f32) (n : Fin 8192) (j : Fin 128) : (Host.negf x : FVec Ideal S8192x128 .f32) (ix2 n j) = -x (ix2 n j) := rfl

theorem zeros_at (n : Fin 8192) (j : Fin 128) : zeros (ix2 n j) = 0 := by
  pointwise [zeros]

/-- The lanes of a masked array, for each of the two masks. -/
theorem masked_a (x y : FVec Ideal S8192x128 .f32) (n : Fin 8192) (j : Fin 128) : masked maskA x y (ix2 n j) = if j.val % 64 < 32 then x (ix2 n j) else y (ix2 n j) := by
  rw [masked_at, maskA_at]
  by_cases h : j.val % 64 < 32
  · rw [if_pos h, if_pos h, if_pos rfl]
  · rw [if_neg h, if_neg h, if_neg (by decide)]

theorem masked_b (x y : FVec Ideal S8192x128 .f32) (n : Fin 8192) (j : Fin 128) : masked maskB x y (ix2 n j) = if j.val % 32 < 16 then x (ix2 n j) else y (ix2 n j) := by
  rw [masked_at, maskB_at]
  by_cases h : j.val % 32 < 16
  · rw [if_pos h, if_pos h, if_pos rfl]
  · rw [if_neg h, if_neg h, if_neg (by decide)]

end Cert.Kernel3Ideal.Final

end
-- ==== Proof.ProjTableParts.lean ====
/-
  The six parts of the projection call's row-major table.
-/
module

public import proofs.«01_k».proof.Proof.ProjTable

@[expose] public section

set_option maxRecDepth 16384
set_option maxHeartbeats 20000000

noncomputable section

namespace Cert.Kernel3Ideal.Final

open Cert.Kernel3Ideal Cert.Kernel3Ideal.Gen
open Idealize.ShloMosaic Idealize.ShloMosaic.TcCoe Idealize.SL.Sem
open Cert.Reference3Ideal.Terms (angle angleOf rowPos colPos)

variable (m : (ℓ : Loc nD τ sig) → Buf (Elt Ideal) ℓ) (c : Dev nD)

/-- The positions' cosines; their sines, negated in each head's first half and as they are in its second; the same of rows and columns. -/
theorem part_0 : (V m c main_v52 : FVec Ideal S8192x128 .f32) = spreadA (Host.cos angle) := rfl
theorem part_1 : (V m c main_v105 : FVec Ideal S8192x128 .f32) = masked maskA (Host.negf (spreadA (Host.sin angle))) zeros := by unfold maskA masked zeros spreadA; rfl
theorem part_2 : (V m c main_v106 : FVec Ideal S8192x128 .f32) = masked maskA zeros (spreadA (Host.sin angle)) := by unfold maskA masked zeros spreadA; rfl
theorem part_3 : (V m c main_v95 : FVec Ideal S8192x128 .f32) = spreadB (Host.cos (angleOf rowPos)) (Host.cos (angleOf colPos)) := rfl
theorem part_4 : (V m c main_v108 : FVec Ideal S8192x128 .f32) = masked maskB (Host.negf (spreadB (Host.sin (angleOf rowPos)) (Host.sin (angleOf colPos)))) zeros := by unfold maskB masked zeros spreadB; rfl
theorem part_5 : (V m c main_v109 : FVec Ideal S8192x128 .f32) = masked maskB zeros (spreadB (Host.sin (angleOf rowPos)) (Host.sin (angleOf colPos))) := by unfold maskB masked zeros spreadB; rfl

end Cert.Kernel3Ideal.Final

end
-- ==== Proof.ProjTableJoin.lean ====
/-
  The projection call's row-major table is its six parts beside one another.
-/
module

public import proofs.«01_k».proof.Proof.ProjTable

@[expose] public section

set_option maxRecDepth 16384

noncomputable section

namespace Cert.Kernel3Ideal.Final

open Cert.Kernel3Ideal Cert.Kernel3Ideal.Gen
open Idealize.ShloMosaic Idealize.ShloMosaic.TcCoe Idealize.SL.Sem
open Cert.Reference3Ideal.Terms (angle angleOf rowPos colPos)

variable (m : (ℓ : Loc nD τ sig) → Buf (Elt Ideal) ℓ) (c : Dev nD)

/-- The last of the host's stretches lays the six parts side by side, whatever the arrays before it. -/
theorem last_eq (σ : Valuation τ sig (Elt Ideal)) :
    (StableHlo.after (hostOps0_6 (F := Ideal)) σ (Proc.devRef .tc main_v110) : FVec Ideal S8192x768 .f32)
      = six (StableHlo.after (hostOps0_6 (F := Ideal)) σ (Proc.devRef .tc main_v52)) (StableHlo.after (hostOps0_6 (F := Ideal)) σ (Proc.devRef .tc main_v105)) (StableHlo.after (hostOps0_6 (F := Ideal)) σ (Proc.devRef .tc main_v106))
          (StableHlo.after (hostOps0_6 (F := Ideal)) σ (Proc.devRef .tc main_v95)) (StableHlo.after (hostOps0_6 (F := Ideal)) σ (Proc.devRef .tc main_v108)) (StableHlo.after (hostOps0_6 (F := Ideal)) σ (Proc.devRef .tc main_v109)) := by
  unfold six
  rfl

/-- A list of lists cut before its last. -/
theorem flatten_last {α : Type} (a0 a1 a2 a3 a4 a5 a6 : List α) :
    List.flatten [a0, a1, a2, a3, a4, a5, a6] = List.flatten [a0, a1, a2, a3, a4, a5] ++ a6 := by
  simp only [List.flatten_cons, List.flatten_nil, List.append_nil, List.append_assoc]

/-- Equal parts make equal tables. -/
theorem six_congr {a b d e f g a' b' d' e' f' g' : FVec Ideal S8192x128 .f32} (ha : a = a') (hb : b = b') (hd : d = d') (he : e = e') (hf : f = f') (hg : g = g') :
    six a b d e f g = six a' b' d' e' f' g' := by rw [ha, hb, hd, he, hf, hg]

/-- An array as the last stretch leaves it. -/
theorem v_last (b : Ref sig .tc) : V m c b = StableHlo.after (hostOps0_6 (F := Ideal)) (StableHlo.after (List.flatten [hostOps0 (F := Ideal), hostOps0_1, hostOps0_2, hostOps0_3, hostOps0_4, hostOps0_5]) (fun b => m (c, b))) (Proc.devRef .tc b) :=
  (congrArg (fun l => StableHlo.after l (fun b => m (c, b)) (Proc.devRef .tc b)) (flatten_last hostOps0 hostOps0_1 hostOps0_2 hostOps0_3 hostOps0_4 hostOps0_5 hostOps0_6)).trans
    (congrFun (StableHlo.after_append _ _ _) _)

theorem table_s : (V m c main_v110 : FVec Ideal S8192x768 .f32) = six (V m c main_v52) (V m c main_v105) (V m c main_v106) (V m c main_v95) (V m c main_v108) (V m c main_v109) :=
  ((v_last m c main_v110).trans (last_eq _)).trans (six_congr (v_last m c main_v52).symm (v_last m c main_v105).symm (v_last m c main_v106).symm (v_last m c main_v95).symm (v_last m c main_v108).symm (v_last m c main_v109).symm)

end Cert.Kernel3Ideal.Final

end
-- ==== Proof.ProjTab.lean ====
/-
  The projection call's row-major table, lane by lane, over the extended reals.
-/
module

public import proofs.«01_k».proof.Proof.ProjTableParts
public import proofs.«01_k».proof.Proof.ProjTableJoin

@[expose] public section

set_option maxRecDepth 16384

noncomputable section

namespace Cert.Kernel3Ideal.Final

open Cert.Kernel3Ideal Cert.Kernel3Ideal.Gen
open Idealize.ShloMosaic Idealize.ShloMosaic.TcCoe Idealize.SL.Sem
open Cert.Reference3Ideal.Terms (angle angleOf rowPos colPos)

variable (m : (ℓ : Loc nD τ sig) → Buf (Elt Ideal) ℓ) (c : Dev nD)

/-- A lane of the positions' cosines and of their masked sines. -/
theorem tab_0 (n : Fin 8192) (j : Fin 128) : (V m c main_v110 : FVec Ideal S8192x768 .f32) (ix2 n ⟨j.val, by omega⟩) = Ideal.cos (angle (ix2 n ⟨j.val % 32, by omega⟩)) :=
  (congrFun (table_s m c) _).trans ((six_0 _ _ _ _ _ _ n j).trans ((congrFun (part_0 m c) _).trans (spreadA_at _ n j)))

theorem tab_1 (n : Fin 8192) (j : Fin 128) : (V m c main_v110 : FVec Ideal S8192x768 .f32) (ix2 n ⟨128 + j.val, by omega⟩) = if j.val % 64 < 32 then -Ideal.sin (angle (ix2 n ⟨j.val % 32, by omega⟩)) else 0 := by
  refine (congrFun (table_s m c) _).trans ((six_1 _ _ _ _ _ _ n j).trans ((congrFun (part_1 m c) _).trans ((masked_a _ _ n j).trans ?_)))
  rw [neg_at, spreadA_at, zeros_at]; rfl

theorem tab_2 (n : Fin 8192) (j : Fin 128) : (V m c main_v110 : FVec Ideal S8192x768 .f32) (ix2 n ⟨256 + j.val, by omega⟩) = if j.val % 64 < 32 then 0 else Ideal.sin (angle (ix2 n ⟨j.val % 32, by omega⟩)) := by
  refine (congrFun (table_s m c) _).trans ((six_2 _ _ _ _ _ _ n j).trans ((congrFun (part_2 m c) _).trans ((masked_a _ _ n j).trans ?_)))
  rw [spreadA_at, zeros_at]; rfl

/-- A lane of the rows' and columns' cosines and of their masked sines. -/
theorem tab_3 (n : Fin 8192) (j : Fin 128) : (V m c main_v110 : FVec Ideal S8192x768 .f32) (ix2 n ⟨384 + j.val, by omega⟩)
    = if j.val % 64 < 32 then Ideal.cos (angleOf rowPos (ix2 n ⟨j.val % 64 % 16, by omega⟩)) else Ideal.cos (angleOf colPos (ix2 n ⟨j.val % 64 % 16, by omega⟩)) :=
  (congrFun (table_s m c) _).trans ((six_3 _ _ _ _ _ _ n j).trans ((congrFun (part_3 m c) _).trans (spreadB_at _ _ n j)))

theorem tab_4 (n : Fin 8192) (j : Fin 128) : (V m c main_v110 : FVec Ideal S8192x768 .f32) (ix2 n ⟨512 + j.val, by omega⟩)
    = if j.val % 32 < 16 then -(if j.val % 64 < 32 then Ideal.sin (angleOf rowPos (ix2 n ⟨j.val % 64 % 16, by omega⟩)) else Ideal.sin (angleOf colPos (ix2 n ⟨j.val % 64 % 16, by omega⟩))) else 0 := by
  refine (congrFun (table_s m c) _).trans ((six_4 _ _ _ _ _ _ n j).trans ((congrFun (part_4 m c) _).trans ((masked_b _ _ n j).trans ?_)))
  rw [neg_at, spreadB_at, zeros_at]; rfl

theorem tab_5 (n : Fin 8192) (j : Fin 128) : (V m c main_v110 : FVec Ideal S8192x768 .f32) (ix2 n ⟨640 + j.val, by omega⟩)
    = if j.val % 32 < 16 then 0 else (if j.val % 64 < 32 then Ideal.sin (angleOf rowPos (ix2 n ⟨j.val % 64 % 16, by omega⟩)) else Ideal.sin (angleOf colPos (ix2 n ⟨j.val % 64 % 16, by omega⟩))) := by
  refine (congrFun (table_s m c) _).trans ((six_5 _ _ _ _ _ _ n j).trans ((congrFun (part_5 m c) _).trans ((masked_b _ _ n j).trans ?_)))
  rw [spreadB_at, zeros_at]; rfl

end Cert.Kernel3Ideal.Final

end
-- ==== Proof.ProjOutK.lean ====
/-
  The projection call's keys are the reference's.
-/
module

public import proofs.«01_k».proof.Proof.ProjHeads
public import proofs.«01_k».proof.Proof.ProjRows
public import proofs.«01_k».proof.Proof.ProjTab

@[expose] public section

set_option maxRecDepth 16384
set_option maxHeartbeats 20000000

noncomputable section

namespace Cert.Kernel3Ideal.Final

open Cert.Kernel3Ideal Cert.Kernel3Ideal.Gen
open Idealize.ShloMosaic Idealize.ShloMosaic.TcCoe Idealize.SL.Sem
open Cert.Reference3Ideal.Terms (angle angleOf rowPos colPos projected head scale2 turn turnAxial normed)

variable (m : (ℓ : Loc nD τ sig) → Buf (Elt Ideal) ℓ) (c : Dev nD)

/-- The first branch's keys. -/
theorem ka_at (t : Fin cfg0.N) (h : Fin 2) (r : Fin 512) (d : Fin 64) (j : Fin 128) (hj : j.val = 64 * h.val + d.val) : kaBlock (iblk m c 0 t) (iblk m c 2 t) (iblk m c 3 t) r j
    = Cert.Reference3Ideal.Terms.resKA (aX m c) (aW m c) (ix4 (bat t) h (row t r) d) := by
  rw [Cert.Reference3Ideal.Terms.resKA_at]
  have h2 : j.val % 64 = d.val := by omega
  have h3 : j.val % 32 = d.val % 32 := by omega
  have t0 := (blk_tab m c t r _).trans (tab_0 m c (row t r) j)
  have t1 := (blk_tab m c t r _).trans (tab_1 m c (row t r) j)
  have t2 := (blk_tab m c t r _).trans (tab_2 m c (row t r) j)
  simp only [h2, h3] at t0 t1 t2
  refine rolled_turn _ _ d ?_ (fun g => ?_) (fun g => ?_) t0 t1 t2
  · refine s_head m c t r _ 512 h.val _ d ((colS_a _ (show j.val < 128 by omega)).trans ?_)
    change 512 + j.val = 512 + (h.val * 64 + d.val)
    omega
  · refine s_head m c t r _ 512 h.val _ _ ((colS_a _ (show (j.val + 128 - 96) % 128 < 128 by omega)).trans ?_)
    change 512 + (j.val + 128 - 96) % 128 = 512 + (h.val * 64 + (32 + d.val))
    omega
  · refine s_head m c t r _ 512 h.val _ _ ((colS_a _ (show (j.val + 128 - 32) % 128 < 128 by omega)).trans ?_)
    change 512 + (j.val + 128 - 32) % 128 = 512 + (h.val * 64 + (d.val - 32))
    omega

theorem ka_eq (t : Fin cfg0.N) (y : S1x2x512x64.Idx) : (outsAt0 m c t).2.1 y = Cert.Reference3Ideal.Terms.resKA (aX m c) (aW m c) ((win0_8.blk t).view.emb y) := by
  idx_vars y
  obtain rfl : y0 = 0 := Subsingleton.elim _ _
  have e := (ka_block m c t (ix4 0 y1 y2 y3)).trans (ka_at m c t y1 y2 y3 _ rfl)
  refine e.trans ?_
  generalize Cert.Reference3Ideal.Terms.resKA (aX m c) (aW m c) = G
  refine congrArg G ?_
  blk_ext [idx t, bat, row]

theorem final_8 : (dats m 0 c).arrAt 8 (cfgs 0).N = Cert.Reference3Ideal.Terms.resKA (aX m c) (aW m c) := by
  refine (dats m 0 c).arrAt_eq_of_covers 8 _ (by decide +kernel) fun t _ y => ?_
  blk_simp
  rw [after0_8]
  exact ka_eq m c t y

/-- A lane of the normed keys. -/
theorem kb_normed (t : Fin cfg0.N) (h : Fin 2) (r : Fin 512) (d : Fin 64) (j : Fin 128) (hj : j.val = 64 * h.val + d.val) : kbNorm (iblk m c 0 t) (iblk m c 2 t) (iblk m c 5 t) r j
    = normed (head (aX m c) (aW m c) 1792 (bat t) (row t r) h.val (by omega)) (fun k => aGK m c (ix2 0 k)) d := by
  rw [← normBy_eq]
  refine normBy_congr ?_ (fun k => ?_) ((blk_gk m c t j).trans (congrArg (fun k => aGK m c (ix2 0 k)) (Fin.ext (show j.val % 64 = d.val by omega))))
  · refine s_head m c t r _ 1792 h.val _ d ((colS_b _ (show 128 ≤ 128 + j.val by omega) (show 128 + j.val < 256 by omega)).trans ?_)
    change 128 + j.val + 1664 = 1792 + (h.val * 64 + d.val)
    omega
  · refine s_head m c t r _ 1792 h.val _ k ((colS_b _ (show 128 ≤ 128 + (j.val / 64 * 64 + k.val) by omega) (show 128 + (j.val / 64 * 64 + k.val) < 256 by omega)).trans ?_)
    change 128 + (j.val / 64 * 64 + k.val) + 1664 = 1792 + (h.val * 64 + k.val)
    omega

/-- The second branch's keys. -/
theorem kb_at (t : Fin cfg0.N) (h : Fin 2) (r : Fin 512) (d : Fin 64) (j : Fin 128) (hj : j.val = 64 * h.val + d.val) : kbBlock (iblk m c 0 t) (iblk m c 2 t) (iblk m c 3 t) (iblk m c 5 t) r j
    = Cert.Reference3Ideal.Terms.resKB (aX m c) (aW m c) (aGK m c) (ix4 (bat t) h (row t r) d) := by
  rw [Cert.Reference3Ideal.Terms.resKB_at]
  have h2 : j.val % 64 = d.val := by omega
  have h3 : j.val % 32 = d.val % 32 := by omega
  have t3 := (blk_tab m c t r _).trans (tab_3 m c (row t r) j)
  have t4 := (blk_tab m c t r _).trans (tab_4 m c (row t r) j)
  have t5 := (blk_tab m c t r _).trans (tab_5 m c (row t r) j)
  simp only [h2, h3] at t3 t4 t5
  refine rolled_axial _ _ _ d (kb_normed m c t h r d j hj) (fun g => ?_) (fun g => ?_) t3 t4 t5
  · exact kb_normed m c t h r _ _ (show (j.val + 128 - 112) % 128 = 64 * h.val + (16 + d.val) by omega)
  · exact kb_normed m c t h r _ _ (show (j.val + 128 - 16) % 128 = 64 * h.val + (d.val - 16) by omega)

theorem kb_eq (t : Fin cfg0.N) (y : S1x2x512x64.Idx) : (outsAt0 m c t).2.2.2.2.2.1 y = Cert.Reference3Ideal.Terms.resKB (aX m c) (aW m c) (aGK m c) ((win0_12.blk t).view.emb y) := by
  idx_vars y
  obtain rfl : y0 = 0 := Subsingleton.elim _ _
  have e := (kb_block m c t (ix4 0 y1 y2 y3)).trans (kb_at m c t y1 y2 y3 _ rfl)
  refine e.trans ?_
  generalize Cert.Reference3Ideal.Terms.resKB (aX m c) (aW m c) (aGK m c) = G
  refine congrArg G ?_
  blk_ext [idx t, bat, row]

theorem final_12 : (dats m 0 c).arrAt 12 (cfgs 0).N = Cert.Reference3Ideal.Terms.resKB (aX m c) (aW m c) (aGK m c) := by
  refine (dats m 0 c).arrAt_eq_of_covers 12 _ (by decide +kernel) fun t _ y => ?_
  blk_simp
  rw [after0_12]
  exact kb_eq m c t y

end Cert.Kernel3Ideal.Final

end
-- ==== Proof.ProjRun.lean ====
/-
  The projection call's reference leaves its nine results, named term by term.
-/
module

public import proofs.«01_k».proof.Proof.ProjRef
public import proofs.«01_k».proof.Proof.Gen.Reference3Ideal.Run

@[expose] public section

set_option maxRecDepth 16384
set_option maxHeartbeats 4000000

noncomputable section

namespace Cert.Reference3Ideal.Terms

open Cert.Reference3Ideal Cert.Reference3Ideal.Gen Cert.Reference3Ideal.Value
open Idealize.ShloMosaic Idealize.ShloMosaic.TcCoe
open Idealize.SL.Sem

/-- The reference's run, its results the named terms of its arguments. -/
theorem run_terms (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = resQA (m ((c.tc : Thread nD τ).loc main_arg0)) (m ((c.tc : Thread nD τ).loc main_arg1))
      ∧ r.2.mem ((c.tc : Thread nD τ).loc main_v88) = resKA (m ((c.tc : Thread nD τ).loc main_arg0)) (m ((c.tc : Thread nD τ).loc main_arg1))
      ∧ r.2.mem ((c.tc : Thread nD τ).loc main_v94) = resVA (m ((c.tc : Thread nD τ).loc main_arg0)) (m ((c.tc : Thread nD τ).loc main_arg1))
      ∧ r.2.mem ((c.tc : Thread nD τ).loc main_v5) = resZA (m ((c.tc : Thread nD τ).loc main_arg0)) (m ((c.tc : Thread nD τ).loc main_arg1))
      ∧ r.2.mem ((c.tc : Thread nD τ).loc main_v190) = resQB (m ((c.tc : Thread nD τ).loc main_arg0)) (m ((c.tc : Thread nD τ).loc main_arg1)) (m ((c.tc : Thread nD τ).loc main_arg2))
      ∧ r.2.mem ((c.tc : Thread nD τ).loc main_v284) = resKB (m ((c.tc : Thread nD τ).loc main_arg0)) (m ((c.tc : Thread nD τ).loc main_arg1)) (m ((c.tc : Thread nD τ).loc main_arg3))
      ∧ r.2.mem ((c.tc : Thread nD τ).loc main_v290) = resVB (m ((c.tc : Thread nD τ).loc main_arg0)) (m ((c.tc : Thread nD τ).loc main_arg1))
      ∧ r.2.mem ((c.tc : Thread nD τ).loc main_v9) = resZB (m ((c.tc : Thread nD τ).loc main_arg0)) (m ((c.tc : Thread nD τ).loc main_arg1))
      ∧ r.2.mem ((c.tc : Thread nD τ).loc main_v10) = resG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference3Ideal.Value.run (F := Ideal) m ρ)
  obtain ⟨h0, h1, h2, h3, h4, h5, h6, h7, h8, f⟩ := h c
  refine ⟨?_, ?_, ?_, ?_, ?_, ?_, ?_, ?_, ?_, f⟩
  · exact h0.trans rfl
  · exact h1.trans rfl
  · exact h2.trans rfl
  · exact h3.trans rfl
  · exact h4.trans rfl
  · exact h5.trans rfl
  · exact h6.trans rfl
  · exact h7.trans rfl
  · exact h8.trans rfl

end Cert.Reference3Ideal.Terms

end
-- ==== Proof.lean ====
/-
  The claim, assembled.
-/
module

public import proofs.«01_k».proof.Defs
public import proofs.«01_k».proof.Proof.Frames
public import proofs.«01_k».proof.Proof.Value
public import proofs.«01_k».proof.Proof.Gen.Kernel2.Frame
public import proofs.«01_k».proof.Proof.OutValue
public import proofs.«01_k».proof.Proof.Gen.Kernel3.Frame
public import proofs.«01_k».proof.Proof.ProjDense
public import proofs.«01_k».proof.Proof.ProjOutQ
public import proofs.«01_k».proof.Proof.ProjOutK
public import proofs.«01_k».proof.Proof.ProjRun

@[expose] public section

set_option maxRecDepth 16384

noncomputable section

namespace Cert.Proof

open Idealize.ShloMosaic Idealize.ShloMosaic.TcCoe Idealize.SL.Sem

/-- From equal arguments, the queries, keys and meta keys finite, the kernel's result is the reference's. -/
theorem equal : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hpre hagree
  refine ⟨fun c => Cert.ReferenceIdeal.Value.res_main_v27 m' c, ?_, ?_⟩
  · refine (θ_run Cert.KernelIdeal.defs _ _).mono ?_ (θ_run_and (Cert.KernelIdeal.Run.run_main m g) (Cert.KernelIdeal.Run.frame m g))
    rintro r ⟨h, hf, -⟩ c
    refine ⟨?_, hf c⟩
    obtain ⟨e0, e1, e2, e3, e4, e5⟩ := hagree c
    refine ((h c).1 7).trans ((Cert.KernelIdeal.Final.final m c hpre).trans ?_)
    refine Eq.trans ?_ (Cert.ReferenceIdeal.Terms.res_eq m' c).symm
    rw [e0, e1, e2, e3, e4, e5]
  · exact Cert.ReferenceIdeal.Value.run (F := Ideal) m' g'

/-- The output call's kernel at machine words. -/
theorem frame_kernel2 : Cert.quiescent_Kernel2 (hKernel2 := Cert.Kernel2.Gen.facts) := fun m ρ _ =>
  Cert.Kernel2.Gen.frame (F := Bits) m ρ

/-- The same over the extended reals. -/
theorem frame_kernel2Ideal : Cert.quiescent_Kernel2Ideal (hKernel2Ideal := Cert.Kernel2Ideal.Gen.facts) := fun m ρ _ =>
  Cert.Kernel2Ideal.Gen.frame (F := Ideal) m ρ

/-- The output call's reference runs host operations only and declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- From equal arguments, the output call's result is its reference's. -/
theorem equal2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Reference2Ideal.Value.res_main_v53 m' c, ?_, ?_⟩
  · refine (θ_run Cert.Kernel2Ideal.defs _ _).mono ?_ (θ_run_and (Cert.Kernel2Ideal.Gen.run_main m g) (Cert.Kernel2Ideal.Gen.frame m g))
    rintro r ⟨h, hf, -⟩ c
    refine ⟨?_, hf c⟩
    obtain ⟨e0, e1, e2, e3, e4, e5, e6, e7, e8⟩ := hagree c
    refine ((h c).1 8).trans ((Cert.Kernel2Ideal.Final.final m c).trans ?_)
    refine Eq.trans ?_ (Cert.Reference2Ideal.Terms.res_eq m' c).symm
    rw [e0, e1, e2, e3, e4, e5, e6, e7, e8]
  · exact Cert.Reference2Ideal.Value.run (F := Ideal) m' g'

/-- The projection call's kernel at machine words. -/
theorem frame_kernel3 : Cert.quiescent_Kernel3 (hKernel3 := Cert.Kernel3.Gen.facts) := fun m ρ _ =>
  Cert.Kernel3.Gen.frame (F := Bits) m ρ

/-- The same over the extended reals. -/
theorem frame_kernel3Ideal : Cert.quiescent_Kernel3Ideal (hKernel3Ideal := Cert.Kernel3Ideal.Gen.facts) := fun m ρ _ =>
  Cert.Kernel3Ideal.Gen.frame (F := Ideal) m ρ

/-- The projection call's reference runs host operations only and declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

/-- The queries' scale names an eighth over the logarithm of two. -/
theorem preserves3 : Cert.preserves_Kernel3_Kernel3Ideal :=
  IdealRules.named_const.statement Cert.Kernel3Ideal.κ "qscale" .f32 0x3E38AA3B#32 (((1 / 8) * (Real.log 2)⁻¹ : ℝ) : EReal) rfl

/-- Equal arguments make equal values. -/
theorem two_congr {α β γ : Type} (f : α → β → γ) {a a' : α} {b b' : β} (ha : a' = a) (hb : b' = b) : f a b = f a' b' := by rw [ha, hb]
theorem three_congr {α β δ γ : Type} (f : α → β → δ → γ) {a a' : α} {b b' : β} {d d' : δ} (ha : a' = a) (hb : b' = b) (hd : d' = d) : f a b d = f a' b' d' := by rw [ha, hb, hd]

set_option maxHeartbeats 4000000 in
/-- From equal arguments, the projection call's nine results are its reference's. -/
theorem equal3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Reference3Ideal.Terms.resQA (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)),
    fun c => Cert.Reference3Ideal.Terms.resKA (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)),
    fun c => Cert.Reference3Ideal.Terms.resVA (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)),
    fun c => Cert.Reference3Ideal.Terms.resZA (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)),
    fun c => Cert.Reference3Ideal.Terms.resQB (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)),
    fun c => Cert.Reference3Ideal.Terms.resKB (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)),
    fun c => Cert.Reference3Ideal.Terms.resVB (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)),
    fun c => Cert.Reference3Ideal.Terms.resZB (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)),
    fun c => Cert.Reference3Ideal.Terms.resG (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)), ?_, ?_⟩
  · refine (θ_run Cert.Kernel3Ideal.defs _ _).mono ?_ (θ_run_and (Cert.Kernel3Ideal.Gen.run_main m g) (Cert.Kernel3Ideal.Gen.frame m g))
    rintro r ⟨h, hf, -⟩ c
    obtain ⟨e0, e1, e2, e3⟩ := hagree c
    refine ⟨?_, ?_, ?_, ?_, ?_, ?_, ?_, ?_, ?_, hf c⟩
    · exact ((h c).1 7).trans ((Cert.Kernel3Ideal.Final.final_7 m c).trans (two_congr Cert.Reference3Ideal.Terms.resQA e0 e1))
    · exact ((h c).1 8).trans ((Cert.Kernel3Ideal.Final.final_8 m c).trans (two_congr Cert.Reference3Ideal.Terms.resKA e0 e1))
    · exact ((h c).1 9).trans ((Cert.Kernel3Ideal.Final.final_9 m c).trans (two_congr Cert.Reference3Ideal.Terms.resVA e0 e1))
    · exact ((h c).1 10).trans ((Cert.Kernel3Ideal.Final.final_10 m c).trans (two_congr Cert.Reference3Ideal.Terms.resZA e0 e1))
    · exact ((h c).1 11).trans ((Cert.Kernel3Ideal.Final.final_11 m c).trans (three_congr Cert.Reference3Ideal.Terms.resQB e0 e1 e2))
    · exact ((h c).1 12).trans ((Cert.Kernel3Ideal.Final.final_12 m c).trans (three_congr Cert.Reference3Ideal.Terms.resKB e0 e1 e3))
    · exact ((h c).1 13).trans ((Cert.Kernel3Ideal.Final.final_13 m c).trans (two_congr Cert.Reference3Ideal.Terms.resVB e0 e1))
    · exact ((h c).1 14).trans ((Cert.Kernel3Ideal.Final.final_14 m c).trans (two_congr Cert.Reference3Ideal.Terms.resZB e0 e1))
    · exact ((h c).1 15).trans ((Cert.Kernel3Ideal.Final.final_15 m c).trans (two_congr Cert.Reference3Ideal.Terms.resG e0 e1))
  · exact Cert.Reference3Ideal.Terms.run_terms m' g'

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, pre_facts,
  frame_kernel, frame_kernelIdeal, fun m g _ => frame_kernelIdeal m g trivial, frame_reference,
  fun m g _ => frame_reference m g trivial, frame_kernel2, frame_kernel2Ideal, frame_reference2,
  frame_kernel3, frame_kernel3Ideal, frame_reference3,
  trivial, equal, trivial, equal2, preserves3, equal3⟩

end Cert.Proof

end
